-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_two_equally_far [hPre_no_two_equally_far : Cert.Pre_no_two_equally_far.Facts] (m : (ℓ : Loc Cert.KernelIdeal.nD Cert.KernelIdeal.τ Cert.KernelIdeal.sig) → Buf (Elt Ideal) ℓ) : Prop :=
  ∀ c : Dev Cert.KernelIdeal.nD,
    (Cert.Pre_no_two_equally_far.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_two_equally_far [hPre_no_two_equally_far : Cert.Pre_no_two_equally_far.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_two_equally_far.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_no_two_equally_far [hKernelIdeal : Cert.KernelIdeal.Facts] [hPre_no_two_equally_far : Cert.Pre_no_two_equally_far.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_two_equally_far m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_no_two_equally_far [hReferenceIdeal : Cert.ReferenceIdeal.Facts] [hPre_no_two_equally_far : Cert.Pre_no_two_equally_far.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_two_equally_far m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_no_two_equally_far [hKernelIdeal : Cert.KernelIdeal.Facts] [hReferenceIdeal : Cert.ReferenceIdeal.Facts] [hPre_no_two_equally_far : Cert.Pre_no_two_equally_far.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_two_equally_far m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_no_two_equally_far : Cert.Pre_no_two_equally_far.Facts),
    quiescent_Kernel (hKernel := hKernel)
    ∧ quiescent_KernelIdeal (hKernelIdeal := hKernelIdeal)
    ∧ quiescent_KernelIdeal_pre_no_two_equally_far (hKernelIdeal := hKernelIdeal) (hPre_no_two_equally_far := hPre_no_two_equally_far)
    ∧ quiescent_ReferenceIdeal (hReferenceIdeal := hReferenceIdeal)
    ∧ quiescent_ReferenceIdeal_pre_no_two_equally_far (hReferenceIdeal := hReferenceIdeal) (hPre_no_two_equally_far := hPre_no_two_equally_far)
    ∧ preserves_Kernel_KernelIdeal
    ∧ algebraic_KernelIdeal_ReferenceIdeal_pre_no_two_equally_far (hKernelIdeal := hKernelIdeal) (hReferenceIdeal := hReferenceIdeal) (hPre_no_two_equally_far := hPre_no_two_equally_far)
-- ==== Pre_no_two_equally_far.lean ====
abbrev S8x2048x128 : Shape := ⟨3, ![8, 2048, 128]⟩
abbrev S_ : Shape := ⟨0, ![]⟩
abbrev S8x2048 : Shape := ⟨2, ![8, 2048]⟩
abbrev S8x2048x1 : Shape := ⟨3, ![8, 2048, 1]⟩
abbrev S8x1x2048 : Shape := ⟨3, ![8, 1, 2048]⟩
abbrev S8x2048x2048 : Shape := ⟨3, ![8, 2048, 2048]⟩
abbrev S8x128x2048 : Shape := ⟨3, ![8, 128, 2048]⟩
abbrev S8x2048x2047 : Shape := ⟨3, ![8, 2048, 2047]⟩

class Facts : Prop where
  reducesTo_S8x2048x128_S8x2048_d2 : S8x2048x128.ReducesTo [2] S8x2048
  h_S_ : 0 < S_.numel
  bcast_S8x2048_S8x2048x1_0_1 : S8x2048.BroadcastsInDim S8x2048x1 (![0, 1] : Fin 2 → Fin S8x2048x1.rank)
  transposes_S8x2048x1_S8x1x2048_0_2_1 : S8x2048x1.Transposes [0, 2, 1] S8x1x2048
  bcast_S8x2048x1_S8x2048x2048_0_1_2 : S8x2048x1.BroadcastsInDim S8x2048x2048 (![0, 1, 2] : Fin 3 → Fin S8x2048x2048.rank)
  bcast_S8x1x2048_S8x2048x2048_0_1_2 : S8x1x2048.BroadcastsInDim S8x2048x2048 (![0, 1, 2] : Fin 3 → Fin S8x2048x2048.rank)
  transposes_S8x2048x128_S8x128x2048_0_2_1 : S8x2048x128.Transposes [0, 2, 1] S8x128x2048
  bcast_S_S8x2048x2048 : S_.BroadcastsInDim S8x2048x2048 (![] : Fin 0 → Fin S8x2048x2048.rank)
  slices_S8x2048x2048_S8x2048x2047_0_0_0 : S8x2048x2048.Slices ![0, 0, 0] S8x2048x2047
  slices_S8x2048x2048_S8x2048x2047_0_0_1 : S8x2048x2048.Slices ![0, 0, 1] S8x2048x2047
  dot_S8x2048x128_S8x128x2048_S8x2048x2048_2_1_1_2_0_0_wf : DotDims.WF S8x2048x128 S8x128x2048 S8x2048x2048 [2] [1] [1] [2] [0] [0]

variable [Facts]

variable {F : FTy → Type} [FloatOps F]
def dot_S8x2048x128_S8x128x2048_S8x2048x2048_2_1_1_2_0_0 : DotDims S8x2048x128 S8x128x2048 S8x2048x2048 where
  lhsContracting := [2]
  rhsContracting := [1]
  lhsNonContracting := [1]
  rhsNonContracting := [2]
  lhsBatch := [0]
  rhsBatch := [0]
  wf := dot_S8x2048x128_S8x128x2048_S8x2048x2048_2_1_1_2_0_0_wf
def comparator_f32_d2 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9

def fn_sort {F : FTy → Type} [FloatOps F] (arg0 : FVec F S8x2048x2048 .f32) : FVec F S8x2048x2048 .f32 :=
  let v0 : FVec F S8x2048x2048 .f32 := (fun x => Host.sort S8x2048x2048 2 comparator_f32_d2 x) arg0
  v0

def fn {F : FTy → Type} [FloatOps F] (main_arg0 : FVec F S8x2048x128 .f32) : IVec S8x2048x2047 1 :=
  let main_v0 : FVec F S8x2048x128 .f32 := mulf main_arg0 main_arg0
  let main_cst : FVec F S_ .f32 := constant S_ .f32 0x00000000#32
  let main_v1 : FVec F S8x2048 .f32 := (fun x v => Host.reduceAdd x v reducesTo_S8x2048x128_S8x2048_d2 h_S_) main_v0 main_cst
  let main_v2 : FVec F S8x2048x1 .f32 := broadcastInDim S8x2048x1 ![0, 1] bcast_S8x2048_S8x2048x1_0_1 main_v1
  let main_v3 : FVec F S8x1x2048 .f32 := (transpose S8x1x2048 [0, 2, 1] · transposes_S8x2048x1_S8x1x2048_0_2_1) main_v2
  let main_v4 : FVec F S8x2048x2048 .f32 := broadcastInDim S8x2048x2048 ![0, 1, 2] bcast_S8x2048x1_S8x2048x2048_0_1_2 main_v2
  let main_v5 : FVec F S8x2048x2048 .f32 := broadcastInDim S8x2048x2048 ![0, 1, 2] bcast_S8x1x2048_S8x2048x2048_0_1_2 main_v3
  let main_v6 : FVec F S8x2048x2048 .f32 := addf main_v4 main_v5
  let main_v7 : FVec F S8x128x2048 .f32 := (transpose S8x128x2048 [0, 2, 1] · transposes_S8x2048x128_S8x128x2048_0_2_1) main_arg0
  let main_v8 : FVec F S8x2048x2048 .f32 := (fun l r => Host.dotGeneral dot_S8x2048x128_S8x128x2048_S8x2048x2048_2_1_1_2_0_0 none l r) main_arg0 main_v7
  let main_cst_0 : FVec F S_ .f32 := constant S_ .f32 0x40000000#32
  let main_v9 : FVec F S8x2048x2048 .f32 := broadcastInDim S8x2048x2048 ![] bcast_S_S8x2048x2048 main_cst_0
  let main_v10 : FVec F S8x2048x2048 .f32 := mulf main_v9 main_v8
  let main_v11 : FVec F S8x2048x2048 .f32 := subf main_v6 main_v10
  let main_v12 : FVec F S8x2048x2048 .f32 := fn_sort (F := F) main_v11
  let main_v13 : FVec F S8x2048x2047 .f32 := (extractStridedSlice S8x2048x2047 ![0, 0, 0] · slices_S8x2048x2048_S8x2048x2047_0_0_0) main_v12
  let main_v14 : FVec F S8x2048x2047 .f32 := (extractStridedSlice S8x2048x2047 ![0, 0, 1] · slices_S8x2048x2048_S8x2048x2047_0_0_1) main_v12
  let main_v15 : IVec S8x2048x2047 1 := cmpf .olt main_v13 main_v14
  main_v15
-- ==== Kernel.lean ====
abbrev S8x2048x128 : Shape := ⟨3, ![8, 2048, 128]⟩
abbrev S2x8x2048x16 : Shape := ⟨4, ![2, 8, 2048, 16]⟩
abbrev S1x1024x128 : Shape := ⟨3, ![1, 1024, 128]⟩
abbrev S1x2048x128 : Shape := ⟨3, ![1, 2048, 128]⟩
abbrev S2x1x1024x16 : Shape := ⟨4, ![2, 1, 1024, 16]⟩
abbrev S2048x1024 : Shape := ⟨2, ![2048, 1024]⟩
abbrev S2048x128 : Shape := ⟨2, ![2048, 128]⟩
abbrev S1024x128 : Shape := ⟨2, ![1024, 128]⟩
abbrev S2048 : Shape := ⟨1, ![2048]⟩
abbrev S2048x1 : Shape := ⟨2, ![2048, 1]⟩
abbrev S16x16x8x1024 : Shape := ⟨4, ![16, 16, 8, 1024]⟩
abbrev S16x8x1024 : Shape := ⟨3, ![16, 8, 1024]⟩
abbrev S16x1x8x1024 : Shape := ⟨4, ![16, 1, 8, 1024]⟩
abbrev S8x2x8x1024 : Shape := ⟨4, ![8, 2, 8, 1024]⟩
abbrev S8x1x8x1024 : Shape := ⟨4, ![8, 1, 8, 1024]⟩
abbrev S8x8x1024 : Shape := ⟨3, ![8, 8, 1024]⟩
abbrev S4x2x8x1024 : Shape := ⟨4, ![4, 2, 8, 1024]⟩
abbrev S4x1x8x1024 : Shape := ⟨4, ![4, 1, 8, 1024]⟩
abbrev S4x8x1024 : Shape := ⟨3, ![4, 8, 1024]⟩
abbrev S2x2x8x1024 : Shape := ⟨4, ![2, 2, 8, 1024]⟩
abbrev S2x1x8x1024 : Shape := ⟨4, ![2, 1, 8, 1024]⟩
abbrev S2x8x1024 : Shape := ⟨3, ![2, 8, 1024]⟩
abbrev S1x2x8x1024 : Shape := ⟨4, ![1, 2, 8, 1024]⟩
abbrev S1x1x8x1024 : Shape := ⟨4, ![1, 1, 8, 1024]⟩
abbrev S1x8x1024 : Shape := ⟨3, ![1, 8, 1024]⟩
abbrev S8x1024 : Shape := ⟨2, ![8, 1024]⟩
abbrev S16x1024 : Shape := ⟨2, ![16, 1024]⟩
abbrev S1024x16 : Shape := ⟨2, ![1024, 16]⟩
abbrev S1x1x1024x16 : Shape := ⟨4, ![1, 1, 1024, 16]⟩

abbrev nBuf : Space → Nat
  | .hbm => 2
  | .vmem => 7
  | .smem => 0
  | _ => 0

abbrev bufTy : (tb : Table) → Fin (tcTables nBuf tb) → BufTy
  | .hbm, ⟨0, _⟩ => ⟨S8x2048x128, .f32⟩
  | .hbm, ⟨1, _⟩ => ⟨S2x8x2048x16, .i32⟩
  | .local _ .vmem, ⟨0, _⟩ => ⟨S1x1024x128, .f32⟩
  | .local _ .vmem, ⟨1, _⟩ => ⟨S1x1024x128, .f32⟩
  | .local _ .vmem, ⟨2, _⟩ => ⟨S1x2048x128, .f32⟩
  | .local _ .vmem, ⟨3, _⟩ => ⟨S1x2048x128, .f32⟩
  | .local _ .vmem, ⟨4, _⟩ => ⟨S2x1x1024x16, .i32⟩
  | .local _ .vmem, ⟨5, _⟩ => ⟨S2x1x1024x16, .i32⟩
  | .local _ .vmem, ⟨6, _⟩ => ⟨S2048x1024, .f32⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x1x1024x16 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S8x2048x128 : Shape := ⟨3, ![8, 2048, 128]⟩
abbrev S_ : Shape := ⟨0, ![]⟩
abbrev S8x2048 : Shape := ⟨2, ![8, 2048]⟩
abbrev S8x2048x1 : Shape := ⟨3, ![8, 2048, 1]⟩
abbrev S8x1x2048 : Shape := ⟨3, ![8, 1, 2048]⟩
abbrev S8x2048x2048 : Shape := ⟨3, ![8, 2048, 2048]⟩
abbrev S8x128x2048 : Shape := ⟨3, ![8, 128, 2048]⟩
abbrev S8x2048x16 : Shape := ⟨3, ![8, 2048, 16]⟩
abbrev S2048 : Shape := ⟨1, ![2048]⟩
abbrev S1x2048x1 : Shape := ⟨3, ![1, 2048, 1]⟩
abbrev S8 : Shape := ⟨1, ![8]⟩
abbrev S8x1x1 : Shape := ⟨3, ![8, 1, 1]⟩
abbrev S1x8x2048x16 : Shape := ⟨4, ![1, 8, 2048, 16]⟩
abbrev S2x8x2048x16 : Shape := ⟨4, ![2, 8, 2048, 16]⟩

abbrev nBuf : Space → Nat
  | .hbm => 36
  | .vmem => 0
  | .smem => 0
  | _ => 0

abbrev bufTy : (tb : Table) → Fin (tcTables nBuf tb) → BufTy
  | .hbm, ⟨0, _⟩ => ⟨S8x2048x128, .f32⟩
  | .hbm, ⟨1, _⟩ => ⟨S8x2048x128, .f32⟩
  | .hbm, ⟨2, _⟩ => ⟨S_, .f32⟩
  | .hbm, ⟨3, _⟩ => ⟨S8x2048, .f32⟩
  | .hbm, ⟨4, _⟩ => ⟨S8x2048x1, .f32⟩
  | .hbm, ⟨5, _⟩ => ⟨S8x1x2048, .f32⟩
  | .hbm, ⟨6, _⟩ => ⟨S8x2048x2048, .f32⟩
  | .hbm, ⟨7, _⟩ => ⟨S8x2048x2048, .f32⟩
  | .hbm, ⟨8, _⟩ => ⟨S8x2048x2048, .f32⟩
  | .hbm, ⟨9, _⟩ => ⟨S8x128x2048, .f32⟩
  | .hbm, ⟨10, _⟩ => ⟨S8x2048x2048, .f32⟩
  | .hbm, ⟨11, _⟩ => ⟨S_, .f32⟩
  | .hbm, ⟨12, _⟩ => ⟨S8x2048x2048, .f32⟩
  | .hbm, ⟨13, _⟩ => ⟨S8x2048x2048, .f32⟩
  | .hbm, ⟨14, _⟩ => ⟨S8x2048x2048, .f32⟩
  | .hbm, ⟨15, _⟩ => ⟨S8x2048x2048, .f32⟩
  | .hbm, ⟨16, _⟩ => ⟨S8x2048x16, .f32⟩
  | .hbm, ⟨17, _⟩ => ⟨S8x2048x16, .i32⟩
  | .hbm, ⟨18, _⟩ => ⟨S_, .i32⟩
  | .hbm, ⟨19, _⟩ => ⟨S8x2048x16, .i32⟩
  | .hbm, ⟨20, _⟩ => ⟨S2048, .i32⟩
  | .hbm, ⟨21, _⟩ => ⟨S1x2048x1, .i32⟩
  | .hbm, ⟨22, _⟩ => ⟨S8x2048x16, .i32⟩
  | .hbm, ⟨23, _⟩ => ⟨S8x2048x16, .i32⟩
  | .hbm, ⟨24, _⟩ => ⟨S8, .i32⟩
  | .hbm, ⟨25, _⟩ => ⟨S_, .i32⟩
  | .hbm, ⟨26, _⟩ => ⟨S8, .i32⟩
  | .hbm, ⟨27, _⟩ => ⟨S8, .i32⟩
  | .hbm, ⟨28, _⟩ => ⟨S8x1x1, .i32⟩
  | .hbm, ⟨29, _⟩ => ⟨S8x2048x16, .i32⟩
  | .hbm, ⟨30, _⟩ => ⟨S8x2048x16, .i32⟩
  | .hbm, ⟨31, _⟩ => ⟨S8x2048x16, .i32⟩
  | .hbm, ⟨32, _⟩ => ⟨S8x2048x16, .i32⟩
  | .hbm, ⟨33, _⟩ => ⟨S1x8x2048x16, .i32⟩
  | .hbm, ⟨34, _⟩ => ⟨S1x8x2048x16, .i32⟩
  | .hbm, ⟨35, _⟩ => ⟨S2x8x2048x16, .i32⟩
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_values : Ref sig .tc := ⟨.hbm, 16, rfl⟩
abbrev main_indices : Ref sig .tc := ⟨.hbm, 17, rfl⟩
abbrev main_c : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== Proof.Knn.Reg.lean ====
/- A register of the kernel's network is a vector of keys with the vector of tags carried beside it. This module names the
   compare-exchange of two registers, a network of such exchanges on sixteen registers, and the steps that the kernel takes
   between its networks, each in the form it is printed in. -/
module

public import proofs.«01_k».proof.Proof.Gen.KernelIdeal.Value
public import Idealize.ShloMosaic.Lib.SortNet.OddEvenSort
public import Idealize.ShloMosaic.Lib.TopK.KeyRegisters

@[expose] public section

noncomputable section

namespace Cert.KernelIdeal.Knn

open Idealize.ShloMosaic Idealize.ShloMosaic.SortNet Cert.KernelIdeal.Gen

variable {F : FTy → Type} [FloatOps F] {s s' : Shape}

/-- Keys, and the tag of each. -/
structure Reg (F : FTy → Type) (s : Shape) where
  v : FVec F s .f32
  t : IVec s 32

/-- The register that keeps the lesser key of each lane. -/
def lo (p q : Reg F s) : Reg F s := ⟨minimumf p.v q.v, select (cmpf .ogt p.v q.v) q.t p.t⟩

/-- The register that keeps the greater key of each lane. -/
def hi (p q : Reg F s) : Reg F s := ⟨maximumf p.v q.v, select (cmpf .ogt p.v q.v) p.t q.t⟩

/-- One exchange of a network: the lesser key goes to the exchange's `hi` place, which is the earlier one. -/
def regStep {n : ℕ} (c : Cmpx n) (S : Fin n → Reg F s) : Fin n → Reg F s := fun k =>
  if k = c.hi then lo (S c.hi) (S c.lo) else if k = c.lo then hi (S c.hi) (S c.lo) else S k

/-- The registers after a network. -/
def regNet {n : ℕ} (N : Network n) (S : Fin n → Reg F s) : Fin n → Reg F s := N.foldl (fun S c => regStep c S) S

/-- The exchanges that sort sixteen registers. -/
def sortList : Network 16 := Network.ofPairs 16 (oddEvenPairs 4)

/-- The exchanges that sort sixteen registers which go up and then down. -/
def mergeList : Network 16 := Network.ofPairs 16 (mergePairs 4)

/-- Sixteen registers sorted lane by lane. -/
def sort16 (S : Fin 16 → Reg F s) : Fin 16 → Reg F s := regNet sortList S

/-- The sixteen least of two sorted sixteens, sorted. -/
def merge (A B : Fin 16 → Reg F s) : Fin 16 → Reg F s := regNet mergeList fun u => lo (A u) (B (Fin.rev u))

/-- One half of every register of a family, by a reshape, a slice and a reshape. -/
def halfOf (s₁ s₂ s' : Shape) (o : Fin s₁.rank → ℕ) (h₁ : s.ShapeCasts s₁) (h₂ : s₁.Slices o s₂) (h₃ : s₂.ShapeCasts s') (S : Fin 16 → Reg F s) :
    Fin 16 → Reg F s' := fun u =>
  ⟨shapeCast s' (extractStridedSlice s₂ o (shapeCast s₁ (S u).v h₁) h₂) h₃,
    shapeCast s' (extractStridedSlice s₂ o (shapeCast s₁ (S u).t h₁) h₂) h₃⟩

/-- The sorting exchanges one by one. -/
theorem sortList_eq : sortList = oddEvenNet 4 := rfl

/-- The merging exchanges one by one. -/
theorem mergeList_eq : mergeList =
    [⟨8, 0, by decide⟩, ⟨9, 1, by decide⟩, ⟨10, 2, by decide⟩, ⟨11, 3, by decide⟩,
     ⟨12, 4, by decide⟩, ⟨13, 5, by decide⟩, ⟨14, 6, by decide⟩, ⟨15, 7, by decide⟩,
     ⟨4, 0, by decide⟩, ⟨5, 1, by decide⟩, ⟨6, 2, by decide⟩, ⟨7, 3, by decide⟩,
     ⟨12, 8, by decide⟩, ⟨13, 9, by decide⟩, ⟨14, 10, by decide⟩, ⟨15, 11, by decide⟩,
     ⟨2, 0, by decide⟩, ⟨3, 1, by decide⟩, ⟨6, 4, by decide⟩, ⟨7, 5, by decide⟩,
     ⟨10, 8, by decide⟩, ⟨11, 9, by decide⟩, ⟨14, 12, by decide⟩, ⟨15, 13, by decide⟩,
     ⟨1, 0, by decide⟩, ⟨3, 2, by decide⟩, ⟨5, 4, by decide⟩, ⟨7, 6, by decide⟩,
     ⟨9, 8, by decide⟩, ⟨11, 10, by decide⟩, ⟨13, 12, by decide⟩, ⟨15, 14, by decide⟩] := by decide

/-- The registers after the first `e` exchanges of a network. -/
def netAt {n : ℕ} (N : Network n) (e : ℕ) (S : Fin n → Reg F s) : Fin n → Reg F s := regNet (N.take e) S

/-- Exchange `e` of the network is the one that has its earlier place at `a` and its later one at `b`; the exchanges from the
    `m`-th to it leave `a` alone, and those from the `n`-th to it leave `b` alone. -/
def Step {k : ℕ} (N : Network k) (e m n : ℕ) (a b : Fin k) : Prop :=
  m ≤ e ∧ n ≤ e ∧ N[e]?.map (fun c => (c.hi, c.lo)) = some (a, b) ∧
    (∀ c ∈ (N.drop m).take (e - m), a ≠ c.hi ∧ a ≠ c.lo) ∧ ∀ c ∈ (N.drop n).take (e - n), b ≠ c.hi ∧ b ≠ c.lo

instance {k : ℕ} (N : Network k) (e m n : ℕ) (a b : Fin k) : Decidable (Step N e m n a b) := by unfold Step; infer_instance

theorem regNet_append {n : ℕ} (N N' : Network n) (S : Fin n → Reg F s) : regNet (N ++ N') S = regNet N' (regNet N S) :=
  List.foldl_append

/-- Exchanges that leave a place alone do not change its register. -/
theorem regNet_of_untouched {n : ℕ} (a : Fin n) (N : Network n) (h : ∀ c ∈ N, a ≠ c.hi ∧ a ≠ c.lo) (S : Fin n → Reg F s) :
    regNet N S a = S a := by
  induction N generalizing S with
  | nil => rfl
  | cons c N ih =>
    have hc := h c List.mem_cons_self
    show regNet N (regStep c S) a = S a
    rw [ih (fun d hd => h d (List.mem_cons_of_mem _ hd))]
    simp only [regStep, if_neg hc.1, if_neg hc.2]

theorem netAt_of_untouched {n : ℕ} {a : Fin n} {N : Network n} {m e : ℕ} (hm : m ≤ e)
    (h : ∀ c ∈ (N.drop m).take (e - m), a ≠ c.hi ∧ a ≠ c.lo) (S : Fin n → Reg F s) : netAt N m S a = netAt N e S a := by
  have hs : N.take e = N.take m ++ (N.drop m).take (e - m) := by
    rw [← List.take_add]; congr 1; omega
  unfold netAt
  rw [hs, regNet_append, regNet_of_untouched a _ h]

theorem netAt_succ {n : ℕ} {N : Network n} {e : ℕ} {c : Cmpx n} (h : N[e]? = some c) (S : Fin n → Reg F s) :
    netAt N (e + 1) S = regStep c (netAt N e S) := by
  unfold netAt
  rw [List.take_add_one, h, regNet_append]; rfl

theorem Step.lo {k : ℕ} {N : Network k} {a b : Fin k} {S : Fin k → Reg F s} (e m n : ℕ) (h : Step N e m n a b) :
    Knn.lo (netAt N m S a) (netAt N n S b) = netAt N (e + 1) S a := by
  obtain ⟨h1, h2, h3, h4, h5⟩ := h
  obtain ⟨c, hc, he⟩ := Option.map_eq_some_iff.1 h3
  obtain ⟨rfl, rfl⟩ := Prod.mk.inj he
  rw [netAt_of_untouched h1 h4, netAt_of_untouched h2 h5, netAt_succ hc]
  simp only [regStep, if_true]

theorem Step.hi {k : ℕ} {N : Network k} {a b : Fin k} {S : Fin k → Reg F s} (e m n : ℕ) (h : Step N e m n a b) :
    Knn.hi (netAt N m S a) (netAt N n S b) = netAt N (e + 1) S b := by
  obtain ⟨h1, h2, h3, h4, h5⟩ := h
  obtain ⟨c, hc, he⟩ := Option.map_eq_some_iff.1 h3
  obtain ⟨rfl, rfl⟩ := Prod.mk.inj he
  rw [netAt_of_untouched h1 h4, netAt_of_untouched h2 h5, netAt_succ hc]
  simp only [regStep, if_neg c.ne, if_true]

/-- No exchange from the `e`-th on touches the place. -/
def Last {k : ℕ} (N : Network k) (e : ℕ) (a : Fin k) : Prop := ∀ c ∈ N.drop e, a ≠ c.hi ∧ a ≠ c.lo

instance {k : ℕ} (N : Network k) (e : ℕ) (a : Fin k) : Decidable (Last N e a) := by unfold Last; infer_instance

theorem Last.net {k : ℕ} {N : Network k} {a : Fin k} (e : ℕ) (h : Last N e a) (S : Fin k → Reg F s) :
    netAt N e S a = regNet N S a := by
  conv_rhs => rw [← List.take_append_drop e N, regNet_append, regNet_of_untouched a _ h]
  rfl

/-- The two sixteens that a merge begins from: one as it is, one turned round, and of each pair the lesser. -/
def mergeIn (A B : Fin 16 → Reg F s) : Fin 16 → Reg F s := fun u => lo (A u) (B (Fin.rev u))

theorem Last.sort16 {a : Fin 16} (e : ℕ) (h : Last sortList e a) (S : Fin 16 → Reg F s) : netAt sortList e S a = Knn.sort16 S a :=
  h.net e S

theorem Last.merge {a : Fin 16} (e : ℕ) (h : Last mergeList e a) (A B : Fin 16 → Reg F s) :
    netAt mergeList e (mergeIn A B) a = Knn.merge A B a := h.net e _

/-- An exchange keeps the lesser key and its tag. -/
theorem lo_v (p q : Reg F s) : minimumf p.v q.v = (lo p q).v := rfl
theorem lo_t (p q : Reg F s) : select (cmpf .ogt p.v q.v) q.t p.t = (lo p q).t := rfl
theorem hi_v (p q : Reg F s) : maximumf p.v q.v = (hi p q).v := rfl
theorem hi_t (p q : Reg F s) : select (cmpf .ogt p.v q.v) p.t q.t = (hi p q).t := rfl

/-- The registers that the kernel loads: place `u` of every group, tagged with its group and place. -/
def inReg (D : FVec F S16x16x8x1024 .f32) (u : Fin 16) : Reg F S16x8x1024 :=
  ⟨shapeCast S16x8x1024 (extractStridedSlice S16x1x8x1024 ![0, u.val, 0, 0] D
      ⟨rfl, by have := u.isLt; intro b; fin_cases b <;> simp <;> omega⟩) shapeCasts_S16x1x8x1024_S16x8x1024,
    ori k0_pay6 (broadcast S16x8x1024 (BitVec.ofNat 32 u.val))⟩

theorem inReg_v (D : FVec F S16x16x8x1024 .f32) (n : ℕ) (hn : n < 16) (h : S16x16x8x1024.Slices ![0, n, 0, 0] S16x1x8x1024)
    (h' : S16x1x8x1024.ShapeCasts S16x8x1024) :
    shapeCast S16x8x1024 (extractStridedSlice S16x1x8x1024 ![0, n, 0, 0] D h) h' = (netAt sortList 0 (inReg D) ⟨n, hn⟩).v := rfl

theorem inReg_t (D : FVec F S16x16x8x1024 .f32) (n : ℕ) (hn : n < 16) :
    ori k0_pay6 (broadcast S16x8x1024 (BitVec.ofNat 32 n)) = (netAt sortList 0 (inReg D) ⟨n, hn⟩).t := rfl

theorem halfSort_v (s₁ s₂ s' : Shape) (o : Fin s₁.rank → ℕ) (h₁ : s.ShapeCasts s₁) (h₂ : s₁.Slices o s₂) (h₃ : s₂.ShapeCasts s')
    (S : Fin 16 → Reg F s) (u : Fin 16) :
    shapeCast s' (extractStridedSlice s₂ o (shapeCast s₁ (sort16 S u).v h₁) h₂) h₃ = (halfOf s₁ s₂ s' o h₁ h₂ h₃ (sort16 S) u).v := rfl
theorem halfSort_t (s₁ s₂ s' : Shape) (o : Fin s₁.rank → ℕ) (h₁ : s.ShapeCasts s₁) (h₂ : s₁.Slices o s₂) (h₃ : s₂.ShapeCasts s')
    (S : Fin 16 → Reg F s) (u : Fin 16) :
    shapeCast s' (extractStridedSlice s₂ o (shapeCast s₁ (sort16 S u).t h₁) h₂) h₃ = (halfOf s₁ s₂ s' o h₁ h₂ h₃ (sort16 S) u).t := rfl
theorem halfMerge_v (s₁ s₂ s' : Shape) (o : Fin s₁.rank → ℕ) (h₁ : s.ShapeCasts s₁) (h₂ : s₁.Slices o s₂) (h₃ : s₂.ShapeCasts s')
    (A B : Fin 16 → Reg F s) (u : Fin 16) :
    shapeCast s' (extractStridedSlice s₂ o (shapeCast s₁ (merge A B u).v h₁) h₂) h₃ = (halfOf s₁ s₂ s' o h₁ h₂ h₃ (merge A B) u).v := rfl
theorem halfMerge_t (s₁ s₂ s' : Shape) (o : Fin s₁.rank → ℕ) (h₁ : s.ShapeCasts s₁) (h₂ : s₁.Slices o s₂) (h₃ : s₂.ShapeCasts s')
    (A B : Fin 16 → Reg F s) (u : Fin 16) :
    shapeCast s' (extractStridedSlice s₂ o (shapeCast s₁ (merge A B u).t h₁) h₂) h₃ = (halfOf s₁ s₂ s' o h₁ h₂ h₃ (merge A B) u).t := rfl

/-- The first exchange of a merge of the two halves of a family. -/
theorem lo_halves (s₁ s₂ s' : Shape) (o o' : Fin s₁.rank → ℕ) (h₁ : s.ShapeCasts s₁) (h₂ : s₁.Slices o s₂) (h₂' : s₁.Slices o' s₂)
    (h₃ : s₂.ShapeCasts s') (S : Fin 16 → Reg F s) (u w : Fin 16) (h : w = Fin.rev u) :
    lo (halfOf s₁ s₂ s' o h₁ h₂ h₃ S u) (halfOf s₁ s₂ s' o' h₁ h₂' h₃ S w)
      = netAt mergeList 0 (mergeIn (halfOf s₁ s₂ s' o h₁ h₂ h₃ S) (halfOf s₁ s₂ s' o' h₁ h₂' h₃ S)) u := by subst h; rfl

/-- The tag of a register once the groups are merged: the group and place as they were, and the sublane below them. -/
def relabel (S : Fin 16 → Reg F S1x8x1024) : Fin 16 → Reg F S1x8x1024 := fun u =>
  ⟨(S u).v, ori (shli (S u).t (broadcast S1x8x1024 3#32)) (iota .tc S1x8x1024 32 [1] iota_S1x8x1024_d1_w32)⟩

/-- Every register turned round by `k` sublanes. -/
def rot (k : BitVec 32) (S : Fin 16 → Reg F S1x8x1024) : Fin 16 → Reg F S1x8x1024 := fun u =>
  ⟨dynamicRotate 1 k none (S u).v rotates_S1x8x1024_d1, dynamicRotate 1 k none (S u).t rotates_S1x8x1024_d1⟩

section Folds

variable {s₁ s₂ : Shape} {o o' : Fin s₁.rank → ℕ} {h₁ : s.ShapeCasts s₁} {h₂ : s₁.Slices o s₂} {h₂' : s₁.Slices o' s₂}
  {h₃ : s₂.ShapeCasts S1x8x1024} {S : Fin 16 → Reg F s}

theorem relabel_v (u : Fin 16) :
    (merge (halfOf s₁ s₂ S1x8x1024 o h₁ h₂ h₃ S) (halfOf s₁ s₂ S1x8x1024 o' h₁ h₂' h₃ S) u).v
      = (relabel (merge (halfOf s₁ s₂ S1x8x1024 o h₁ h₂ h₃ S) (halfOf s₁ s₂ S1x8x1024 o' h₁ h₂' h₃ S)) u).v := rfl
theorem relabel_t (u : Fin 16) :
    ori (shli (merge (halfOf s₁ s₂ S1x8x1024 o h₁ h₂ h₃ S) (halfOf s₁ s₂ S1x8x1024 o' h₁ h₂' h₃ S) u).t (broadcast S1x8x1024 3#32))
        (iota .tc S1x8x1024 32 (@List.cons (Fin 3) (1 : Fin S1x8x1024.rank) (@List.nil (Fin 3))) iota_S1x8x1024_d1_w32)
      = (relabel (merge (halfOf s₁ s₂ S1x8x1024 o h₁ h₂ h₃ S) (halfOf s₁ s₂ S1x8x1024 o' h₁ h₂' h₃ S)) u).t := rfl

theorem rotRelabel_v (k : BitVec 32) (S : Fin 16 → Reg F S1x8x1024) (u : Fin 16) :
    dynamicRotate 1 k (none : Option (Nat × Fin 3)) (relabel S u).v rotates_S1x8x1024_d1 = (rot k (relabel S) u).v := rfl
theorem rotRelabel_t (k : BitVec 32) (S : Fin 16 → Reg F S1x8x1024) (u : Fin 16) :
    dynamicRotate 1 k (none : Option (Nat × Fin 3)) (relabel S u).t rotates_S1x8x1024_d1 = (rot k (relabel S) u).t := rfl
theorem lo_rotRelabel (k : BitVec 32) (S : Fin 16 → Reg F S1x8x1024) (u w : Fin 16) (h : w = Fin.rev u) :
    lo (relabel S u) (rot k (relabel S) w) = netAt mergeList 0 (mergeIn (relabel S) (rot k (relabel S))) u := by subst h; rfl

theorem rotMerge_v (k k' : BitVec 32) (A B : Fin 16 → Reg F S1x8x1024) (u : Fin 16) :
    dynamicRotate 1 k (none : Option (Nat × Fin 3)) (merge A (rot k' B) u).v rotates_S1x8x1024_d1 = (rot k (merge A (rot k' B)) u).v := rfl
theorem rotMerge_t (k k' : BitVec 32) (A B : Fin 16 → Reg F S1x8x1024) (u : Fin 16) :
    dynamicRotate 1 k (none : Option (Nat × Fin 3)) (merge A (rot k' B) u).t rotates_S1x8x1024_d1 = (rot k (merge A (rot k' B)) u).t := rfl
theorem lo_rotMerge (k : BitVec 32) (A B : Fin 16 → Reg F S1x8x1024) (u w : Fin 16) (h : w = Fin.rev u) :
    lo (merge A B u) (rot k (merge A B) w) = netAt mergeList 0 (mergeIn (merge A B) (rot k (merge A B))) u := by subst h; rfl

end Folds

/-- 16 groups merged in pairs. -/
def pair16 (S : Fin 16 → Reg F S16x8x1024) : Fin 16 → Reg F S8x8x1024 :=
  merge (halfOf S8x2x8x1024 S8x1x8x1024 S8x8x1024 ![0, 0, 0, 0] (by decide) (by decide) (by decide) S)
    (halfOf S8x2x8x1024 S8x1x8x1024 S8x8x1024 ![0, 1, 0, 0] (by decide) (by decide) (by decide) S)

/-- 8 groups merged in pairs. -/
def pair8 (S : Fin 16 → Reg F S8x8x1024) : Fin 16 → Reg F S4x8x1024 :=
  merge (halfOf S4x2x8x1024 S4x1x8x1024 S4x8x1024 ![0, 0, 0, 0] (by decide) (by decide) (by decide) S)
    (halfOf S4x2x8x1024 S4x1x8x1024 S4x8x1024 ![0, 1, 0, 0] (by decide) (by decide) (by decide) S)

/-- 4 groups merged in pairs. -/
def pair4 (S : Fin 16 → Reg F S4x8x1024) : Fin 16 → Reg F S2x8x1024 :=
  merge (halfOf S2x2x8x1024 S2x1x8x1024 S2x8x1024 ![0, 0, 0, 0] (by decide) (by decide) (by decide) S)
    (halfOf S2x2x8x1024 S2x1x8x1024 S2x8x1024 ![0, 1, 0, 0] (by decide) (by decide) (by decide) S)

/-- 2 groups merged in pairs. -/
def pair2 (S : Fin 16 → Reg F S2x8x1024) : Fin 16 → Reg F S1x8x1024 :=
  merge (halfOf S1x2x8x1024 S1x1x8x1024 S1x8x1024 ![0, 0, 0, 0] (by decide) (by decide) (by decide) S)
    (halfOf S1x2x8x1024 S1x1x8x1024 S1x8x1024 ![0, 1, 0, 0] (by decide) (by decide) (by decide) S)

/-- The sixteen least of a sublane and of the one `k` before it. -/
def turn (k : BitVec 32) (S : Fin 16 → Reg F S1x8x1024) : Fin 16 → Reg F S1x8x1024 := merge S (rot k S)

/-- The sixteen least of every sublane, all groups merged. -/
def grouped (D : FVec F S16x16x8x1024 .f32) : Fin 16 → Reg F S1x8x1024 :=
  relabel (pair2 (pair4 (pair8 (pair16 (sort16 (inReg D))))))

/-- The registers at the end: in sublane 0 the sixteen least of each lane. -/
def final (D : FVec F S16x16x8x1024 .f32) : Fin 16 → Reg F S1x8x1024 := turn 7#32 (turn 6#32 (turn 4#32 (grouped D)))

/-- One sublane of the packed result: in sublane `k` the tag that register `u` holds in sublane 0, elsewhere what was there. -/
def place (S : Fin 16 → Reg F S1x8x1024) (k : ℕ) (u : Fin 16) (p : IVec S1x8x1024 32) : IVec S1x8x1024 32 :=
  select (cmpi .eq (iota .tc S1x8x1024 32 [1] iota_S1x8x1024_d1_w32) (broadcast S1x8x1024 (BitVec.ofNat 32 k)))
    (rot (BitVec.ofNat 32 k) S u).t p

/-- Eight registers' sublane 0 packed into the eight sublanes of one, the base of the sample added. -/
def pack (S : Fin 16 → Reg F S1x8x1024) (u : Fin 8 → Fin 16) (b : BitVec 32) : IVec S8x1024 32 :=
  addi (shapeCast S8x1024 (place S 7 (u 7) (place S 6 (u 6) (place S 5 (u 5) (place S 4 (u 4) (place S 3 (u 3) (place S 2 (u 2)
    (place S 1 (u 1) (place S 0 (u 0) (broadcast S1x8x1024 0#32))))))))) (by decide)) (broadcast S8x1024 b)

/-- The sixteen neighbours of each lane, by sublane, as they are before the transpose. -/
def dst (D : FVec F S16x16x8x1024 .f32) (b : BitVec 32) : IVec S16x1024 32 :=
  k0_pay2025 (pack (final D) (fun k => ⟨k.val, by omega⟩) b) (pack (final D) (fun k => ⟨8 + k.val, by omega⟩) b)

end Cert.KernelIdeal.Knn

end
-- ==== Proof.Knn.BodyA.lean ====
/- The body of the kernel at the first point of a sample, which has just written the squared norms into the scratch. Every
   value that the body names is read through the registers of `Knn/Reg.lean`; at the end stand the packed neighbours. -/
module

public import proofs.«01_k».proof.Proof.Knn.Reg
public import Idealize.ShloMosaic.Lib.VecWindow

@[expose] public section

set_option maxRecDepth 65536
set_option maxHeartbeats 0

noncomputable section

namespace Cert.KernelIdeal.Knn

open Idealize.ShloMosaic Idealize.ShloMosaic.SortNet Cert.KernelIdeal.Gen Idealize.ShloMosaic.TcCoe Idealize.ShloMosaic.Tactic

variable {F : FTy → Type} [FloatOps F]

/-- The neighbours that the body stores are those of the network on the distances. -/
theorem neighbours_first (c : Dev nD) (i : grid0.Coords) (arg2 : Memref sig .tc .vmem S1x1024x128 .f32) (harg2 : arg2.IsWhole)
    (arg3 : Memref sig .tc .vmem S1x2048x128 .f32) (harg3 : arg3.IsWhole) (arg5 : Memref sig .tc .vmem S2048x1024 .f32)
    (x0 : Vec F S1x1024x128 .f32) (x1 : Vec F S1x2048x128 .f32) :
    kernelRun0_A.sl.r_1148 c i arg2 harg2 arg3 harg3 arg5 x0 x1
      = dst (k0_pay5 x1 x0 (k0_pay4 x1)) (Scalar.muli (BitVec.ofNat 32 (i 0).val) 2048#32) := by
  have it := inReg_t (F := F) (k0_pay5 x1 x0 (k0_pay4 x1))
  have e1 : View.readAt (Elt F) arg3.view (Rect.unit ![0, 0, 0] ![1, 2048, 128] inb_S1x2048x128_S1x2048x128_0_0_0).toLoadRect
      (harg3.unread x1) = x1 :=
    (View.readAt_full (Val := Elt F) arg3.view _ inb_S1x2048x128_S1x2048x128_0_0_0).trans (harg3.read_unread x1)
  have e0 : View.readAt (Elt F) arg2.view (Rect.unit ![0, 0, 0] ![1, 1024, 128] inb_S1x1024x128_S1x1024x128_0_0_0).toLoadRect
      (harg2.unread x0) = x0 :=
    (View.readAt_full (Val := Elt F) arg2.view _ inb_S1x1024x128_S1x1024x128_0_0_0).trans (harg2.read_unread x0)
  have e2 : kernelRun0_A.sl.v10 (F := F) c arg3 harg3 arg5 x1 = k0_pay4 x1 := by
    refine (View.readCov_full (Val := Elt F) arg5.view inb_S2048x1024_S2048x1024_0_0 inb_S2048x1024_S2048x1024_0_0 _ _).trans ?_
    exact congrArg k0_pay4 e1
  have key : ∀ P Q : IVec S8x1024 32,
      P = pack (final (k0_pay5 x1 x0 (k0_pay4 x1))) (fun k => ⟨k.val, by omega⟩) (Scalar.muli (BitVec.ofNat 32 (i 0).val) 2048#32) →
      Q = pack (final (k0_pay5 x1 x0 (k0_pay4 x1))) (fun k => ⟨8 + k.val, by omega⟩) (Scalar.muli (BitVec.ofNat 32 (i 0).val) 2048#32) →
      kernelRun0_A.sl.v2784 c i arg2 harg2 arg3 harg3 arg5 x0 x1 = P
        ∧ kernelRun0_A.sl.v2820 c i arg2 harg2 arg3 harg3 arg5 x0 x1 = Q := by
    intro P Q hP hQ
    simp -implicitDefEqProofs only [e0, e1, e2, it, inReg_v, lo_v, lo_t, hi_v, hi_t, halfSort_v, halfSort_t, halfMerge_v, halfMerge_t,
      lo_halves, lo_rotRelabel, lo_rotMerge, relabel_v, relabel_t, rotRelabel_v, rotRelabel_t, rotMerge_v, rotMerge_t,
      Fin.isValue, Fin.reduceFinMk, Fin.reduceRev, Nat.reduceLT, Nat.reduceAdd,
      (Step.lo 0 0 0 (show Step sortList 0 0 0 0 1 by decide +kernel)), (Step.hi 0 0 0 (show Step sortList 0 0 0 0 1 by decide +kernel)),
      (Step.lo 1 0 0 (show Step sortList 1 0 0 2 3 by decide +kernel)), (Step.hi 1 0 0 (show Step sortList 1 0 0 2 3 by decide +kernel)),
      (Step.lo 2 0 0 (show Step sortList 2 0 0 4 5 by decide +kernel)), (Step.hi 2 0 0 (show Step sortList 2 0 0 4 5 by decide +kernel)),
      (Step.lo 3 0 0 (show Step sortList 3 0 0 6 7 by decide +kernel)), (Step.hi 3 0 0 (show Step sortList 3 0 0 6 7 by decide +kernel)),
      (Step.lo 4 0 0 (show Step sortList 4 0 0 8 9 by decide +kernel)), (Step.hi 4 0 0 (show Step sortList 4 0 0 8 9 by decide +kernel)),
      (Step.lo 5 0 0 (show Step sortList 5 0 0 10 11 by decide +kernel)),
      (Step.hi 5 0 0 (show Step sortList 5 0 0 10 11 by decide +kernel)),
      (Step.lo 6 0 0 (show Step sortList 6 0 0 12 13 by decide +kernel)),
      (Step.hi 6 0 0 (show Step sortList 6 0 0 12 13 by decide +kernel)),
      (Step.lo 7 0 0 (show Step sortList 7 0 0 14 15 by decide +kernel)),
      (Step.hi 7 0 0 (show Step sortList 7 0 0 14 15 by decide +kernel)),
      (Step.lo 8 1 2 (show Step sortList 8 1 2 0 2 by decide +kernel)), (Step.hi 8 1 2 (show Step sortList 8 1 2 0 2 by decide +kernel)),
      (Step.lo 9 1 2 (show Step sortList 9 1 2 1 3 by decide +kernel)), (Step.hi 9 1 2 (show Step sortList 9 1 2 1 3 by decide +kernel)),
      (Step.lo 10 3 4 (show Step sortList 10 3 4 4 6 by decide +kernel)),
      (Step.hi 10 3 4 (show Step sortList 10 3 4 4 6 by decide +kernel)),
      (Step.lo 11 3 4 (show Step sortList 11 3 4 5 7 by decide +kernel)),
      (Step.hi 11 3 4 (show Step sortList 11 3 4 5 7 by decide +kernel)),
      (Step.lo 12 5 6 (show Step sortList 12 5 6 8 10 by decide +kernel)),
      (Step.hi 12 5 6 (show Step sortList 12 5 6 8 10 by decide +kernel)),
      (Step.lo 13 5 6 (show Step sortList 13 5 6 9 11 by decide +kernel)),
      (Step.hi 13 5 6 (show Step sortList 13 5 6 9 11 by decide +kernel)),
      (Step.lo 14 7 8 (show Step sortList 14 7 8 12 14 by decide +kernel)),
      (Step.hi 14 7 8 (show Step sortList 14 7 8 12 14 by decide +kernel)),
      (Step.lo 15 7 8 (show Step sortList 15 7 8 13 15 by decide +kernel)),
      (Step.hi 15 7 8 (show Step sortList 15 7 8 13 15 by decide +kernel)),
      (Step.lo 16 10 9 (show Step sortList 16 10 9 1 2 by decide +kernel)),
      (Step.hi 16 10 9 (show Step sortList 16 10 9 1 2 by decide +kernel)),
      (Step.lo 17 12 11 (show Step sortList 17 12 11 5 6 by decide +kernel)),
      (Step.hi 17 12 11 (show Step sortList 17 12 11 5 6 by decide +kernel)),
      (Step.lo 18 14 13 (show Step sortList 18 14 13 9 10 by decide +kernel)),
      (Step.hi 18 14 13 (show Step sortList 18 14 13 9 10 by decide +kernel)),
      (Step.lo 19 16 15 (show Step sortList 19 16 15 13 14 by decide +kernel)),
      (Step.hi 19 16 15 (show Step sortList 19 16 15 13 14 by decide +kernel)),
      (Step.lo 20 9 11 (show Step sortList 20 9 11 0 4 by decide +kernel)),
      (Step.hi 20 9 11 (show Step sortList 20 9 11 0 4 by decide +kernel)),
      (Step.lo 21 17 18 (show Step sortList 21 17 18 1 5 by decide +kernel)),
      (Step.hi 21 17 18 (show Step sortList 21 17 18 1 5 by decide +kernel)),
      (Step.lo 22 17 18 (show Step sortList 22 17 18 2 6 by decide +kernel)),
      (Step.hi 22 17 18 (show Step sortList 22 17 18 2 6 by decide +kernel)),
      (Step.lo 23 10 12 (show Step sortList 23 10 12 3 7 by decide +kernel)),
      (Step.hi 23 10 12 (show Step sortList 23 10 12 3 7 by decide +kernel)),
      (Step.lo 24 13 15 (show Step sortList 24 13 15 8 12 by decide +kernel)),
      (Step.hi 24 13 15 (show Step sortList 24 13 15 8 12 by decide +kernel)),
      (Step.lo 25 19 20 (show Step sortList 25 19 20 9 13 by decide +kernel)),
      (Step.hi 25 19 20 (show Step sortList 25 19 20 9 13 by decide +kernel)),
      (Step.lo 26 19 20 (show Step sortList 26 19 20 10 14 by decide +kernel)),
      (Step.hi 26 19 20 (show Step sortList 26 19 20 10 14 by decide +kernel)),
      (Step.lo 27 14 16 (show Step sortList 27 14 16 11 15 by decide +kernel)),
      (Step.hi 27 14 16 (show Step sortList 27 14 16 11 15 by decide +kernel)),
      (Step.lo 28 23 21 (show Step sortList 28 23 21 2 4 by decide +kernel)),
      (Step.hi 28 23 21 (show Step sortList 28 23 21 2 4 by decide +kernel)),
      (Step.lo 29 24 22 (show Step sortList 29 24 22 3 5 by decide +kernel)),
      (Step.hi 29 24 22 (show Step sortList 29 24 22 3 5 by decide +kernel)),
      (Step.lo 30 27 25 (show Step sortList 30 27 25 10 12 by decide +kernel)),
      (Step.hi 30 27 25 (show Step sortList 30 27 25 10 12 by decide +kernel)),
      (Step.lo 31 28 26 (show Step sortList 31 28 26 11 13 by decide +kernel)),
      (Step.hi 31 28 26 (show Step sortList 31 28 26 11 13 by decide +kernel)),
      (Step.lo 32 22 29 (show Step sortList 32 22 29 1 2 by decide +kernel)),
      (Step.hi 32 22 29 (show Step sortList 32 22 29 1 2 by decide +kernel)),
      (Step.lo 33 30 29 (show Step sortList 33 30 29 3 4 by decide +kernel)),
      (Step.hi 33 30 29 (show Step sortList 33 30 29 3 4 by decide +kernel)),
      (Step.lo 34 30 23 (show Step sortList 34 30 23 5 6 by decide +kernel)),
      (Step.hi 34 30 23 (show Step sortList 34 30 23 5 6 by decide +kernel)),
      (Step.lo 35 26 31 (show Step sortList 35 26 31 9 10 by decide +kernel)),
      (Step.hi 35 26 31 (show Step sortList 35 26 31 9 10 by decide +kernel)),
      (Step.lo 36 32 31 (show Step sortList 36 32 31 11 12 by decide +kernel)),
      (Step.hi 36 32 31 (show Step sortList 36 32 31 11 12 by decide +kernel)),
      (Step.lo 37 32 27 (show Step sortList 37 32 27 13 14 by decide +kernel)),
      (Step.hi 37 32 27 (show Step sortList 37 32 27 13 14 by decide +kernel)),
      (Step.lo 38 21 25 (show Step sortList 38 21 25 0 8 by decide +kernel)),
      (Step.hi 38 21 25 (show Step sortList 38 21 25 0 8 by decide +kernel)),
      (Step.lo 39 33 36 (show Step sortList 39 33 36 1 9 by decide +kernel)),
      (Step.hi 39 33 36 (show Step sortList 39 33 36 1 9 by decide +kernel)),
      (Step.lo 40 33 36 (show Step sortList 40 33 36 2 10 by decide +kernel)),
      (Step.hi 40 33 36 (show Step sortList 40 33 36 2 10 by decide +kernel)),
      (Step.lo 41 34 37 (show Step sortList 41 34 37 3 11 by decide +kernel)),
      (Step.hi 41 34 37 (show Step sortList 41 34 37 3 11 by decide +kernel)),
      (Step.lo 42 34 37 (show Step sortList 42 34 37 4 12 by decide +kernel)),
      (Step.hi 42 34 37 (show Step sortList 42 34 37 4 12 by decide +kernel)),
      (Step.lo 43 35 38 (show Step sortList 43 35 38 5 13 by decide +kernel)),
      (Step.hi 43 35 38 (show Step sortList 43 35 38 5 13 by decide +kernel)),
      (Step.lo 44 35 38 (show Step sortList 44 35 38 6 14 by decide +kernel)),
      (Step.hi 44 35 38 (show Step sortList 44 35 38 6 14 by decide +kernel)),
      (Step.lo 45 24 28 (show Step sortList 45 24 28 7 15 by decide +kernel)),
      (Step.hi 45 24 28 (show Step sortList 45 24 28 7 15 by decide +kernel)),
      (Step.lo 46 43 39 (show Step sortList 46 43 39 4 8 by decide +kernel)),
      (Step.hi 46 43 39 (show Step sortList 46 43 39 4 8 by decide +kernel)),
      (Step.lo 47 44 40 (show Step sortList 47 44 40 5 9 by decide +kernel)),
      (Step.hi 47 44 40 (show Step sortList 47 44 40 5 9 by decide +kernel)),
      (Step.lo 48 45 41 (show Step sortList 48 45 41 6 10 by decide +kernel)),
      (Step.hi 48 45 41 (show Step sortList 48 45 41 6 10 by decide +kernel)),
      (Step.lo 49 46 42 (show Step sortList 49 46 42 7 11 by decide +kernel)),
      (Step.hi 49 46 42 (show Step sortList 49 46 42 7 11 by decide +kernel)),
      (Step.lo 50 41 47 (show Step sortList 50 41 47 2 4 by decide +kernel)),
      (Step.hi 50 41 47 (show Step sortList 50 41 47 2 4 by decide +kernel)),
      (Step.lo 51 42 48 (show Step sortList 51 42 48 3 5 by decide +kernel)),
      (Step.hi 51 42 48 (show Step sortList 51 42 48 3 5 by decide +kernel)),
      (Step.lo 52 49 47 (show Step sortList 52 49 47 6 8 by decide +kernel)),
      (Step.hi 52 49 47 (show Step sortList 52 49 47 6 8 by decide +kernel)),
      (Step.lo 53 50 48 (show Step sortList 53 50 48 7 9 by decide +kernel)),
      (Step.hi 53 50 48 (show Step sortList 53 50 48 7 9 by decide +kernel)),
      (Step.lo 54 49 43 (show Step sortList 54 49 43 10 12 by decide +kernel)),
      (Step.hi 54 49 43 (show Step sortList 54 49 43 10 12 by decide +kernel)),
      (Step.lo 55 50 44 (show Step sortList 55 50 44 11 13 by decide +kernel)),
      (Step.hi 55 50 44 (show Step sortList 55 50 44 11 13 by decide +kernel)),
      (Step.lo 56 40 51 (show Step sortList 56 40 51 1 2 by decide +kernel)),
      (Step.hi 56 40 51 (show Step sortList 56 40 51 1 2 by decide +kernel)),
      (Step.lo 57 52 51 (show Step sortList 57 52 51 3 4 by decide +kernel)),
      (Step.hi 57 52 51 (show Step sortList 57 52 51 3 4 by decide +kernel)),
      (Step.lo 58 52 53 (show Step sortList 58 52 53 5 6 by decide +kernel)),
      (Step.hi 58 52 53 (show Step sortList 58 52 53 5 6 by decide +kernel)),
      (Step.lo 59 54 53 (show Step sortList 59 54 53 7 8 by decide +kernel)),
      (Step.hi 59 54 53 (show Step sortList 59 54 53 7 8 by decide +kernel)),
      (Step.lo 60 54 55 (show Step sortList 60 54 55 9 10 by decide +kernel)),
      (Step.hi 60 54 55 (show Step sortList 60 54 55 9 10 by decide +kernel)),
      (Step.lo 61 56 55 (show Step sortList 61 56 55 11 12 by decide +kernel)),
      (Step.hi 61 56 55 (show Step sortList 61 56 55 11 12 by decide +kernel)),
      (Step.lo 62 56 45 (show Step sortList 62 56 45 13 14 by decide +kernel)),
      (Step.hi 62 56 45 (show Step sortList 62 56 45 13 14 by decide +kernel)),
      (Step.lo 0 0 0 (show Step mergeList 0 0 0 0 8 by decide +kernel)),
      (Step.hi 0 0 0 (show Step mergeList 0 0 0 0 8 by decide +kernel)),
      (Step.lo 1 0 0 (show Step mergeList 1 0 0 1 9 by decide +kernel)),
      (Step.hi 1 0 0 (show Step mergeList 1 0 0 1 9 by decide +kernel)),
      (Step.lo 2 0 0 (show Step mergeList 2 0 0 2 10 by decide +kernel)),
      (Step.hi 2 0 0 (show Step mergeList 2 0 0 2 10 by decide +kernel)),
      (Step.lo 3 0 0 (show Step mergeList 3 0 0 3 11 by decide +kernel)),
      (Step.hi 3 0 0 (show Step mergeList 3 0 0 3 11 by decide +kernel)),
      (Step.lo 4 0 0 (show Step mergeList 4 0 0 4 12 by decide +kernel)),
      (Step.hi 4 0 0 (show Step mergeList 4 0 0 4 12 by decide +kernel)),
      (Step.lo 5 0 0 (show Step mergeList 5 0 0 5 13 by decide +kernel)),
      (Step.hi 5 0 0 (show Step mergeList 5 0 0 5 13 by decide +kernel)),
      (Step.lo 6 0 0 (show Step mergeList 6 0 0 6 14 by decide +kernel)),
      (Step.hi 6 0 0 (show Step mergeList 6 0 0 6 14 by decide +kernel)),
      (Step.lo 7 0 0 (show Step mergeList 7 0 0 7 15 by decide +kernel)),
      (Step.hi 7 0 0 (show Step mergeList 7 0 0 7 15 by decide +kernel)),
      (Step.lo 8 1 5 (show Step mergeList 8 1 5 0 4 by decide +kernel)),
      (Step.hi 8 1 5 (show Step mergeList 8 1 5 0 4 by decide +kernel)),
      (Step.lo 9 2 6 (show Step mergeList 9 2 6 1 5 by decide +kernel)),
      (Step.hi 9 2 6 (show Step mergeList 9 2 6 1 5 by decide +kernel)),
      (Step.lo 10 3 7 (show Step mergeList 10 3 7 2 6 by decide +kernel)),
      (Step.hi 10 3 7 (show Step mergeList 10 3 7 2 6 by decide +kernel)),
      (Step.lo 11 4 8 (show Step mergeList 11 4 8 3 7 by decide +kernel)),
      (Step.hi 11 4 8 (show Step mergeList 11 4 8 3 7 by decide +kernel)),
      (Step.lo 12 1 5 (show Step mergeList 12 1 5 8 12 by decide +kernel)),
      (Step.hi 12 1 5 (show Step mergeList 12 1 5 8 12 by decide +kernel)),
      (Step.lo 13 2 6 (show Step mergeList 13 2 6 9 13 by decide +kernel)),
      (Step.hi 13 2 6 (show Step mergeList 13 2 6 9 13 by decide +kernel)),
      (Step.lo 14 3 7 (show Step mergeList 14 3 7 10 14 by decide +kernel)),
      (Step.hi 14 3 7 (show Step mergeList 14 3 7 10 14 by decide +kernel)),
      (Step.lo 15 4 8 (show Step mergeList 15 4 8 11 15 by decide +kernel)),
      (Step.hi 15 4 8 (show Step mergeList 15 4 8 11 15 by decide +kernel)),
      (Step.lo 16 9 11 (show Step mergeList 16 9 11 0 2 by decide +kernel)),
      (Step.hi 16 9 11 (show Step mergeList 16 9 11 0 2 by decide +kernel)),
      (Step.lo 17 10 12 (show Step mergeList 17 10 12 1 3 by decide +kernel)),
      (Step.hi 17 10 12 (show Step mergeList 17 10 12 1 3 by decide +kernel)),
      (Step.lo 18 9 11 (show Step mergeList 18 9 11 4 6 by decide +kernel)),
      (Step.hi 18 9 11 (show Step mergeList 18 9 11 4 6 by decide +kernel)),
      (Step.lo 19 10 12 (show Step mergeList 19 10 12 5 7 by decide +kernel)),
      (Step.hi 19 10 12 (show Step mergeList 19 10 12 5 7 by decide +kernel)),
      (Step.lo 20 13 15 (show Step mergeList 20 13 15 8 10 by decide +kernel)),
      (Step.hi 20 13 15 (show Step mergeList 20 13 15 8 10 by decide +kernel)),
      (Step.lo 21 14 16 (show Step mergeList 21 14 16 9 11 by decide +kernel)),
      (Step.hi 21 14 16 (show Step mergeList 21 14 16 9 11 by decide +kernel)),
      (Step.lo 22 13 15 (show Step mergeList 22 13 15 12 14 by decide +kernel)),
      (Step.hi 22 13 15 (show Step mergeList 22 13 15 12 14 by decide +kernel)),
      (Step.lo 23 14 16 (show Step mergeList 23 14 16 13 15 by decide +kernel)),
      (Step.hi 23 14 16 (show Step mergeList 23 14 16 13 15 by decide +kernel)),
      (Step.lo 24 17 18 (show Step mergeList 24 17 18 0 1 by decide +kernel)),
      (Step.hi 24 17 18 (show Step mergeList 24 17 18 0 1 by decide +kernel)),
      (Step.lo 25 17 18 (show Step mergeList 25 17 18 2 3 by decide +kernel)),
      (Step.hi 25 17 18 (show Step mergeList 25 17 18 2 3 by decide +kernel)),
      (Step.lo 26 19 20 (show Step mergeList 26 19 20 4 5 by decide +kernel)),
      (Step.hi 26 19 20 (show Step mergeList 26 19 20 4 5 by decide +kernel)),
      (Step.lo 27 19 20 (show Step mergeList 27 19 20 6 7 by decide +kernel)),
      (Step.hi 27 19 20 (show Step mergeList 27 19 20 6 7 by decide +kernel)),
      (Step.lo 28 21 22 (show Step mergeList 28 21 22 8 9 by decide +kernel)),
      (Step.hi 28 21 22 (show Step mergeList 28 21 22 8 9 by decide +kernel)),
      (Step.lo 29 21 22 (show Step mergeList 29 21 22 10 11 by decide +kernel)),
      (Step.hi 29 21 22 (show Step mergeList 29 21 22 10 11 by decide +kernel)),
      (Step.lo 30 23 24 (show Step mergeList 30 23 24 12 13 by decide +kernel)),
      (Step.hi 30 23 24 (show Step mergeList 30 23 24 12 13 by decide +kernel)),
      (Step.lo 31 23 24 (show Step mergeList 31 23 24 14 15 by decide +kernel)),
      (Step.hi 31 23 24 (show Step mergeList 31 23 24 14 15 by decide +kernel)),
      (Last.sort16 39 (show Last sortList 39 0 by decide +kernel)), (Last.sort16 57 (show Last sortList 57 1 by decide +kernel)),
      (Last.sort16 57 (show Last sortList 57 2 by decide +kernel)), (Last.sort16 58 (show Last sortList 58 3 by decide +kernel)),
      (Last.sort16 58 (show Last sortList 58 4 by decide +kernel)), (Last.sort16 59 (show Last sortList 59 5 by decide +kernel)),
      (Last.sort16 59 (show Last sortList 59 6 by decide +kernel)), (Last.sort16 60 (show Last sortList 60 7 by decide +kernel)),
      (Last.sort16 60 (show Last sortList 60 8 by decide +kernel)), (Last.sort16 61 (show Last sortList 61 9 by decide +kernel)),
      (Last.sort16 61 (show Last sortList 61 10 by decide +kernel)), (Last.sort16 62 (show Last sortList 62 11 by decide +kernel)),
      (Last.sort16 62 (show Last sortList 62 12 by decide +kernel)), (Last.sort16 63 (show Last sortList 63 13 by decide +kernel)),
      (Last.sort16 63 (show Last sortList 63 14 by decide +kernel)), (Last.sort16 46 (show Last sortList 46 15 by decide +kernel)),
      (Last.merge 25 (show Last mergeList 25 0 by decide +kernel)), (Last.merge 25 (show Last mergeList 25 1 by decide +kernel)),
      (Last.merge 26 (show Last mergeList 26 2 by decide +kernel)), (Last.merge 26 (show Last mergeList 26 3 by decide +kernel)),
      (Last.merge 27 (show Last mergeList 27 4 by decide +kernel)), (Last.merge 27 (show Last mergeList 27 5 by decide +kernel)),
      (Last.merge 28 (show Last mergeList 28 6 by decide +kernel)), (Last.merge 28 (show Last mergeList 28 7 by decide +kernel)),
      (Last.merge 29 (show Last mergeList 29 8 by decide +kernel)), (Last.merge 29 (show Last mergeList 29 9 by decide +kernel)),
      (Last.merge 30 (show Last mergeList 30 10 by decide +kernel)), (Last.merge 30 (show Last mergeList 30 11 by decide +kernel)),
      (Last.merge 31 (show Last mergeList 31 12 by decide +kernel)), (Last.merge 31 (show Last mergeList 31 13 by decide +kernel)),
      (Last.merge 32 (show Last mergeList 32 14 by decide +kernel)), (Last.merge 32 (show Last mergeList 32 15 by decide +kernel)),
      kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15,
      kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29,
      kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43,
      kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57,
      kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71,
      kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85,
      kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.r_99,
      kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107, kernelRun0_A.sl.r_108, kernelRun0_A.sl.r_109, kernelRun0_A.sl.r_110, kernelRun0_A.sl.r_111, kernelRun0_A.sl.r_112,
      kernelRun0_A.sl.r_113, kernelRun0_A.sl.r_114, kernelRun0_A.sl.r_115, kernelRun0_A.sl.r_116, kernelRun0_A.sl.r_117, kernelRun0_A.sl.r_118, kernelRun0_A.sl.r_119, kernelRun0_A.sl.r_120, kernelRun0_A.sl.r_121, kernelRun0_A.sl.r_122, kernelRun0_A.sl.r_123, kernelRun0_A.sl.r_124, kernelRun0_A.sl.r_125,
      kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138,
      kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151,
      kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.r_160, kernelRun0_A.sl.r_161, kernelRun0_A.sl.r_162, kernelRun0_A.sl.r_163, kernelRun0_A.sl.r_164,
      kernelRun0_A.sl.r_165, kernelRun0_A.sl.r_166, kernelRun0_A.sl.r_167, kernelRun0_A.sl.r_168, kernelRun0_A.sl.r_169, kernelRun0_A.sl.r_170, kernelRun0_A.sl.r_171, kernelRun0_A.sl.r_172, kernelRun0_A.sl.r_173, kernelRun0_A.sl.r_174, kernelRun0_A.sl.r_175, kernelRun0_A.sl.r_176, kernelRun0_A.sl.r_177,
      kernelRun0_A.sl.r_178, kernelRun0_A.sl.r_179, kernelRun0_A.sl.r_180, kernelRun0_A.sl.r_181, kernelRun0_A.sl.r_182, kernelRun0_A.sl.r_183, kernelRun0_A.sl.r_184, kernelRun0_A.sl.r_185, kernelRun0_A.sl.r_186, kernelRun0_A.sl.r_187, kernelRun0_A.sl.r_188, kernelRun0_A.sl.r_189, kernelRun0_A.sl.r_190,
      kernelRun0_A.sl.r_191, kernelRun0_A.sl.r_192, kernelRun0_A.sl.r_193, kernelRun0_A.sl.r_194, kernelRun0_A.sl.r_195, kernelRun0_A.sl.r_196, kernelRun0_A.sl.r_197, kernelRun0_A.sl.r_198, kernelRun0_A.sl.r_199, kernelRun0_A.sl.r_200, kernelRun0_A.sl.r_201, kernelRun0_A.sl.r_202, kernelRun0_A.sl.r_203,
      kernelRun0_A.sl.r_204, kernelRun0_A.sl.r_205, kernelRun0_A.sl.r_206, kernelRun0_A.sl.r_207, kernelRun0_A.sl.r_208, kernelRun0_A.sl.r_209, kernelRun0_A.sl.r_210, kernelRun0_A.sl.r_211, kernelRun0_A.sl.r_212, kernelRun0_A.sl.r_213, kernelRun0_A.sl.r_214, kernelRun0_A.sl.r_215, kernelRun0_A.sl.r_216,
      kernelRun0_A.sl.r_217, kernelRun0_A.sl.r_218, kernelRun0_A.sl.r_219, kernelRun0_A.sl.r_220, kernelRun0_A.sl.r_221, kernelRun0_A.sl.r_222, kernelRun0_A.sl.r_223, kernelRun0_A.sl.r_224, kernelRun0_A.sl.r_225, kernelRun0_A.sl.r_226, kernelRun0_A.sl.r_227, kernelRun0_A.sl.r_228, kernelRun0_A.sl.r_229,
      kernelRun0_A.sl.r_230, kernelRun0_A.sl.r_231, kernelRun0_A.sl.r_232, kernelRun0_A.sl.r_233, kernelRun0_A.sl.r_234, kernelRun0_A.sl.r_235, kernelRun0_A.sl.r_236, kernelRun0_A.sl.r_237, kernelRun0_A.sl.r_238, kernelRun0_A.sl.r_239, kernelRun0_A.sl.r_240, kernelRun0_A.sl.r_241, kernelRun0_A.sl.r_242,
      kernelRun0_A.sl.r_243, kernelRun0_A.sl.r_244, kernelRun0_A.sl.r_245, kernelRun0_A.sl.r_246, kernelRun0_A.sl.r_247, kernelRun0_A.sl.r_248, kernelRun0_A.sl.r_249, kernelRun0_A.sl.r_250, kernelRun0_A.sl.r_251, kernelRun0_A.sl.r_252, kernelRun0_A.sl.r_253, kernelRun0_A.sl.r_254, kernelRun0_A.sl.r_255,
      kernelRun0_A.sl.r_256, kernelRun0_A.sl.r_257, kernelRun0_A.sl.r_258, kernelRun0_A.sl.r_259, kernelRun0_A.sl.r_260, kernelRun0_A.sl.r_261, kernelRun0_A.sl.r_262, kernelRun0_A.sl.r_263, kernelRun0_A.sl.r_264, kernelRun0_A.sl.r_265, kernelRun0_A.sl.r_266, kernelRun0_A.sl.r_267, kernelRun0_A.sl.r_268,
      kernelRun0_A.sl.r_269, kernelRun0_A.sl.r_270, kernelRun0_A.sl.r_271, kernelRun0_A.sl.r_272, kernelRun0_A.sl.r_273, kernelRun0_A.sl.r_274, kernelRun0_A.sl.r_275, kernelRun0_A.sl.r_276, kernelRun0_A.sl.r_277, kernelRun0_A.sl.r_278, kernelRun0_A.sl.r_279, kernelRun0_A.sl.r_280, kernelRun0_A.sl.r_281,
      kernelRun0_A.sl.r_282, kernelRun0_A.sl.r_283, kernelRun0_A.sl.r_284, kernelRun0_A.sl.r_285, kernelRun0_A.sl.r_286, kernelRun0_A.sl.r_287, kernelRun0_A.sl.r_288, kernelRun0_A.sl.r_289, kernelRun0_A.sl.r_290, kernelRun0_A.sl.r_291, kernelRun0_A.sl.r_292, kernelRun0_A.sl.r_293, kernelRun0_A.sl.r_294,
      kernelRun0_A.sl.r_295, kernelRun0_A.sl.r_296, kernelRun0_A.sl.r_297, kernelRun0_A.sl.r_298, kernelRun0_A.sl.r_299, kernelRun0_A.sl.r_300, kernelRun0_A.sl.r_301, kernelRun0_A.sl.r_302, kernelRun0_A.sl.r_303, kernelRun0_A.sl.r_304, kernelRun0_A.sl.r_305, kernelRun0_A.sl.r_306, kernelRun0_A.sl.r_307,
      kernelRun0_A.sl.r_308, kernelRun0_A.sl.r_309, kernelRun0_A.sl.r_310, kernelRun0_A.sl.r_311, kernelRun0_A.sl.r_312, kernelRun0_A.sl.r_313, kernelRun0_A.sl.r_314, kernelRun0_A.sl.r_315, kernelRun0_A.sl.r_316, kernelRun0_A.sl.r_317, kernelRun0_A.sl.r_318, kernelRun0_A.sl.r_319, kernelRun0_A.sl.r_320,
      kernelRun0_A.sl.r_321, kernelRun0_A.sl.r_322, kernelRun0_A.sl.r_323, kernelRun0_A.sl.r_324, kernelRun0_A.sl.r_325, kernelRun0_A.sl.r_326, kernelRun0_A.sl.r_327, kernelRun0_A.sl.r_328, kernelRun0_A.sl.r_329, kernelRun0_A.sl.r_330, kernelRun0_A.sl.r_331, kernelRun0_A.sl.r_332, kernelRun0_A.sl.r_333,
      kernelRun0_A.sl.r_334, kernelRun0_A.sl.r_335, kernelRun0_A.sl.r_336, kernelRun0_A.sl.r_337, kernelRun0_A.sl.r_338, kernelRun0_A.sl.r_339, kernelRun0_A.sl.r_340, kernelRun0_A.sl.r_341, kernelRun0_A.sl.r_342, kernelRun0_A.sl.r_343, kernelRun0_A.sl.r_344, kernelRun0_A.sl.r_345, kernelRun0_A.sl.r_346,
      kernelRun0_A.sl.r_347, kernelRun0_A.sl.r_348, kernelRun0_A.sl.r_349, kernelRun0_A.sl.r_350, kernelRun0_A.sl.r_351, kernelRun0_A.sl.r_352, kernelRun0_A.sl.r_353, kernelRun0_A.sl.r_354, kernelRun0_A.sl.r_355, kernelRun0_A.sl.r_356, kernelRun0_A.sl.r_357, kernelRun0_A.sl.r_358, kernelRun0_A.sl.r_359,
      kernelRun0_A.sl.r_360, kernelRun0_A.sl.r_361, kernelRun0_A.sl.r_362, kernelRun0_A.sl.r_363, kernelRun0_A.sl.r_364, kernelRun0_A.sl.r_365, kernelRun0_A.sl.r_366, kernelRun0_A.sl.r_367, kernelRun0_A.sl.r_368, kernelRun0_A.sl.r_369, kernelRun0_A.sl.r_370, kernelRun0_A.sl.r_371, kernelRun0_A.sl.r_372,
      kernelRun0_A.sl.r_373, kernelRun0_A.sl.r_374, kernelRun0_A.sl.r_375, kernelRun0_A.sl.r_376, kernelRun0_A.sl.r_377, kernelRun0_A.sl.r_378, kernelRun0_A.sl.r_379, kernelRun0_A.sl.r_380, kernelRun0_A.sl.r_381, kernelRun0_A.sl.r_382, kernelRun0_A.sl.r_383, kernelRun0_A.sl.r_384, kernelRun0_A.sl.r_385,
      kernelRun0_A.sl.r_386, kernelRun0_A.sl.r_387, kernelRun0_A.sl.r_388, kernelRun0_A.sl.r_389, kernelRun0_A.sl.r_390, kernelRun0_A.sl.r_391, kernelRun0_A.sl.r_392, kernelRun0_A.sl.r_393, kernelRun0_A.sl.r_394, kernelRun0_A.sl.r_395, kernelRun0_A.sl.r_396, kernelRun0_A.sl.r_397, kernelRun0_A.sl.r_398,
      kernelRun0_A.sl.r_399, kernelRun0_A.sl.r_400, kernelRun0_A.sl.r_401, kernelRun0_A.sl.r_402, kernelRun0_A.sl.r_403, kernelRun0_A.sl.r_404, kernelRun0_A.sl.r_405, kernelRun0_A.sl.r_406, kernelRun0_A.sl.r_407, kernelRun0_A.sl.r_408, kernelRun0_A.sl.r_409, kernelRun0_A.sl.r_410, kernelRun0_A.sl.r_411,
      kernelRun0_A.sl.r_412, kernelRun0_A.sl.r_413, kernelRun0_A.sl.r_414, kernelRun0_A.sl.r_415, kernelRun0_A.sl.r_416, kernelRun0_A.sl.r_417, kernelRun0_A.sl.r_418, kernelRun0_A.sl.r_419, kernelRun0_A.sl.r_420, kernelRun0_A.sl.r_421, kernelRun0_A.sl.r_422, kernelRun0_A.sl.r_423, kernelRun0_A.sl.r_424,
      kernelRun0_A.sl.r_425, kernelRun0_A.sl.r_426, kernelRun0_A.sl.r_427, kernelRun0_A.sl.r_428, kernelRun0_A.sl.r_429, kernelRun0_A.sl.r_430, kernelRun0_A.sl.r_431, kernelRun0_A.sl.r_432, kernelRun0_A.sl.r_433, kernelRun0_A.sl.r_434, kernelRun0_A.sl.r_435, kernelRun0_A.sl.r_436, kernelRun0_A.sl.r_437,
      kernelRun0_A.sl.r_438, kernelRun0_A.sl.r_439, kernelRun0_A.sl.r_440, kernelRun0_A.sl.r_441, kernelRun0_A.sl.r_442, kernelRun0_A.sl.r_443, kernelRun0_A.sl.r_444, kernelRun0_A.sl.r_445, kernelRun0_A.sl.r_446, kernelRun0_A.sl.r_447, kernelRun0_A.sl.r_448, kernelRun0_A.sl.r_449, kernelRun0_A.sl.r_450,
      kernelRun0_A.sl.r_451, kernelRun0_A.sl.r_452, kernelRun0_A.sl.r_453, kernelRun0_A.sl.r_454, kernelRun0_A.sl.r_455, kernelRun0_A.sl.r_456, kernelRun0_A.sl.r_457, kernelRun0_A.sl.r_458, kernelRun0_A.sl.r_459, kernelRun0_A.sl.r_460, kernelRun0_A.sl.r_461, kernelRun0_A.sl.r_462, kernelRun0_A.sl.r_463,
      kernelRun0_A.sl.r_464, kernelRun0_A.sl.r_465, kernelRun0_A.sl.r_466, kernelRun0_A.sl.r_467, kernelRun0_A.sl.r_468, kernelRun0_A.sl.r_469, kernelRun0_A.sl.r_470, kernelRun0_A.sl.r_471, kernelRun0_A.sl.r_472, kernelRun0_A.sl.r_473, kernelRun0_A.sl.r_474, kernelRun0_A.sl.r_475, kernelRun0_A.sl.r_476,
      kernelRun0_A.sl.r_477, kernelRun0_A.sl.r_478, kernelRun0_A.sl.r_479, kernelRun0_A.sl.r_480, kernelRun0_A.sl.r_481, kernelRun0_A.sl.r_482, kernelRun0_A.sl.r_483, kernelRun0_A.sl.r_484, kernelRun0_A.sl.r_485, kernelRun0_A.sl.r_486, kernelRun0_A.sl.r_487, kernelRun0_A.sl.r_488, kernelRun0_A.sl.r_489,
      kernelRun0_A.sl.r_490, kernelRun0_A.sl.r_491, kernelRun0_A.sl.r_492, kernelRun0_A.sl.r_493, kernelRun0_A.sl.r_494, kernelRun0_A.sl.r_495, kernelRun0_A.sl.r_496, kernelRun0_A.sl.r_497, kernelRun0_A.sl.r_498, kernelRun0_A.sl.r_499, kernelRun0_A.sl.r_500, kernelRun0_A.sl.r_501, kernelRun0_A.sl.r_502,
      kernelRun0_A.sl.r_503, kernelRun0_A.sl.r_504, kernelRun0_A.sl.r_505, kernelRun0_A.sl.r_506, kernelRun0_A.sl.r_507, kernelRun0_A.sl.r_508, kernelRun0_A.sl.r_509, kernelRun0_A.sl.r_510, kernelRun0_A.sl.r_511, kernelRun0_A.sl.r_512, kernelRun0_A.sl.r_513, kernelRun0_A.sl.r_514, kernelRun0_A.sl.r_515,
      kernelRun0_A.sl.r_516, kernelRun0_A.sl.r_517, kernelRun0_A.sl.r_518, kernelRun0_A.sl.r_519, kernelRun0_A.sl.r_520, kernelRun0_A.sl.r_521, kernelRun0_A.sl.r_522, kernelRun0_A.sl.r_523, kernelRun0_A.sl.r_524, kernelRun0_A.sl.r_525, kernelRun0_A.sl.r_526, kernelRun0_A.sl.r_527, kernelRun0_A.sl.r_528,
      kernelRun0_A.sl.r_529, kernelRun0_A.sl.r_530, kernelRun0_A.sl.r_531, kernelRun0_A.sl.r_532, kernelRun0_A.sl.r_533, kernelRun0_A.sl.r_534, kernelRun0_A.sl.r_535, kernelRun0_A.sl.r_536, kernelRun0_A.sl.r_537, kernelRun0_A.sl.r_538, kernelRun0_A.sl.r_539, kernelRun0_A.sl.r_540, kernelRun0_A.sl.r_541,
      kernelRun0_A.sl.r_542, kernelRun0_A.sl.r_543, kernelRun0_A.sl.r_544, kernelRun0_A.sl.r_545, kernelRun0_A.sl.r_546, kernelRun0_A.sl.r_547, kernelRun0_A.sl.r_548, kernelRun0_A.sl.r_549, kernelRun0_A.sl.r_550, kernelRun0_A.sl.r_551, kernelRun0_A.sl.r_552, kernelRun0_A.sl.r_553, kernelRun0_A.sl.r_554,
      kernelRun0_A.sl.r_555, kernelRun0_A.sl.r_556, kernelRun0_A.sl.r_557, kernelRun0_A.sl.r_558, kernelRun0_A.sl.r_559, kernelRun0_A.sl.r_560, kernelRun0_A.sl.r_561, kernelRun0_A.sl.r_562, kernelRun0_A.sl.r_563, kernelRun0_A.sl.r_564, kernelRun0_A.sl.r_565, kernelRun0_A.sl.r_566, kernelRun0_A.sl.r_567,
      kernelRun0_A.sl.r_568, kernelRun0_A.sl.r_569, kernelRun0_A.sl.r_570, kernelRun0_A.sl.r_571, kernelRun0_A.sl.r_572, kernelRun0_A.sl.r_573, kernelRun0_A.sl.r_574, kernelRun0_A.sl.r_575, kernelRun0_A.sl.r_576, kernelRun0_A.sl.r_577, kernelRun0_A.sl.r_578, kernelRun0_A.sl.r_579, kernelRun0_A.sl.r_580,
      kernelRun0_A.sl.r_581, kernelRun0_A.sl.r_582, kernelRun0_A.sl.r_583, kernelRun0_A.sl.r_584, kernelRun0_A.sl.r_585, kernelRun0_A.sl.r_586, kernelRun0_A.sl.r_587, kernelRun0_A.sl.r_588, kernelRun0_A.sl.r_589, kernelRun0_A.sl.r_590, kernelRun0_A.sl.r_591, kernelRun0_A.sl.r_592, kernelRun0_A.sl.r_593,
      kernelRun0_A.sl.r_594, kernelRun0_A.sl.r_595, kernelRun0_A.sl.r_596, kernelRun0_A.sl.r_597, kernelRun0_A.sl.r_598, kernelRun0_A.sl.r_599, kernelRun0_A.sl.r_600, kernelRun0_A.sl.r_601, kernelRun0_A.sl.r_602, kernelRun0_A.sl.r_603, kernelRun0_A.sl.r_604, kernelRun0_A.sl.r_605, kernelRun0_A.sl.r_606,
      kernelRun0_A.sl.r_607, kernelRun0_A.sl.r_608, kernelRun0_A.sl.r_609, kernelRun0_A.sl.r_610, kernelRun0_A.sl.r_611, kernelRun0_A.sl.r_612, kernelRun0_A.sl.r_613, kernelRun0_A.sl.r_614, kernelRun0_A.sl.r_615, kernelRun0_A.sl.r_616, kernelRun0_A.sl.r_617, kernelRun0_A.sl.r_618, kernelRun0_A.sl.r_619,
      kernelRun0_A.sl.r_620, kernelRun0_A.sl.r_621, kernelRun0_A.sl.r_622, kernelRun0_A.sl.r_623, kernelRun0_A.sl.r_624, kernelRun0_A.sl.r_625, kernelRun0_A.sl.r_626, kernelRun0_A.sl.r_627, kernelRun0_A.sl.r_628, kernelRun0_A.sl.r_629, kernelRun0_A.sl.r_630, kernelRun0_A.sl.r_631, kernelRun0_A.sl.r_632,
      kernelRun0_A.sl.r_633, kernelRun0_A.sl.r_634, kernelRun0_A.sl.r_635, kernelRun0_A.sl.r_636, kernelRun0_A.sl.r_637, kernelRun0_A.sl.r_638, kernelRun0_A.sl.r_639, kernelRun0_A.sl.r_640, kernelRun0_A.sl.r_641, kernelRun0_A.sl.r_642, kernelRun0_A.sl.r_643, kernelRun0_A.sl.r_644, kernelRun0_A.sl.r_645,
      kernelRun0_A.sl.r_646, kernelRun0_A.sl.r_647, kernelRun0_A.sl.r_648, kernelRun0_A.sl.r_649, kernelRun0_A.sl.r_650, kernelRun0_A.sl.r_651, kernelRun0_A.sl.r_652, kernelRun0_A.sl.r_653, kernelRun0_A.sl.r_654, kernelRun0_A.sl.r_655, kernelRun0_A.sl.r_656, kernelRun0_A.sl.r_657, kernelRun0_A.sl.r_658,
      kernelRun0_A.sl.r_659, kernelRun0_A.sl.r_660, kernelRun0_A.sl.r_661, kernelRun0_A.sl.r_662, kernelRun0_A.sl.r_663, kernelRun0_A.sl.r_664, kernelRun0_A.sl.r_665, kernelRun0_A.sl.r_666, kernelRun0_A.sl.r_667, kernelRun0_A.sl.r_668, kernelRun0_A.sl.r_669, kernelRun0_A.sl.r_670, kernelRun0_A.sl.r_671,
      kernelRun0_A.sl.r_672, kernelRun0_A.sl.r_673, kernelRun0_A.sl.r_674, kernelRun0_A.sl.r_675, kernelRun0_A.sl.r_676, kernelRun0_A.sl.r_677, kernelRun0_A.sl.r_678, kernelRun0_A.sl.r_679, kernelRun0_A.sl.r_680, kernelRun0_A.sl.r_681, kernelRun0_A.sl.r_682, kernelRun0_A.sl.r_683, kernelRun0_A.sl.r_684,
      kernelRun0_A.sl.r_685, kernelRun0_A.sl.r_686, kernelRun0_A.sl.r_687, kernelRun0_A.sl.r_688, kernelRun0_A.sl.r_689, kernelRun0_A.sl.r_690, kernelRun0_A.sl.r_691, kernelRun0_A.sl.r_692, kernelRun0_A.sl.r_693, kernelRun0_A.sl.r_694, kernelRun0_A.sl.r_695, kernelRun0_A.sl.r_696, kernelRun0_A.sl.r_697,
      kernelRun0_A.sl.r_698, kernelRun0_A.sl.r_699, kernelRun0_A.sl.r_700, kernelRun0_A.sl.r_701, kernelRun0_A.sl.r_702, kernelRun0_A.sl.r_703, kernelRun0_A.sl.r_704, kernelRun0_A.sl.r_705, kernelRun0_A.sl.r_706, kernelRun0_A.sl.r_707, kernelRun0_A.sl.r_708, kernelRun0_A.sl.r_709, kernelRun0_A.sl.r_710,
      kernelRun0_A.sl.r_711, kernelRun0_A.sl.r_712, kernelRun0_A.sl.r_713, kernelRun0_A.sl.r_714, kernelRun0_A.sl.r_715, kernelRun0_A.sl.r_716, kernelRun0_A.sl.r_717, kernelRun0_A.sl.r_718, kernelRun0_A.sl.r_719, kernelRun0_A.sl.r_720, kernelRun0_A.sl.r_721, kernelRun0_A.sl.r_722, kernelRun0_A.sl.r_723,
      kernelRun0_A.sl.r_724, kernelRun0_A.sl.r_725, kernelRun0_A.sl.r_726, kernelRun0_A.sl.r_727, kernelRun0_A.sl.r_728, kernelRun0_A.sl.r_729, kernelRun0_A.sl.r_730, kernelRun0_A.sl.r_731, kernelRun0_A.sl.r_732, kernelRun0_A.sl.r_733, kernelRun0_A.sl.r_734, kernelRun0_A.sl.r_735, kernelRun0_A.sl.r_736,
      kernelRun0_A.sl.r_737, kernelRun0_A.sl.r_738, kernelRun0_A.sl.r_739, kernelRun0_A.sl.r_740, kernelRun0_A.sl.r_741, kernelRun0_A.sl.r_742, kernelRun0_A.sl.r_743, kernelRun0_A.sl.r_744, kernelRun0_A.sl.r_745, kernelRun0_A.sl.r_746, kernelRun0_A.sl.r_747, kernelRun0_A.sl.r_748, kernelRun0_A.sl.r_749,
      kernelRun0_A.sl.r_750, kernelRun0_A.sl.r_751, kernelRun0_A.sl.r_752, kernelRun0_A.sl.r_753, kernelRun0_A.sl.r_754, kernelRun0_A.sl.r_755, kernelRun0_A.sl.r_756, kernelRun0_A.sl.r_757, kernelRun0_A.sl.r_758, kernelRun0_A.sl.r_759, kernelRun0_A.sl.r_760, kernelRun0_A.sl.r_761, kernelRun0_A.sl.r_762,
      kernelRun0_A.sl.r_763, kernelRun0_A.sl.r_764, kernelRun0_A.sl.r_765, kernelRun0_A.sl.r_766, kernelRun0_A.sl.r_767, kernelRun0_A.sl.r_768, kernelRun0_A.sl.r_769, kernelRun0_A.sl.r_770, kernelRun0_A.sl.r_771, kernelRun0_A.sl.r_772, kernelRun0_A.sl.r_773, kernelRun0_A.sl.r_774, kernelRun0_A.sl.r_775,
      kernelRun0_A.sl.r_776, kernelRun0_A.sl.r_777, kernelRun0_A.sl.r_778, kernelRun0_A.sl.r_779, kernelRun0_A.sl.r_780, kernelRun0_A.sl.r_781, kernelRun0_A.sl.r_782, kernelRun0_A.sl.r_783, kernelRun0_A.sl.r_784, kernelRun0_A.sl.r_785, kernelRun0_A.sl.r_786, kernelRun0_A.sl.r_787, kernelRun0_A.sl.r_788,
      kernelRun0_A.sl.r_789, kernelRun0_A.sl.r_790, kernelRun0_A.sl.r_791, kernelRun0_A.sl.r_792, kernelRun0_A.sl.r_793, kernelRun0_A.sl.r_794, kernelRun0_A.sl.r_795, kernelRun0_A.sl.r_796, kernelRun0_A.sl.r_797, kernelRun0_A.sl.r_798, kernelRun0_A.sl.r_799, kernelRun0_A.sl.r_800, kernelRun0_A.sl.r_801,
      kernelRun0_A.sl.r_802, kernelRun0_A.sl.r_803, kernelRun0_A.sl.r_804, kernelRun0_A.sl.r_805, kernelRun0_A.sl.r_806, kernelRun0_A.sl.r_807, kernelRun0_A.sl.r_808, kernelRun0_A.sl.r_809, kernelRun0_A.sl.r_810, kernelRun0_A.sl.r_811, kernelRun0_A.sl.r_812, kernelRun0_A.sl.r_813, kernelRun0_A.sl.r_814,
      kernelRun0_A.sl.r_815, kernelRun0_A.sl.r_816, kernelRun0_A.sl.r_817, kernelRun0_A.sl.r_818, kernelRun0_A.sl.r_819, kernelRun0_A.sl.r_820, kernelRun0_A.sl.r_821, kernelRun0_A.sl.r_822, kernelRun0_A.sl.r_823, kernelRun0_A.sl.r_824, kernelRun0_A.sl.r_825, kernelRun0_A.sl.r_826, kernelRun0_A.sl.r_827,
      kernelRun0_A.sl.r_828, kernelRun0_A.sl.r_829, kernelRun0_A.sl.r_830, kernelRun0_A.sl.r_831, kernelRun0_A.sl.r_832, kernelRun0_A.sl.r_833, kernelRun0_A.sl.r_834, kernelRun0_A.sl.r_835, kernelRun0_A.sl.r_836, kernelRun0_A.sl.r_837, kernelRun0_A.sl.r_838, kernelRun0_A.sl.r_839, kernelRun0_A.sl.r_840,
      kernelRun0_A.sl.r_841, kernelRun0_A.sl.r_842, kernelRun0_A.sl.r_843, kernelRun0_A.sl.r_844, kernelRun0_A.sl.r_845, kernelRun0_A.sl.r_846, kernelRun0_A.sl.r_847, kernelRun0_A.sl.r_848, kernelRun0_A.sl.r_849, kernelRun0_A.sl.r_850, kernelRun0_A.sl.r_851, kernelRun0_A.sl.r_852, kernelRun0_A.sl.r_853,
      kernelRun0_A.sl.r_854, kernelRun0_A.sl.r_855, kernelRun0_A.sl.r_856, kernelRun0_A.sl.r_857, kernelRun0_A.sl.r_858, kernelRun0_A.sl.r_859, kernelRun0_A.sl.r_860, kernelRun0_A.sl.r_861, kernelRun0_A.sl.r_862, kernelRun0_A.sl.r_863, kernelRun0_A.sl.r_864, kernelRun0_A.sl.r_865, kernelRun0_A.sl.r_866,
      kernelRun0_A.sl.r_867, kernelRun0_A.sl.r_868, kernelRun0_A.sl.r_869, kernelRun0_A.sl.r_870, kernelRun0_A.sl.r_871, kernelRun0_A.sl.r_872, kernelRun0_A.sl.r_873, kernelRun0_A.sl.r_874, kernelRun0_A.sl.r_875, kernelRun0_A.sl.r_876, kernelRun0_A.sl.r_877, kernelRun0_A.sl.r_878, kernelRun0_A.sl.r_879,
      kernelRun0_A.sl.r_880, kernelRun0_A.sl.r_881, kernelRun0_A.sl.r_882, kernelRun0_A.sl.r_883, kernelRun0_A.sl.r_884, kernelRun0_A.sl.r_885, kernelRun0_A.sl.r_886, kernelRun0_A.sl.r_887, kernelRun0_A.sl.r_888, kernelRun0_A.sl.r_889, kernelRun0_A.sl.r_890, kernelRun0_A.sl.r_891, kernelRun0_A.sl.r_892,
      kernelRun0_A.sl.r_893, kernelRun0_A.sl.r_894, kernelRun0_A.sl.r_895, kernelRun0_A.sl.r_896, kernelRun0_A.sl.r_897, kernelRun0_A.sl.r_898, kernelRun0_A.sl.r_899, kernelRun0_A.sl.r_900, kernelRun0_A.sl.r_901, kernelRun0_A.sl.r_902, kernelRun0_A.sl.r_903, kernelRun0_A.sl.r_904, kernelRun0_A.sl.r_905,
      kernelRun0_A.sl.r_906, kernelRun0_A.sl.r_907, kernelRun0_A.sl.r_908, kernelRun0_A.sl.r_909, kernelRun0_A.sl.r_910, kernelRun0_A.sl.r_911, kernelRun0_A.sl.r_912, kernelRun0_A.sl.r_913, kernelRun0_A.sl.r_914, kernelRun0_A.sl.r_915, kernelRun0_A.sl.r_916, kernelRun0_A.sl.r_917, kernelRun0_A.sl.r_918,
      kernelRun0_A.sl.r_919, kernelRun0_A.sl.r_920, kernelRun0_A.sl.r_921, kernelRun0_A.sl.r_922, kernelRun0_A.sl.r_923, kernelRun0_A.sl.r_924, kernelRun0_A.sl.r_925, kernelRun0_A.sl.r_926, kernelRun0_A.sl.r_927, kernelRun0_A.sl.r_928, kernelRun0_A.sl.r_929, kernelRun0_A.sl.r_930, kernelRun0_A.sl.r_931,
      kernelRun0_A.sl.r_932, kernelRun0_A.sl.r_933, kernelRun0_A.sl.r_934, kernelRun0_A.sl.r_935, kernelRun0_A.sl.r_936, kernelRun0_A.sl.r_937, kernelRun0_A.sl.r_938, kernelRun0_A.sl.r_939, kernelRun0_A.sl.r_940, kernelRun0_A.sl.r_941, kernelRun0_A.sl.r_942, kernelRun0_A.sl.r_943, kernelRun0_A.sl.r_944,
      kernelRun0_A.sl.r_945, kernelRun0_A.sl.r_946, kernelRun0_A.sl.r_947, kernelRun0_A.sl.r_948, kernelRun0_A.sl.r_949, kernelRun0_A.sl.r_950, kernelRun0_A.sl.r_951, kernelRun0_A.sl.r_952, kernelRun0_A.sl.r_953, kernelRun0_A.sl.r_954, kernelRun0_A.sl.r_955, kernelRun0_A.sl.r_956, kernelRun0_A.sl.r_957,
      kernelRun0_A.sl.r_958, kernelRun0_A.sl.r_959, kernelRun0_A.sl.r_960, kernelRun0_A.sl.r_961, kernelRun0_A.sl.r_962, kernelRun0_A.sl.r_963, kernelRun0_A.sl.r_964, kernelRun0_A.sl.r_965, kernelRun0_A.sl.r_966, kernelRun0_A.sl.r_967, kernelRun0_A.sl.r_968, kernelRun0_A.sl.r_969, kernelRun0_A.sl.r_970,
      kernelRun0_A.sl.r_971, kernelRun0_A.sl.r_972, kernelRun0_A.sl.r_973, kernelRun0_A.sl.r_974, kernelRun0_A.sl.r_975, kernelRun0_A.sl.r_976, kernelRun0_A.sl.r_977, kernelRun0_A.sl.r_978, kernelRun0_A.sl.r_979, kernelRun0_A.sl.r_980, kernelRun0_A.sl.r_981, kernelRun0_A.sl.r_982, kernelRun0_A.sl.r_983,
      kernelRun0_A.sl.r_984, kernelRun0_A.sl.r_985, kernelRun0_A.sl.r_986, kernelRun0_A.sl.r_987, kernelRun0_A.sl.r_988, kernelRun0_A.sl.r_989, kernelRun0_A.sl.r_990, kernelRun0_A.sl.r_991, kernelRun0_A.sl.r_992, kernelRun0_A.sl.r_993, kernelRun0_A.sl.r_994, kernelRun0_A.sl.r_995, kernelRun0_A.sl.r_996,
      kernelRun0_A.sl.r_997, kernelRun0_A.sl.r_998, kernelRun0_A.sl.r_999, kernelRun0_A.sl.r_1000, kernelRun0_A.sl.r_1001, kernelRun0_A.sl.r_1002, kernelRun0_A.sl.r_1003, kernelRun0_A.sl.r_1004, kernelRun0_A.sl.r_1005, kernelRun0_A.sl.r_1006, kernelRun0_A.sl.r_1007, kernelRun0_A.sl.r_1008,
      kernelRun0_A.sl.r_1009, kernelRun0_A.sl.r_1010, kernelRun0_A.sl.r_1011, kernelRun0_A.sl.r_1012, kernelRun0_A.sl.r_1013, kernelRun0_A.sl.r_1014, kernelRun0_A.sl.r_1015, kernelRun0_A.sl.r_1016, kernelRun0_A.sl.r_1017, kernelRun0_A.sl.r_1018, kernelRun0_A.sl.r_1019, kernelRun0_A.sl.r_1020,
      kernelRun0_A.sl.r_1021, kernelRun0_A.sl.r_1022, kernelRun0_A.sl.r_1023, kernelRun0_A.sl.r_1024, kernelRun0_A.sl.r_1025, kernelRun0_A.sl.r_1026, kernelRun0_A.sl.r_1027, kernelRun0_A.sl.r_1028, kernelRun0_A.sl.r_1029, kernelRun0_A.sl.r_1030, kernelRun0_A.sl.r_1031, kernelRun0_A.sl.r_1032,
      kernelRun0_A.sl.r_1033, kernelRun0_A.sl.r_1034, kernelRun0_A.sl.r_1035, kernelRun0_A.sl.r_1036, kernelRun0_A.sl.r_1037, kernelRun0_A.sl.r_1038, kernelRun0_A.sl.r_1039, kernelRun0_A.sl.r_1040, kernelRun0_A.sl.r_1041, kernelRun0_A.sl.r_1042, kernelRun0_A.sl.r_1043, kernelRun0_A.sl.r_1044,
      kernelRun0_A.sl.r_1045, kernelRun0_A.sl.r_1046, kernelRun0_A.sl.r_1047, kernelRun0_A.sl.r_1048, kernelRun0_A.sl.r_1049, kernelRun0_A.sl.r_1050, kernelRun0_A.sl.r_1051, kernelRun0_A.sl.r_1052, kernelRun0_A.sl.r_1053, kernelRun0_A.sl.r_1054, kernelRun0_A.sl.r_1055, kernelRun0_A.sl.r_1056,
      kernelRun0_A.sl.r_1057, kernelRun0_A.sl.r_1058, kernelRun0_A.sl.r_1059, kernelRun0_A.sl.r_1060, kernelRun0_A.sl.r_1061, kernelRun0_A.sl.r_1062, kernelRun0_A.sl.r_1063, kernelRun0_A.sl.r_1064, kernelRun0_A.sl.r_1065, kernelRun0_A.sl.r_1066, kernelRun0_A.sl.r_1067, kernelRun0_A.sl.r_1068,
      kernelRun0_A.sl.r_1069, kernelRun0_A.sl.r_1070, kernelRun0_A.sl.r_1071, kernelRun0_A.sl.r_1072, kernelRun0_A.sl.r_1073, kernelRun0_A.sl.r_1074, kernelRun0_A.sl.r_1075, kernelRun0_A.sl.r_1076, kernelRun0_A.sl.r_1077, kernelRun0_A.sl.r_1078, kernelRun0_A.sl.r_1079, kernelRun0_A.sl.r_1080,
      kernelRun0_A.sl.r_1081, kernelRun0_A.sl.r_1082, kernelRun0_A.sl.r_1083, kernelRun0_A.sl.r_1084, kernelRun0_A.sl.r_1085, kernelRun0_A.sl.r_1086, kernelRun0_A.sl.r_1087, kernelRun0_A.sl.r_1088, kernelRun0_A.sl.r_1089, kernelRun0_A.sl.r_1090, kernelRun0_A.sl.r_1091, kernelRun0_A.sl.r_1092,
      kernelRun0_A.sl.r_1093, kernelRun0_A.sl.r_1094, kernelRun0_A.sl.r_1095, kernelRun0_A.sl.r_1096, kernelRun0_A.sl.r_1097, kernelRun0_A.sl.r_1098, kernelRun0_A.sl.r_1099, kernelRun0_A.sl.r_1100, kernelRun0_A.sl.r_1101, kernelRun0_A.sl.r_1102, kernelRun0_A.sl.r_1103, kernelRun0_A.sl.r_1104,
      kernelRun0_A.sl.r_1105, kernelRun0_A.sl.r_1106, kernelRun0_A.sl.r_1107, kernelRun0_A.sl.r_1108, kernelRun0_A.sl.r_1109, kernelRun0_A.sl.r_1110, kernelRun0_A.sl.r_1111, kernelRun0_A.sl.r_1112, kernelRun0_A.sl.r_1113, kernelRun0_A.sl.r_1114, kernelRun0_A.sl.r_1115, kernelRun0_A.sl.r_1116,
      kernelRun0_A.sl.r_1117, kernelRun0_A.sl.r_1118, kernelRun0_A.sl.r_1119, kernelRun0_A.sl.r_1120, kernelRun0_A.sl.r_1121, kernelRun0_A.sl.r_1122, kernelRun0_A.sl.r_1123, kernelRun0_A.sl.r_1124, kernelRun0_A.sl.r_1125, kernelRun0_A.sl.r_1126, kernelRun0_A.sl.r_1127, kernelRun0_A.sl.r_1128,
      kernelRun0_A.sl.r_1129, kernelRun0_A.sl.r_1130, kernelRun0_A.sl.r_1131, kernelRun0_A.sl.r_1132, kernelRun0_A.sl.r_1133, kernelRun0_A.sl.r_1134, kernelRun0_A.sl.r_1135, kernelRun0_A.sl.r_1136, kernelRun0_A.sl.r_1137, kernelRun0_A.sl.r_1138, kernelRun0_A.sl.r_1139, kernelRun0_A.sl.r_1140,
      kernelRun0_A.sl.r_1141, kernelRun0_A.sl.r_1142, kernelRun0_A.sl.r_1143, kernelRun0_A.sl.r_1144, kernelRun0_A.sl.r_1145, kernelRun0_A.sl.r_1146, kernelRun0_A.sl.r_1147, kernelRun0_A.sl.r_1148, kernelRun0_A.sl.r_1149, kernelRun0_A.sl.v4, kernelRun0_A.sl.v5, kernelRun0_A.sl.v6, kernelRun0_A.sl.v448,
      kernelRun0_A.sl.v449, kernelRun0_A.sl.v450, kernelRun0_A.sl.v451, kernelRun0_A.sl.v452, kernelRun0_A.sl.v453, kernelRun0_A.sl.v454, kernelRun0_A.sl.v455, kernelRun0_A.sl.v456, kernelRun0_A.sl.v457, kernelRun0_A.sl.v458, kernelRun0_A.sl.v459, kernelRun0_A.sl.v460, kernelRun0_A.sl.v461, kernelRun0_A.sl.v462,
      kernelRun0_A.sl.v463, kernelRun0_A.sl.v464, kernelRun0_A.sl.v465, kernelRun0_A.sl.v466, kernelRun0_A.sl.v467, kernelRun0_A.sl.v468, kernelRun0_A.sl.v469, kernelRun0_A.sl.v470, kernelRun0_A.sl.v471, kernelRun0_A.sl.v472, kernelRun0_A.sl.v473, kernelRun0_A.sl.v474, kernelRun0_A.sl.v475, kernelRun0_A.sl.v476,
      kernelRun0_A.sl.v477, kernelRun0_A.sl.v478, kernelRun0_A.sl.v479, kernelRun0_A.sl.v480, kernelRun0_A.sl.v481, kernelRun0_A.sl.v482, kernelRun0_A.sl.v483, kernelRun0_A.sl.v484, kernelRun0_A.sl.v485, kernelRun0_A.sl.v486, kernelRun0_A.sl.v487, kernelRun0_A.sl.v488, kernelRun0_A.sl.v489, kernelRun0_A.sl.v490,
      kernelRun0_A.sl.v491, kernelRun0_A.sl.v492, kernelRun0_A.sl.v493, kernelRun0_A.sl.v494, kernelRun0_A.sl.v495, kernelRun0_A.sl.v496, kernelRun0_A.sl.v497, kernelRun0_A.sl.v498, kernelRun0_A.sl.v499, kernelRun0_A.sl.v500, kernelRun0_A.sl.v501, kernelRun0_A.sl.v502, kernelRun0_A.sl.v503, kernelRun0_A.sl.v504,
      kernelRun0_A.sl.v505, kernelRun0_A.sl.v506, kernelRun0_A.sl.v507, kernelRun0_A.sl.v508, kernelRun0_A.sl.v509, kernelRun0_A.sl.v510, kernelRun0_A.sl.v511, kernelRun0_A.sl.v512, kernelRun0_A.sl.v513, kernelRun0_A.sl.v514, kernelRun0_A.sl.v515, kernelRun0_A.sl.v516, kernelRun0_A.sl.v517, kernelRun0_A.sl.v518,
      kernelRun0_A.sl.v519, kernelRun0_A.sl.v520, kernelRun0_A.sl.v521, kernelRun0_A.sl.v522, kernelRun0_A.sl.v523, kernelRun0_A.sl.v524, kernelRun0_A.sl.v525, kernelRun0_A.sl.v526, kernelRun0_A.sl.v527, kernelRun0_A.sl.v528, kernelRun0_A.sl.v529, kernelRun0_A.sl.v530, kernelRun0_A.sl.v531, kernelRun0_A.sl.v532,
      kernelRun0_A.sl.v533, kernelRun0_A.sl.v534, kernelRun0_A.sl.v535, kernelRun0_A.sl.v536, kernelRun0_A.sl.v537, kernelRun0_A.sl.v538, kernelRun0_A.sl.v540, kernelRun0_A.sl.v541, kernelRun0_A.sl.v543, kernelRun0_A.sl.v544, kernelRun0_A.sl.v546, kernelRun0_A.sl.v547, kernelRun0_A.sl.v549, kernelRun0_A.sl.v550,
      kernelRun0_A.sl.v552, kernelRun0_A.sl.v553, kernelRun0_A.sl.v555, kernelRun0_A.sl.v556, kernelRun0_A.sl.v558, kernelRun0_A.sl.v559, kernelRun0_A.sl.v561, kernelRun0_A.sl.v562, kernelRun0_A.sl.v564, kernelRun0_A.sl.v565, kernelRun0_A.sl.v567, kernelRun0_A.sl.v808, kernelRun0_A.sl.v809, kernelRun0_A.sl.v810,
      kernelRun0_A.sl.v811, kernelRun0_A.sl.v812, kernelRun0_A.sl.v813, kernelRun0_A.sl.v814, kernelRun0_A.sl.v815, kernelRun0_A.sl.v816, kernelRun0_A.sl.v817, kernelRun0_A.sl.v818, kernelRun0_A.sl.v819, kernelRun0_A.sl.v820, kernelRun0_A.sl.v821, kernelRun0_A.sl.v822, kernelRun0_A.sl.v823, kernelRun0_A.sl.v824,
      kernelRun0_A.sl.v825, kernelRun0_A.sl.v826, kernelRun0_A.sl.v827, kernelRun0_A.sl.v828, kernelRun0_A.sl.v829, kernelRun0_A.sl.v830, kernelRun0_A.sl.v831, kernelRun0_A.sl.v832, kernelRun0_A.sl.v833, kernelRun0_A.sl.v834, kernelRun0_A.sl.v835, kernelRun0_A.sl.v836, kernelRun0_A.sl.v837, kernelRun0_A.sl.v838,
      kernelRun0_A.sl.v839, kernelRun0_A.sl.v840, kernelRun0_A.sl.v841, kernelRun0_A.sl.v842, kernelRun0_A.sl.v843, kernelRun0_A.sl.v844, kernelRun0_A.sl.v845, kernelRun0_A.sl.v846, kernelRun0_A.sl.v847, kernelRun0_A.sl.v848, kernelRun0_A.sl.v849, kernelRun0_A.sl.v850, kernelRun0_A.sl.v851, kernelRun0_A.sl.v852,
      kernelRun0_A.sl.v853, kernelRun0_A.sl.v854, kernelRun0_A.sl.v855, kernelRun0_A.sl.v856, kernelRun0_A.sl.v857, kernelRun0_A.sl.v859, kernelRun0_A.sl.v860, kernelRun0_A.sl.v862, kernelRun0_A.sl.v863, kernelRun0_A.sl.v865, kernelRun0_A.sl.v866, kernelRun0_A.sl.v868, kernelRun0_A.sl.v869, kernelRun0_A.sl.v871,
      kernelRun0_A.sl.v872, kernelRun0_A.sl.v874, kernelRun0_A.sl.v875, kernelRun0_A.sl.v877, kernelRun0_A.sl.v878, kernelRun0_A.sl.v880, kernelRun0_A.sl.v881, kernelRun0_A.sl.v883, kernelRun0_A.sl.v884, kernelRun0_A.sl.v886, kernelRun0_A.sl.v887, kernelRun0_A.sl.v889, kernelRun0_A.sl.v890, kernelRun0_A.sl.v891,
      kernelRun0_A.sl.v892, kernelRun0_A.sl.v893, kernelRun0_A.sl.v894, kernelRun0_A.sl.v895, kernelRun0_A.sl.v896, kernelRun0_A.sl.v897, kernelRun0_A.sl.v898, kernelRun0_A.sl.v899, kernelRun0_A.sl.v900, kernelRun0_A.sl.v901, kernelRun0_A.sl.v902, kernelRun0_A.sl.v903, kernelRun0_A.sl.v904, kernelRun0_A.sl.v905,
      kernelRun0_A.sl.v906, kernelRun0_A.sl.v907, kernelRun0_A.sl.v908, kernelRun0_A.sl.v909, kernelRun0_A.sl.v910, kernelRun0_A.sl.v911, kernelRun0_A.sl.v912, kernelRun0_A.sl.v913, kernelRun0_A.sl.v914, kernelRun0_A.sl.v915, kernelRun0_A.sl.v916, kernelRun0_A.sl.v917, kernelRun0_A.sl.v918, kernelRun0_A.sl.v919,
      kernelRun0_A.sl.v920, kernelRun0_A.sl.v921, kernelRun0_A.sl.v922, kernelRun0_A.sl.v923, kernelRun0_A.sl.v924, kernelRun0_A.sl.v925, kernelRun0_A.sl.v926, kernelRun0_A.sl.v927, kernelRun0_A.sl.v1228, kernelRun0_A.sl.v1229, kernelRun0_A.sl.v1230, kernelRun0_A.sl.v1231, kernelRun0_A.sl.v1232, kernelRun0_A.sl.v1233,
      kernelRun0_A.sl.v1234, kernelRun0_A.sl.v1235, kernelRun0_A.sl.v1236, kernelRun0_A.sl.v1237, kernelRun0_A.sl.v1238, kernelRun0_A.sl.v1239, kernelRun0_A.sl.v1240, kernelRun0_A.sl.v1241, kernelRun0_A.sl.v1242, kernelRun0_A.sl.v1243, kernelRun0_A.sl.v1244, kernelRun0_A.sl.v1245, kernelRun0_A.sl.v1246,
      kernelRun0_A.sl.v1247, kernelRun0_A.sl.v1248, kernelRun0_A.sl.v1249, kernelRun0_A.sl.v1250, kernelRun0_A.sl.v1251, kernelRun0_A.sl.v1252, kernelRun0_A.sl.v1253, kernelRun0_A.sl.v1254, kernelRun0_A.sl.v1255, kernelRun0_A.sl.v1256, kernelRun0_A.sl.v1257, kernelRun0_A.sl.v1258, kernelRun0_A.sl.v1259,
      kernelRun0_A.sl.v1260, kernelRun0_A.sl.v1261, kernelRun0_A.sl.v1262, kernelRun0_A.sl.v1263, kernelRun0_A.sl.v1264, kernelRun0_A.sl.v1265, kernelRun0_A.sl.v1266, kernelRun0_A.sl.v1267, kernelRun0_A.sl.v1268, kernelRun0_A.sl.v1269, kernelRun0_A.sl.v1270, kernelRun0_A.sl.v1271, kernelRun0_A.sl.v1272,
      kernelRun0_A.sl.v1273, kernelRun0_A.sl.v1274, kernelRun0_A.sl.v1275, kernelRun0_A.sl.v1277, kernelRun0_A.sl.v1278, kernelRun0_A.sl.v1280, kernelRun0_A.sl.v1281, kernelRun0_A.sl.v1283, kernelRun0_A.sl.v1284, kernelRun0_A.sl.v1286, kernelRun0_A.sl.v1287, kernelRun0_A.sl.v1289, kernelRun0_A.sl.v1290,
      kernelRun0_A.sl.v1291, kernelRun0_A.sl.v1292, kernelRun0_A.sl.v1293, kernelRun0_A.sl.v1294, kernelRun0_A.sl.v1295, kernelRun0_A.sl.v1296, kernelRun0_A.sl.v1297, kernelRun0_A.sl.v1298, kernelRun0_A.sl.v1299, kernelRun0_A.sl.v1300, kernelRun0_A.sl.v1301, kernelRun0_A.sl.v1302, kernelRun0_A.sl.v1303,
      kernelRun0_A.sl.v1304, kernelRun0_A.sl.v1305, kernelRun0_A.sl.v1306, kernelRun0_A.sl.v1307, kernelRun0_A.sl.v1308, kernelRun0_A.sl.v1309, kernelRun0_A.sl.v1310, kernelRun0_A.sl.v1311, kernelRun0_A.sl.v1312, kernelRun0_A.sl.v1313, kernelRun0_A.sl.v1314, kernelRun0_A.sl.v1315, kernelRun0_A.sl.v1316,
      kernelRun0_A.sl.v1317, kernelRun0_A.sl.v1318, kernelRun0_A.sl.v1319, kernelRun0_A.sl.v1320, kernelRun0_A.sl.v1321, kernelRun0_A.sl.v1322, kernelRun0_A.sl.v1323, kernelRun0_A.sl.v1324, kernelRun0_A.sl.v1325, kernelRun0_A.sl.v1326, kernelRun0_A.sl.v1327, kernelRun0_A.sl.v1328, kernelRun0_A.sl.v1329,
      kernelRun0_A.sl.v1330, kernelRun0_A.sl.v1331, kernelRun0_A.sl.v1332, kernelRun0_A.sl.v1333, kernelRun0_A.sl.v1334, kernelRun0_A.sl.v1335, kernelRun0_A.sl.v1336, kernelRun0_A.sl.v1337, kernelRun0_A.sl.v1338, kernelRun0_A.sl.v1340, kernelRun0_A.sl.v1341, kernelRun0_A.sl.v1343, kernelRun0_A.sl.v1344,
      kernelRun0_A.sl.v1346, kernelRun0_A.sl.v1347, kernelRun0_A.sl.v1648, kernelRun0_A.sl.v1649, kernelRun0_A.sl.v1650, kernelRun0_A.sl.v1651, kernelRun0_A.sl.v1652, kernelRun0_A.sl.v1653, kernelRun0_A.sl.v1654, kernelRun0_A.sl.v1655, kernelRun0_A.sl.v1656, kernelRun0_A.sl.v1657, kernelRun0_A.sl.v1658,
      kernelRun0_A.sl.v1659, kernelRun0_A.sl.v1660, kernelRun0_A.sl.v1661, kernelRun0_A.sl.v1662, kernelRun0_A.sl.v1663, kernelRun0_A.sl.v1664, kernelRun0_A.sl.v1665, kernelRun0_A.sl.v1666, kernelRun0_A.sl.v1667, kernelRun0_A.sl.v1668, kernelRun0_A.sl.v1669, kernelRun0_A.sl.v1670, kernelRun0_A.sl.v1671,
      kernelRun0_A.sl.v1672, kernelRun0_A.sl.v1673, kernelRun0_A.sl.v1674, kernelRun0_A.sl.v1675, kernelRun0_A.sl.v1676, kernelRun0_A.sl.v1677, kernelRun0_A.sl.v1678, kernelRun0_A.sl.v1679, kernelRun0_A.sl.v1680, kernelRun0_A.sl.v1681, kernelRun0_A.sl.v1682, kernelRun0_A.sl.v1683, kernelRun0_A.sl.v1684,
      kernelRun0_A.sl.v1685, kernelRun0_A.sl.v1686, kernelRun0_A.sl.v1687, kernelRun0_A.sl.v1688, kernelRun0_A.sl.v1689, kernelRun0_A.sl.v1690, kernelRun0_A.sl.v1691, kernelRun0_A.sl.v1692, kernelRun0_A.sl.v1693, kernelRun0_A.sl.v1694, kernelRun0_A.sl.v1695, kernelRun0_A.sl.v1696, kernelRun0_A.sl.v1697,
      kernelRun0_A.sl.v1698, kernelRun0_A.sl.v1699, kernelRun0_A.sl.v1700, kernelRun0_A.sl.v1701, kernelRun0_A.sl.v1702, kernelRun0_A.sl.v1703, kernelRun0_A.sl.v1704, kernelRun0_A.sl.v1705, kernelRun0_A.sl.v1706, kernelRun0_A.sl.v1707, kernelRun0_A.sl.v1708, kernelRun0_A.sl.v1709, kernelRun0_A.sl.v1710,
      kernelRun0_A.sl.v1711, kernelRun0_A.sl.v1712, kernelRun0_A.sl.v1713, kernelRun0_A.sl.v1714, kernelRun0_A.sl.v1715, kernelRun0_A.sl.v1716, kernelRun0_A.sl.v1717, kernelRun0_A.sl.v1718, kernelRun0_A.sl.v1719, kernelRun0_A.sl.v1720, kernelRun0_A.sl.v1721, kernelRun0_A.sl.v1722, kernelRun0_A.sl.v1723,
      kernelRun0_A.sl.v1724, kernelRun0_A.sl.v1725, kernelRun0_A.sl.v1726, kernelRun0_A.sl.v1727, kernelRun0_A.sl.v1728, kernelRun0_A.sl.v1729, kernelRun0_A.sl.v1730, kernelRun0_A.sl.v1731, kernelRun0_A.sl.v1732, kernelRun0_A.sl.v1733, kernelRun0_A.sl.v1734, kernelRun0_A.sl.v1735, kernelRun0_A.sl.v1736,
      kernelRun0_A.sl.v1737, kernelRun0_A.sl.v1738, kernelRun0_A.sl.v1740, kernelRun0_A.sl.v1741, kernelRun0_A.sl.v1743, kernelRun0_A.sl.v1744, kernelRun0_A.sl.v1746, kernelRun0_A.sl.v1747, kernelRun0_A.sl.v1749, kernelRun0_A.sl.v1750, kernelRun0_A.sl.v1752, kernelRun0_A.sl.v1753, kernelRun0_A.sl.v1755,
      kernelRun0_A.sl.v1756, kernelRun0_A.sl.v1758, kernelRun0_A.sl.v1759, kernelRun0_A.sl.v1761, kernelRun0_A.sl.v1762, kernelRun0_A.sl.v1764, kernelRun0_A.sl.v1765, kernelRun0_A.sl.v1767, kernelRun0_A.sl.v1995, kernelRun0_A.sl.v2005, kernelRun0_A.sl.v2006, kernelRun0_A.sl.v2007, kernelRun0_A.sl.v2009,
      kernelRun0_A.sl.v2010, kernelRun0_A.sl.v2012, kernelRun0_A.sl.v2013, kernelRun0_A.sl.v2015, kernelRun0_A.sl.v2016, kernelRun0_A.sl.v2018, kernelRun0_A.sl.v2019, kernelRun0_A.sl.v2021, kernelRun0_A.sl.v2022, kernelRun0_A.sl.v2024, kernelRun0_A.sl.v2025, kernelRun0_A.sl.v2027, kernelRun0_A.sl.v2028,
      kernelRun0_A.sl.v2030, kernelRun0_A.sl.v2031, kernelRun0_A.sl.v2033, kernelRun0_A.sl.v2034, kernelRun0_A.sl.v2036, kernelRun0_A.sl.v2037, kernelRun0_A.sl.v2039, kernelRun0_A.sl.v2040, kernelRun0_A.sl.v2042, kernelRun0_A.sl.v2043, kernelRun0_A.sl.v2044, kernelRun0_A.sl.v2045, kernelRun0_A.sl.v2046,
      kernelRun0_A.sl.v2047, kernelRun0_A.sl.v2526, kernelRun0_A.sl.v2527, kernelRun0_A.sl.v2528, kernelRun0_A.sl.v2529, kernelRun0_A.sl.v2530, kernelRun0_A.sl.v2531, kernelRun0_A.sl.v2532, kernelRun0_A.sl.v2533, kernelRun0_A.sl.v2534, kernelRun0_A.sl.v2535, kernelRun0_A.sl.v2536, kernelRun0_A.sl.v2537,
      kernelRun0_A.sl.v2538, kernelRun0_A.sl.v2539, kernelRun0_A.sl.v2540, kernelRun0_A.sl.v2541, kernelRun0_A.sl.v2542, kernelRun0_A.sl.v2543, kernelRun0_A.sl.v2544, kernelRun0_A.sl.v2545, kernelRun0_A.sl.v2546, kernelRun0_A.sl.v2547, kernelRun0_A.sl.v2548, kernelRun0_A.sl.v2549, kernelRun0_A.sl.v2550,
      kernelRun0_A.sl.v2551, kernelRun0_A.sl.v2552, kernelRun0_A.sl.v2553, kernelRun0_A.sl.v2554, kernelRun0_A.sl.v2555, kernelRun0_A.sl.v2748, kernelRun0_A.sl.v2779, kernelRun0_A.sl.v2781, kernelRun0_A.sl.v2782, kernelRun0_A.sl.v2783, kernelRun0_A.sl.v2784, kernelRun0_A.sl.v2785, kernelRun0_A.sl.v2786,
      kernelRun0_A.sl.v2789, kernelRun0_A.sl.v2790, kernelRun0_A.sl.v2791, kernelRun0_A.sl.v2793, kernelRun0_A.sl.v2794, kernelRun0_A.sl.v2795, kernelRun0_A.sl.v2797, kernelRun0_A.sl.v2798, kernelRun0_A.sl.v2801, kernelRun0_A.sl.v2802, kernelRun0_A.sl.v2803, kernelRun0_A.sl.v2805, kernelRun0_A.sl.v2806,
      kernelRun0_A.sl.v2807, kernelRun0_A.sl.v2809, kernelRun0_A.sl.v2810, kernelRun0_A.sl.v2811, kernelRun0_A.sl.v2813, kernelRun0_A.sl.v2814, kernelRun0_A.sl.v2817, kernelRun0_A.sl.v2818, kernelRun0_A.sl.v2820,
      k0_pay7, k0_pay8, k0_pay9, k0_pay10, k0_pay11, k0_pay12, k0_pay13, k0_pay14, k0_pay15, k0_pay16, k0_pay17, k0_pay18,
      k0_pay19, k0_pay20, k0_pay21, k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41, k0_pay42, k0_pay43, k0_pay44,
      k0_pay45, k0_pay46, k0_pay47, k0_pay48, k0_pay49, k0_pay50, k0_pay51, k0_pay52, k0_pay53, k0_pay54, k0_pay55, k0_pay56, k0_pay57,
      k0_pay58, k0_pay59, k0_pay60, k0_pay61, k0_pay62, k0_pay63, k0_pay64, k0_pay65, k0_pay66, k0_pay67, k0_pay68, k0_pay69, k0_pay70,
      k0_pay71, k0_pay72, k0_pay73, k0_pay74, k0_pay75, k0_pay76, k0_pay77, k0_pay78, k0_pay79, k0_pay80, k0_pay81, k0_pay82, k0_pay83,
      k0_pay84, k0_pay85, k0_pay86, k0_pay87, k0_pay88, k0_pay89, k0_pay90, k0_pay91, k0_pay92, k0_pay93, k0_pay94, k0_pay95, k0_pay96,
      k0_pay97, k0_pay98, k0_pay99, k0_pay100, k0_pay101, k0_pay102, k0_pay103, k0_pay104, k0_pay105, k0_pay106, k0_pay107, k0_pay108,
      k0_pay109, k0_pay110, k0_pay111, k0_pay112, k0_pay113, k0_pay114, k0_pay115, k0_pay116, k0_pay117, k0_pay118, k0_pay119, k0_pay120,
      k0_pay121, k0_pay122, k0_pay123, k0_pay124, k0_pay125, k0_pay126, k0_pay127, k0_pay128, k0_pay129, k0_pay130, k0_pay131, k0_pay132,
      k0_pay133, k0_pay134, k0_pay135, k0_pay136, k0_pay137, k0_pay138, k0_pay139, k0_pay140, k0_pay141, k0_pay142, k0_pay143, k0_pay144,
      k0_pay145, k0_pay146, k0_pay147, k0_pay148, k0_pay149, k0_pay150, k0_pay151, k0_pay152, k0_pay153, k0_pay154, k0_pay155, k0_pay156,
      k0_pay157, k0_pay158, k0_pay159, k0_pay160, k0_pay161, k0_pay162, k0_pay163, k0_pay164, k0_pay165, k0_pay166, k0_pay167, k0_pay168,
      k0_pay169, k0_pay170, k0_pay171, k0_pay172, k0_pay173, k0_pay174, k0_pay175, k0_pay176, k0_pay177, k0_pay178, k0_pay179, k0_pay180,
      k0_pay181, k0_pay182, k0_pay183, k0_pay184, k0_pay185, k0_pay186, k0_pay187, k0_pay188, k0_pay189, k0_pay190, k0_pay191, k0_pay192,
      k0_pay193, k0_pay194, k0_pay195, k0_pay196, k0_pay197, k0_pay198, k0_pay199, k0_pay200, k0_pay201, k0_pay202, k0_pay203, k0_pay204,
      k0_pay205, k0_pay206, k0_pay207, k0_pay208, k0_pay209, k0_pay210, k0_pay211, k0_pay212, k0_pay213, k0_pay214, k0_pay215, k0_pay216,
      k0_pay217, k0_pay218, k0_pay219, k0_pay220, k0_pay221, k0_pay222, k0_pay223, k0_pay224, k0_pay225, k0_pay226, k0_pay227, k0_pay228,
      k0_pay229, k0_pay230, k0_pay231, k0_pay232, k0_pay233, k0_pay234, k0_pay235, k0_pay236, k0_pay237, k0_pay238, k0_pay239, k0_pay240,
      k0_pay241, k0_pay242, k0_pay243, k0_pay244, k0_pay245, k0_pay246, k0_pay247, k0_pay248, k0_pay249, k0_pay250, k0_pay251, k0_pay252,
      k0_pay253, k0_pay254, k0_pay255, k0_pay256, k0_pay257, k0_pay258, k0_pay259, k0_pay260, k0_pay261, k0_pay262, k0_pay263, k0_pay264,
      k0_pay265, k0_pay266, k0_pay267, k0_pay268, k0_pay269, k0_pay270, k0_pay271, k0_pay272, k0_pay273, k0_pay274, k0_pay275, k0_pay276,
      k0_pay277, k0_pay278, k0_pay279, k0_pay280, k0_pay281, k0_pay282, k0_pay283, k0_pay284, k0_pay285, k0_pay286, k0_pay287, k0_pay288,
      k0_pay289, k0_pay290, k0_pay291, k0_pay292, k0_pay293, k0_pay294, k0_pay295, k0_pay296, k0_pay297, k0_pay298, k0_pay299, k0_pay300,
      k0_pay301, k0_pay302, k0_pay303, k0_pay304, k0_pay305, k0_pay306, k0_pay307, k0_pay308, k0_pay309, k0_pay310, k0_pay311, k0_pay312,
      k0_pay313, k0_pay314, k0_pay315, k0_pay316, k0_pay317, k0_pay318, k0_pay319, k0_pay320, k0_pay321, k0_pay322, k0_pay323, k0_pay324,
      k0_pay325, k0_pay326, k0_pay327, k0_pay328, k0_pay329, k0_pay330, k0_pay331, k0_pay332, k0_pay333, k0_pay334, k0_pay335, k0_pay336,
      k0_pay337, k0_pay338, k0_pay339, k0_pay340, k0_pay341, k0_pay342, k0_pay343, k0_pay344, k0_pay345, k0_pay346, k0_pay347, k0_pay348,
      k0_pay349, k0_pay350, k0_pay351, k0_pay352, k0_pay353, k0_pay354, k0_pay355, k0_pay356, k0_pay357, k0_pay358, k0_pay359, k0_pay360,
      k0_pay361, k0_pay362, k0_pay363, k0_pay364, k0_pay365, k0_pay366, k0_pay367, k0_pay368, k0_pay369, k0_pay370, k0_pay371, k0_pay372,
      k0_pay373, k0_pay374, k0_pay375, k0_pay376, k0_pay377, k0_pay378, k0_pay379, k0_pay380, k0_pay381, k0_pay382, k0_pay383, k0_pay384,
      k0_pay385, k0_pay386, k0_pay387, k0_pay388, k0_pay389, k0_pay390, k0_pay391, k0_pay392, k0_pay393, k0_pay394, k0_pay395, k0_pay396,
      k0_pay397, k0_pay398, k0_pay399, k0_pay400, k0_pay401, k0_pay402, k0_pay403, k0_pay404, k0_pay405, k0_pay406, k0_pay407, k0_pay408,
      k0_pay409, k0_pay410, k0_pay411, k0_pay412, k0_pay413, k0_pay414, k0_pay415, k0_pay416, k0_pay417, k0_pay418, k0_pay419, k0_pay420,
      k0_pay421, k0_pay422, k0_pay423, k0_pay424, k0_pay425, k0_pay426, k0_pay427, k0_pay428, k0_pay429, k0_pay430, k0_pay431, k0_pay432,
      k0_pay433, k0_pay434, k0_pay435, k0_pay436, k0_pay437, k0_pay438, k0_pay439, k0_pay440, k0_pay441, k0_pay442, k0_pay443, k0_pay444,
      k0_pay445, k0_pay446, k0_pay447, k0_pay448, k0_pay449, k0_pay450, k0_pay451, k0_pay452, k0_pay453, k0_pay454, k0_pay455, k0_pay456,
      k0_pay457, k0_pay458, k0_pay459, k0_pay460, k0_pay461, k0_pay462, k0_pay463, k0_pay464, k0_pay465, k0_pay466, k0_pay467, k0_pay468,
      k0_pay469, k0_pay470, k0_pay471, k0_pay472, k0_pay473, k0_pay474, k0_pay475, k0_pay476, k0_pay477, k0_pay478, k0_pay479, k0_pay480,
      k0_pay481, k0_pay482, k0_pay483, k0_pay484, k0_pay485, k0_pay486, k0_pay487, k0_pay488, k0_pay489, k0_pay490, k0_pay491, k0_pay492,
      k0_pay493, k0_pay494, k0_pay495, k0_pay496, k0_pay497, k0_pay498, k0_pay499, k0_pay500, k0_pay501, k0_pay502, k0_pay503, k0_pay504,
      k0_pay505, k0_pay506, k0_pay507, k0_pay508, k0_pay509, k0_pay510, k0_pay511, k0_pay512, k0_pay513, k0_pay514, k0_pay515, k0_pay516,
      k0_pay517, k0_pay518, k0_pay519, k0_pay520, k0_pay521, k0_pay522, k0_pay523, k0_pay524, k0_pay525, k0_pay526, k0_pay527, k0_pay528,
      k0_pay529, k0_pay530, k0_pay531, k0_pay532, k0_pay533, k0_pay534, k0_pay535, k0_pay536, k0_pay537, k0_pay538, k0_pay539, k0_pay540,
      k0_pay541, k0_pay542, k0_pay543, k0_pay544, k0_pay545, k0_pay546, k0_pay547, k0_pay548, k0_pay549, k0_pay550, k0_pay551, k0_pay552,
      k0_pay553, k0_pay554, k0_pay555, k0_pay556, k0_pay557, k0_pay558, k0_pay559, k0_pay560, k0_pay561, k0_pay562, k0_pay563, k0_pay564,
      k0_pay565, k0_pay566, k0_pay567, k0_pay568, k0_pay569, k0_pay570, k0_pay571, k0_pay572, k0_pay573, k0_pay574, k0_pay575, k0_pay576,
      k0_pay577, k0_pay578, k0_pay579, k0_pay580, k0_pay581, k0_pay582, k0_pay583, k0_pay584, k0_pay585, k0_pay586, k0_pay587, k0_pay588,
      k0_pay589, k0_pay590, k0_pay591, k0_pay592, k0_pay593, k0_pay594, k0_pay595, k0_pay596, k0_pay597, k0_pay598, k0_pay599, k0_pay600,
      k0_pay601, k0_pay602, k0_pay603, k0_pay604, k0_pay605, k0_pay606, k0_pay607, k0_pay608, k0_pay609, k0_pay610, k0_pay611, k0_pay612,
      k0_pay613, k0_pay614, k0_pay615, k0_pay616, k0_pay617, k0_pay618, k0_pay619, k0_pay620, k0_pay621, k0_pay622, k0_pay623, k0_pay624,
      k0_pay625, k0_pay626, k0_pay627, k0_pay628, k0_pay629, k0_pay630, k0_pay631, k0_pay632, k0_pay633, k0_pay634, k0_pay635, k0_pay636,
      k0_pay637, k0_pay638, k0_pay639, k0_pay640, k0_pay641, k0_pay642, k0_pay643, k0_pay644, k0_pay645, k0_pay646, k0_pay647, k0_pay648,
      k0_pay649, k0_pay650, k0_pay651, k0_pay652, k0_pay653, k0_pay654, k0_pay655, k0_pay656, k0_pay657, k0_pay658, k0_pay659, k0_pay660,
      k0_pay661, k0_pay662, k0_pay663, k0_pay664, k0_pay665, k0_pay666, k0_pay667, k0_pay668, k0_pay669, k0_pay670, k0_pay671, k0_pay672,
      k0_pay673, k0_pay674, k0_pay675, k0_pay676, k0_pay677, k0_pay678, k0_pay679, k0_pay680, k0_pay681, k0_pay682, k0_pay683, k0_pay684,
      k0_pay685, k0_pay686, k0_pay687, k0_pay688, k0_pay689, k0_pay690, k0_pay691, k0_pay692, k0_pay693, k0_pay694, k0_pay695, k0_pay696,
      k0_pay697, k0_pay698, k0_pay699, k0_pay700, k0_pay701, k0_pay702, k0_pay703, k0_pay704, k0_pay705, k0_pay706, k0_pay707, k0_pay708,
      k0_pay709, k0_pay710, k0_pay711, k0_pay712, k0_pay713, k0_pay714, k0_pay715, k0_pay716, k0_pay717, k0_pay718, k0_pay719, k0_pay720,
      k0_pay721, k0_pay722, k0_pay723, k0_pay724, k0_pay725, k0_pay726, k0_pay727, k0_pay728, k0_pay729, k0_pay730, k0_pay731, k0_pay732,
      k0_pay733, k0_pay734, k0_pay735, k0_pay736, k0_pay737, k0_pay738, k0_pay739, k0_pay740, k0_pay741, k0_pay742, k0_pay743, k0_pay744,
      k0_pay745, k0_pay746, k0_pay747, k0_pay748, k0_pay749, k0_pay750, k0_pay751, k0_pay752, k0_pay753, k0_pay754, k0_pay755, k0_pay756,
      k0_pay757, k0_pay758, k0_pay759, k0_pay760, k0_pay761, k0_pay762, k0_pay763, k0_pay764, k0_pay765, k0_pay766, k0_pay767, k0_pay768,
      k0_pay769, k0_pay770, k0_pay771, k0_pay772, k0_pay773, k0_pay774, k0_pay775, k0_pay776, k0_pay777, k0_pay778, k0_pay779, k0_pay780,
      k0_pay781, k0_pay782, k0_pay783, k0_pay784, k0_pay785, k0_pay786, k0_pay787, k0_pay788, k0_pay789, k0_pay790, k0_pay791, k0_pay792,
      k0_pay793, k0_pay794, k0_pay795, k0_pay796, k0_pay797, k0_pay798, k0_pay799, k0_pay800, k0_pay801, k0_pay802, k0_pay803, k0_pay804,
      k0_pay805, k0_pay806, k0_pay807, k0_pay808, k0_pay809, k0_pay810, k0_pay811, k0_pay812, k0_pay813, k0_pay814, k0_pay815, k0_pay816,
      k0_pay817, k0_pay818, k0_pay819, k0_pay820, k0_pay821, k0_pay822, k0_pay823, k0_pay824, k0_pay825, k0_pay826, k0_pay827, k0_pay828,
      k0_pay829, k0_pay830, k0_pay831, k0_pay832, k0_pay833, k0_pay834, k0_pay835, k0_pay836, k0_pay837, k0_pay838, k0_pay839, k0_pay840,
      k0_pay841, k0_pay842, k0_pay843, k0_pay844, k0_pay845, k0_pay846, k0_pay847, k0_pay848, k0_pay849, k0_pay850, k0_pay851, k0_pay852,
      k0_pay853, k0_pay854, k0_pay855, k0_pay856, k0_pay857, k0_pay858, k0_pay859, k0_pay860, k0_pay861, k0_pay862, k0_pay863, k0_pay864,
      k0_pay865, k0_pay866, k0_pay867, k0_pay868, k0_pay869, k0_pay870, k0_pay871, k0_pay872, k0_pay873, k0_pay874, k0_pay875, k0_pay876,
      k0_pay877, k0_pay878, k0_pay879, k0_pay880, k0_pay881, k0_pay882, k0_pay883, k0_pay884, k0_pay885, k0_pay886, k0_pay887, k0_pay888,
      k0_pay889, k0_pay890, k0_pay891, k0_pay892, k0_pay893, k0_pay894, k0_pay895, k0_pay896, k0_pay897, k0_pay898, k0_pay899, k0_pay900,
      k0_pay901, k0_pay902, k0_pay903, k0_pay904, k0_pay905, k0_pay906, k0_pay907, k0_pay908, k0_pay909, k0_pay910, k0_pay911, k0_pay912,
      k0_pay913, k0_pay914, k0_pay915, k0_pay916, k0_pay917, k0_pay918, k0_pay919, k0_pay920, k0_pay921, k0_pay922, k0_pay923, k0_pay924,
      k0_pay925, k0_pay926, k0_pay927, k0_pay928, k0_pay929, k0_pay930, k0_pay931, k0_pay932, k0_pay933, k0_pay934, k0_pay935, k0_pay936,
      k0_pay937, k0_pay938, k0_pay939, k0_pay940, k0_pay941, k0_pay942, k0_pay943, k0_pay944, k0_pay945, k0_pay946, k0_pay947, k0_pay948,
      k0_pay949, k0_pay950, k0_pay951, k0_pay952, k0_pay953, k0_pay954, k0_pay955, k0_pay956, k0_pay957, k0_pay958, k0_pay959, k0_pay960,
      k0_pay961, k0_pay962, k0_pay963, k0_pay964, k0_pay965, k0_pay966, k0_pay967, k0_pay968, k0_pay969, k0_pay970, k0_pay971, k0_pay972,
      k0_pay973, k0_pay974, k0_pay975, k0_pay976, k0_pay977, k0_pay978, k0_pay979, k0_pay980, k0_pay981, k0_pay982, k0_pay983, k0_pay984,
      k0_pay985, k0_pay986, k0_pay987, k0_pay988, k0_pay989, k0_pay990, k0_pay991, k0_pay992, k0_pay993, k0_pay994, k0_pay995, k0_pay996,
      k0_pay997, k0_pay998, k0_pay999, k0_pay1000, k0_pay1001, k0_pay1002, k0_pay1003, k0_pay1004, k0_pay1005, k0_pay1006, k0_pay1007,
      k0_pay1008, k0_pay1009, k0_pay1010, k0_pay1011, k0_pay1012, k0_pay1013, k0_pay1014, k0_pay1015, k0_pay1016, k0_pay1017, k0_pay1018,
      k0_pay1019, k0_pay1020, k0_pay1021, k0_pay1022, k0_pay1023, k0_pay1024, k0_pay1025, k0_pay1026, k0_pay1027, k0_pay1028, k0_pay1029,
      k0_pay1030, k0_pay1031, k0_pay1032, k0_pay1033, k0_pay1034, k0_pay1035, k0_pay1036, k0_pay1037, k0_pay1038, k0_pay1039, k0_pay1040,
      k0_pay1041, k0_pay1042, k0_pay1043, k0_pay1044, k0_pay1045, k0_pay1046, k0_pay1047, k0_pay1048, k0_pay1049, k0_pay1050, k0_pay1051,
      k0_pay1052, k0_pay1053, k0_pay1054, k0_pay1055, k0_pay1056, k0_pay1057, k0_pay1058, k0_pay1059, k0_pay1060, k0_pay1061, k0_pay1062,
      k0_pay1063, k0_pay1064, k0_pay1065, k0_pay1066, k0_pay1067, k0_pay1068, k0_pay1069, k0_pay1070, k0_pay1071, k0_pay1072, k0_pay1073,
      k0_pay1074, k0_pay1075, k0_pay1076, k0_pay1077, k0_pay1078, k0_pay1079, k0_pay1080, k0_pay1081, k0_pay1082, k0_pay1083, k0_pay1084,
      k0_pay1085, k0_pay1086, k0_pay1087, k0_pay1088, k0_pay1089, k0_pay1090, k0_pay1091, k0_pay1092, k0_pay1093, k0_pay1094, k0_pay1095,
      k0_pay1096, k0_pay1097, k0_pay1098, k0_pay1099, k0_pay1100, k0_pay1101, k0_pay1102, k0_pay1103, k0_pay1104, k0_pay1105, k0_pay1106,
      k0_pay1107, k0_pay1108, k0_pay1109, k0_pay1110, k0_pay1111, k0_pay1112, k0_pay1113, k0_pay1114, k0_pay1115, k0_pay1116, k0_pay1117,
      k0_pay1118, k0_pay1119, k0_pay1120, k0_pay1121, k0_pay1122, k0_pay1123, k0_pay1124, k0_pay1125, k0_pay1126, k0_pay1127, k0_pay1128,
      k0_pay1129, k0_pay1130, k0_pay1131, k0_pay1132, k0_pay1133, k0_pay1134, k0_pay1135, k0_pay1136, k0_pay1137, k0_pay1138, k0_pay1139,
      k0_pay1140, k0_pay1141, k0_pay1142, k0_pay1143, k0_pay1144, k0_pay1145, k0_pay1146, k0_pay1147, k0_pay1148, k0_pay1149, k0_pay1150,
      k0_pay1151, k0_pay1152, k0_pay1153, k0_pay1154, k0_pay1155, k0_pay1156, k0_pay1157, k0_pay1158, k0_pay1159, k0_pay1160, k0_pay1161,
      k0_pay1162, k0_pay1163, k0_pay1164, k0_pay1165, k0_pay1166, k0_pay1167, k0_pay1168, k0_pay1169, k0_pay1170, k0_pay1171, k0_pay1172,
      k0_pay1173, k0_pay1174, k0_pay1175, k0_pay1176, k0_pay1177, k0_pay1178, k0_pay1179, k0_pay1180, k0_pay1181, k0_pay1182, k0_pay1183,
      k0_pay1184, k0_pay1185, k0_pay1186, k0_pay1187, k0_pay1188, k0_pay1189, k0_pay1190, k0_pay1191, k0_pay1192, k0_pay1193, k0_pay1194,
      k0_pay1195, k0_pay1196, k0_pay1197, k0_pay1198, k0_pay1199, k0_pay1200, k0_pay1201, k0_pay1202, k0_pay1203, k0_pay1204, k0_pay1205,
      k0_pay1206, k0_pay1207, k0_pay1208, k0_pay1209, k0_pay1210, k0_pay1211, k0_pay1212, k0_pay1213, k0_pay1214, k0_pay1215, k0_pay1216,
      k0_pay1217, k0_pay1218, k0_pay1219, k0_pay1220, k0_pay1221, k0_pay1222, k0_pay1223, k0_pay1224, k0_pay1225, k0_pay1226, k0_pay1227,
      k0_pay1228, k0_pay1229, k0_pay1230, k0_pay1231, k0_pay1232, k0_pay1233, k0_pay1234, k0_pay1235, k0_pay1236, k0_pay1237, k0_pay1238,
      k0_pay1239, k0_pay1240, k0_pay1241, k0_pay1242, k0_pay1243, k0_pay1244, k0_pay1245, k0_pay1246, k0_pay1247, k0_pay1248, k0_pay1249,
      k0_pay1250, k0_pay1251, k0_pay1252, k0_pay1253, k0_pay1254, k0_pay1255, k0_pay1256, k0_pay1257, k0_pay1258, k0_pay1259, k0_pay1260,
      k0_pay1261, k0_pay1262, k0_pay1263, k0_pay1264, k0_pay1265, k0_pay1266, k0_pay1267, k0_pay1268, k0_pay1269, k0_pay1270, k0_pay1271,
      k0_pay1272, k0_pay1273, k0_pay1274, k0_pay1275, k0_pay1276, k0_pay1277, k0_pay1278, k0_pay1279, k0_pay1280, k0_pay1281, k0_pay1282,
      k0_pay1283, k0_pay1284, k0_pay1285, k0_pay1286, k0_pay1287, k0_pay1288, k0_pay1289, k0_pay1290, k0_pay1291, k0_pay1292, k0_pay1293,
      k0_pay1294, k0_pay1295, k0_pay1296, k0_pay1297, k0_pay1298, k0_pay1299, k0_pay1300, k0_pay1301, k0_pay1302, k0_pay1303, k0_pay1304,
      k0_pay1305, k0_pay1306, k0_pay1307, k0_pay1308, k0_pay1309, k0_pay1310, k0_pay1311, k0_pay1312, k0_pay1313, k0_pay1314, k0_pay1315,
      k0_pay1316, k0_pay1317, k0_pay1318, k0_pay1319, k0_pay1320, k0_pay1321, k0_pay1322, k0_pay1323, k0_pay1324, k0_pay1325, k0_pay1326,
      k0_pay1327, k0_pay1328, k0_pay1329, k0_pay1330, k0_pay1331, k0_pay1332, k0_pay1333, k0_pay1334, k0_pay1335, k0_pay1336, k0_pay1337,
      k0_pay1338, k0_pay1339, k0_pay1340, k0_pay1341, k0_pay1342, k0_pay1343, k0_pay1344, k0_pay1345, k0_pay1346, k0_pay1347, k0_pay1348,
      k0_pay1349, k0_pay1350, k0_pay1351, k0_pay1352, k0_pay1353, k0_pay1354, k0_pay1355, k0_pay1356, k0_pay1357, k0_pay1358, k0_pay1359,
      k0_pay1360, k0_pay1361, k0_pay1362, k0_pay1363, k0_pay1364, k0_pay1365, k0_pay1366, k0_pay1367, k0_pay1368, k0_pay1369, k0_pay1370,
      k0_pay1371, k0_pay1372, k0_pay1373, k0_pay1374, k0_pay1375, k0_pay1376, k0_pay1377, k0_pay1378, k0_pay1379, k0_pay1380, k0_pay1381,
      k0_pay1382, k0_pay1383, k0_pay1384, k0_pay1385, k0_pay1386, k0_pay1387, k0_pay1388, k0_pay1389, k0_pay1390, k0_pay1391, k0_pay1392,
      k0_pay1393, k0_pay1394, k0_pay1395, k0_pay1396, k0_pay1397, k0_pay1398, k0_pay1399, k0_pay1400, k0_pay1401, k0_pay1402, k0_pay1403,
      k0_pay1404, k0_pay1405, k0_pay1406, k0_pay1407, k0_pay1408, k0_pay1409, k0_pay1410, k0_pay1411, k0_pay1412, k0_pay1413, k0_pay1414,
      k0_pay1415, k0_pay1416, k0_pay1417, k0_pay1418, k0_pay1419, k0_pay1420, k0_pay1421, k0_pay1422, k0_pay1423, k0_pay1424, k0_pay1425,
      k0_pay1426, k0_pay1427, k0_pay1428, k0_pay1429, k0_pay1430, k0_pay1431, k0_pay1432, k0_pay1433, k0_pay1434, k0_pay1435, k0_pay1436,
      k0_pay1437, k0_pay1438, k0_pay1439, k0_pay1440, k0_pay1441, k0_pay1442, k0_pay1443, k0_pay1444, k0_pay1445, k0_pay1446, k0_pay1447,
      k0_pay1448, k0_pay1449, k0_pay1450, k0_pay1451, k0_pay1452, k0_pay1453, k0_pay1454, k0_pay1455, k0_pay1456, k0_pay1457, k0_pay1458,
      k0_pay1459, k0_pay1460, k0_pay1461, k0_pay1462, k0_pay1463, k0_pay1464, k0_pay1465, k0_pay1466, k0_pay1467, k0_pay1468, k0_pay1469,
      k0_pay1470, k0_pay1471, k0_pay1472, k0_pay1473, k0_pay1474, k0_pay1475, k0_pay1476, k0_pay1477, k0_pay1478, k0_pay1479, k0_pay1480,
      k0_pay1481, k0_pay1482, k0_pay1483, k0_pay1484, k0_pay1485, k0_pay1486, k0_pay1487, k0_pay1488, k0_pay1489, k0_pay1490, k0_pay1491,
      k0_pay1492, k0_pay1493, k0_pay1494, k0_pay1495, k0_pay1496, k0_pay1497, k0_pay1498, k0_pay1499, k0_pay1500, k0_pay1501, k0_pay1502,
      k0_pay1503, k0_pay1504, k0_pay1505, k0_pay1506, k0_pay1507, k0_pay1508, k0_pay1509, k0_pay1510, k0_pay1511, k0_pay1512, k0_pay1513,
      k0_pay1514, k0_pay1515, k0_pay1516, k0_pay1517, k0_pay1518, k0_pay1519, k0_pay1520, k0_pay1521, k0_pay1522, k0_pay1523, k0_pay1524,
      k0_pay1525, k0_pay1526, k0_pay1527, k0_pay1528, k0_pay1529, k0_pay1530, k0_pay1531, k0_pay1532, k0_pay1533, k0_pay1534, k0_pay1535,
      k0_pay1536, k0_pay1537, k0_pay1538, k0_pay1539, k0_pay1540, k0_pay1541, k0_pay1542, k0_pay1543, k0_pay1544, k0_pay1545, k0_pay1546,
      k0_pay1547, k0_pay1548, k0_pay1549, k0_pay1550, k0_pay1551, k0_pay1552, k0_pay1553, k0_pay1554, k0_pay1555, k0_pay1556, k0_pay1557,
      k0_pay1558, k0_pay1559, k0_pay1560, k0_pay1561, k0_pay1562, k0_pay1563, k0_pay1564, k0_pay1565, k0_pay1566, k0_pay1567, k0_pay1568,
      k0_pay1569, k0_pay1570, k0_pay1571, k0_pay1572, k0_pay1573, k0_pay1574, k0_pay1575, k0_pay1576, k0_pay1577, k0_pay1578, k0_pay1579,
      k0_pay1580, k0_pay1581, k0_pay1582, k0_pay1583, k0_pay1584, k0_pay1585, k0_pay1586, k0_pay1587, k0_pay1588, k0_pay1589, k0_pay1590,
      k0_pay1591, k0_pay1592, k0_pay1593, k0_pay1594, k0_pay1595, k0_pay1596, k0_pay1597, k0_pay1598, k0_pay1599, k0_pay1600, k0_pay1601,
      k0_pay1602, k0_pay1603, k0_pay1604, k0_pay1605, k0_pay1606, k0_pay1607, k0_pay1608, k0_pay1609, k0_pay1610, k0_pay1611, k0_pay1612,
      k0_pay1613, k0_pay1614, k0_pay1615, k0_pay1616, k0_pay1617, k0_pay1618, k0_pay1619, k0_pay1620, k0_pay1621, k0_pay1622, k0_pay1623,
      k0_pay1624, k0_pay1625, k0_pay1626, k0_pay1627, k0_pay1628, k0_pay1629, k0_pay1630, k0_pay1631, k0_pay1632, k0_pay1633, k0_pay1634,
      k0_pay1635, k0_pay1636, k0_pay1637, k0_pay1638, k0_pay1639, k0_pay1640, k0_pay1641, k0_pay1642, k0_pay1643, k0_pay1644, k0_pay1645,
      k0_pay1646, k0_pay1647, k0_pay1648, k0_pay1649, k0_pay1650, k0_pay1651, k0_pay1652, k0_pay1653, k0_pay1654, k0_pay1655, k0_pay1656,
      k0_pay1657, k0_pay1658, k0_pay1659, k0_pay1660, k0_pay1661, k0_pay1662, k0_pay1663, k0_pay1664, k0_pay1665, k0_pay1666, k0_pay1667,
      k0_pay1668, k0_pay1669, k0_pay1670, k0_pay1671, k0_pay1672, k0_pay1673, k0_pay1674, k0_pay1675, k0_pay1676, k0_pay1677, k0_pay1678,
      k0_pay1679, k0_pay1680, k0_pay1681, k0_pay1682, k0_pay1683, k0_pay1684, k0_pay1685, k0_pay1686, k0_pay1687, k0_pay1688, k0_pay1689,
      k0_pay1690, k0_pay1691, k0_pay1692, k0_pay1693, k0_pay1694, k0_pay1695, k0_pay1696, k0_pay1697, k0_pay1698, k0_pay1699, k0_pay1700,
      k0_pay1701, k0_pay1702, k0_pay1703, k0_pay1704, k0_pay1705, k0_pay1706, k0_pay1707, k0_pay1708, k0_pay1709, k0_pay1710, k0_pay1711,
      k0_pay1712, k0_pay1713, k0_pay1714, k0_pay1715, k0_pay1716, k0_pay1717, k0_pay1718, k0_pay1719, k0_pay1720, k0_pay1721, k0_pay1722,
      k0_pay1723, k0_pay1724, k0_pay1725, k0_pay1726, k0_pay1727, k0_pay1728, k0_pay1729, k0_pay1730, k0_pay1731, k0_pay1732, k0_pay1733,
      k0_pay1734, k0_pay1735, k0_pay1736, k0_pay1737, k0_pay1738, k0_pay1739, k0_pay1740, k0_pay1741, k0_pay1742, k0_pay1743, k0_pay1744,
      k0_pay1745, k0_pay1746, k0_pay1747, k0_pay1748, k0_pay1749, k0_pay1750, k0_pay1751, k0_pay1752, k0_pay1753, k0_pay1754, k0_pay1755,
      k0_pay1756, k0_pay1757, k0_pay1758, k0_pay1759, k0_pay1760, k0_pay1761, k0_pay1762, k0_pay1763, k0_pay1764, k0_pay1765, k0_pay1766,
      k0_pay1767, k0_pay1768, k0_pay1769, k0_pay1770, k0_pay1771, k0_pay1772, k0_pay1773, k0_pay1774, k0_pay1775, k0_pay1776, k0_pay1777,
      k0_pay1778, k0_pay1779, k0_pay1780, k0_pay1781, k0_pay1782, k0_pay1783, k0_pay1784, k0_pay1785, k0_pay1786, k0_pay1787, k0_pay1788,
      k0_pay1789, k0_pay1790, k0_pay1791, k0_pay1792, k0_pay1793, k0_pay1794, k0_pay1795, k0_pay1796, k0_pay1797, k0_pay1798, k0_pay1799,
      k0_pay1800, k0_pay1801, k0_pay1802, k0_pay1803, k0_pay1804, k0_pay1805, k0_pay1806, k0_pay1807, k0_pay1808, k0_pay1809, k0_pay1810,
      k0_pay1811, k0_pay1812, k0_pay1813, k0_pay1814, k0_pay1815, k0_pay1816, k0_pay1817, k0_pay1818, k0_pay1819, k0_pay1820, k0_pay1821,
      k0_pay1822, k0_pay1823, k0_pay1824, k0_pay1825, k0_pay1826, k0_pay1827, k0_pay1828, k0_pay1829, k0_pay1830, k0_pay1831, k0_pay1832,
      k0_pay1833, k0_pay1834, k0_pay1835, k0_pay1836, k0_pay1837, k0_pay1838, k0_pay1839, k0_pay1840, k0_pay1841, k0_pay1842, k0_pay1843,
      k0_pay1844, k0_pay1845, k0_pay1846, k0_pay1847, k0_pay1848, k0_pay1849, k0_pay1850, k0_pay1851, k0_pay1852, k0_pay1853, k0_pay1854,
      k0_pay1855, k0_pay1856, k0_pay1857, k0_pay1858, k0_pay1859, k0_pay1860, k0_pay1861, k0_pay1862, k0_pay1863, k0_pay1864, k0_pay1865,
      k0_pay1866, k0_pay1867, k0_pay1868, k0_pay1869, k0_pay1870, k0_pay1871, k0_pay1872, k0_pay1873, k0_pay1874, k0_pay1875, k0_pay1876,
      k0_pay1877, k0_pay1878, k0_pay1879, k0_pay1880, k0_pay1881, k0_pay1882, k0_pay1883, k0_pay1884, k0_pay1885, k0_pay1886, k0_pay1887,
      k0_pay1888, k0_pay1889, k0_pay1890, k0_pay1891, k0_pay1892, k0_pay1893, k0_pay1894, k0_pay1895, k0_pay1896, k0_pay1897, k0_pay1898,
      k0_pay1899, k0_pay1900, k0_pay1901, k0_pay1902, k0_pay1903, k0_pay1904, k0_pay1905, k0_pay1906, k0_pay1907, k0_pay1908, k0_pay1909,
      k0_pay1910, k0_pay1911, k0_pay1912, k0_pay1913, k0_pay1914, k0_pay1915, k0_pay1916, k0_pay1917, k0_pay1918, k0_pay1919, k0_pay1920,
      k0_pay1921, k0_pay1922, k0_pay1923, k0_pay1924, k0_pay1925, k0_pay1926, k0_pay1927, k0_pay1928, k0_pay1929, k0_pay1930, k0_pay1931,
      k0_pay1932, k0_pay1933, k0_pay1934, k0_pay1935, k0_pay1936, k0_pay1937, k0_pay1938, k0_pay1939, k0_pay1940, k0_pay1941, k0_pay1942,
      k0_pay1943, k0_pay1944, k0_pay1945, k0_pay1946, k0_pay1947, k0_pay1948, k0_pay1949, k0_pay1950, k0_pay1951, k0_pay1952, k0_pay1953,
      k0_pay1954, k0_pay1955, k0_pay1956, k0_pay1957, k0_pay1958, k0_pay1959, k0_pay1960, k0_pay1961, k0_pay1962, k0_pay1963, k0_pay1964,
      k0_pay1965, k0_pay1966, k0_pay1967, k0_pay1968, k0_pay1969, k0_pay1970, k0_pay1971, k0_pay1972, k0_pay1973, k0_pay1974, k0_pay1975,
      k0_pay1976, k0_pay1977, k0_pay1978, k0_pay1979, k0_pay1980, k0_pay1981, k0_pay1982, k0_pay1983, k0_pay1984, k0_pay1985, k0_pay1986,
      k0_pay1987, k0_pay1988, k0_pay1989, k0_pay1990, k0_pay1991, k0_pay1992, k0_pay1993, k0_pay1994, k0_pay1995, k0_pay1996, k0_pay1997,
      k0_pay1998, k0_pay1999, k0_pay2000, k0_pay2001, k0_pay2002, k0_pay2003, k0_pay2004, k0_pay2005, k0_pay2006, k0_pay2007, k0_pay2008,
      k0_pay2009, k0_pay2010, k0_pay2011, k0_pay2012, k0_pay2013, k0_pay2014, k0_pay2015, k0_pay2016, k0_pay2017, k0_pay2018, k0_pay2019,
      k0_pay2020, k0_pay2021, k0_pay2022, k0_pay2023, k0_pay2024, k0_pay2025, k0_pay2026]
    rw [hP, hQ]
    exact ⟨rfl, rfl⟩
  obtain ⟨h0, h1⟩ := key _ _ rfl rfl
  exact congrArg₂ k0_pay2025 h0 h1

end Cert.KernelIdeal.Knn

end
-- ==== Proof.Knn.BodyB.lean ====
/- The body of the kernel at the later points of a sample, where the scratch holds what the point before left. Every
   value that the body names is read through the registers of `Knn/Reg.lean`; at the end stand the packed neighbours. -/
module

public import proofs.«01_k».proof.Proof.Knn.Reg
public import Idealize.ShloMosaic.Lib.VecWindow

@[expose] public section

set_option maxRecDepth 65536
set_option maxHeartbeats 0

noncomputable section

namespace Cert.KernelIdeal.Knn

open Idealize.ShloMosaic Idealize.ShloMosaic.SortNet Cert.KernelIdeal.Gen Idealize.ShloMosaic.TcCoe Idealize.ShloMosaic.Tactic

variable {F : FTy → Type} [FloatOps F]

/-- The neighbours that the body stores are those of the network on the distances. -/
theorem neighbours_later (c : Dev nD) (i : grid0.Coords) (arg2 : Memref sig .tc .vmem S1x1024x128 .f32) (harg2 : arg2.IsWhole)
    (arg3 : Memref sig .tc .vmem S1x2048x128 .f32) (harg3 : arg3.IsWhole) (arg5 : Memref sig .tc .vmem S2048x1024 .f32) (harg5 : arg5.IsWhole)
    (x0 : Vec F S1x1024x128 .f32) (x1 : Vec F S1x2048x128 .f32) (xs0 : Vec F S2048x1024 .f32) :
    kernelRun0_B.sl.r_1148 c i arg2 harg2 arg3 harg3 arg5 harg5 x0 x1 xs0
      = dst (k0_pay5 x1 x0 xs0) (Scalar.muli (BitVec.ofNat 32 (i 0).val) 2048#32) := by
  have it := inReg_t (F := F) (k0_pay5 x1 x0 xs0)
  have e1 : View.readAt (Elt F) arg3.view (Rect.unit ![0, 0, 0] ![1, 2048, 128] inb_S1x2048x128_S1x2048x128_0_0_0).toLoadRect
      (harg3.unread x1) = x1 :=
    (View.readAt_full (Val := Elt F) arg3.view _ inb_S1x2048x128_S1x2048x128_0_0_0).trans (harg3.read_unread x1)
  have e0 : View.readAt (Elt F) arg2.view (Rect.unit ![0, 0, 0] ![1, 1024, 128] inb_S1x1024x128_S1x1024x128_0_0_0).toLoadRect
      (harg2.unread x0) = x0 :=
    (View.readAt_full (Val := Elt F) arg2.view _ inb_S1x1024x128_S1x1024x128_0_0_0).trans (harg2.read_unread x0)
  have e2 : View.readAt (Elt F) arg5.view (Rect.unit ![0, 0] ![2048, 1024] inb_S2048x1024_S2048x1024_0_0).toLoadRect
      (harg5.unread xs0) = xs0 :=
    (View.readAt_full (Val := Elt F) arg5.view _ inb_S2048x1024_S2048x1024_0_0).trans (harg5.read_unread xs0)
  have key : ∀ P Q : IVec S8x1024 32,
      P = pack (final (k0_pay5 x1 x0 xs0)) (fun k => ⟨k.val, by omega⟩) (Scalar.muli (BitVec.ofNat 32 (i 0).val) 2048#32) →
      Q = pack (final (k0_pay5 x1 x0 xs0)) (fun k => ⟨8 + k.val, by omega⟩) (Scalar.muli (BitVec.ofNat 32 (i 0).val) 2048#32) →
      kernelRun0_B.sl.v2784 c i arg2 harg2 arg3 harg3 arg5 harg5 x0 x1 xs0 = P
        ∧ kernelRun0_B.sl.v2820 c i arg2 harg2 arg3 harg3 arg5 harg5 x0 x1 xs0 = Q := by
    intro P Q hP hQ
    simp -implicitDefEqProofs only [e0, e1, e2, it, inReg_v, lo_v, lo_t, hi_v, hi_t, halfSort_v, halfSort_t, halfMerge_v, halfMerge_t,
      lo_halves, lo_rotRelabel, lo_rotMerge, relabel_v, relabel_t, rotRelabel_v, rotRelabel_t, rotMerge_v, rotMerge_t,
      Fin.isValue, Fin.reduceFinMk, Fin.reduceRev, Nat.reduceLT, Nat.reduceAdd,
      (Step.lo 0 0 0 (show Step sortList 0 0 0 0 1 by decide +kernel)), (Step.hi 0 0 0 (show Step sortList 0 0 0 0 1 by decide +kernel)),
      (Step.lo 1 0 0 (show Step sortList 1 0 0 2 3 by decide +kernel)), (Step.hi 1 0 0 (show Step sortList 1 0 0 2 3 by decide +kernel)),
      (Step.lo 2 0 0 (show Step sortList 2 0 0 4 5 by decide +kernel)), (Step.hi 2 0 0 (show Step sortList 2 0 0 4 5 by decide +kernel)),
      (Step.lo 3 0 0 (show Step sortList 3 0 0 6 7 by decide +kernel)), (Step.hi 3 0 0 (show Step sortList 3 0 0 6 7 by decide +kernel)),
      (Step.lo 4 0 0 (show Step sortList 4 0 0 8 9 by decide +kernel)), (Step.hi 4 0 0 (show Step sortList 4 0 0 8 9 by decide +kernel)),
      (Step.lo 5 0 0 (show Step sortList 5 0 0 10 11 by decide +kernel)),
      (Step.hi 5 0 0 (show Step sortList 5 0 0 10 11 by decide +kernel)),
      (Step.lo 6 0 0 (show Step sortList 6 0 0 12 13 by decide +kernel)),
      (Step.hi 6 0 0 (show Step sortList 6 0 0 12 13 by decide +kernel)),
      (Step.lo 7 0 0 (show Step sortList 7 0 0 14 15 by decide +kernel)),
      (Step.hi 7 0 0 (show Step sortList 7 0 0 14 15 by decide +kernel)),
      (Step.lo 8 1 2 (show Step sortList 8 1 2 0 2 by decide +kernel)), (Step.hi 8 1 2 (show Step sortList 8 1 2 0 2 by decide +kernel)),
      (Step.lo 9 1 2 (show Step sortList 9 1 2 1 3 by decide +kernel)), (Step.hi 9 1 2 (show Step sortList 9 1 2 1 3 by decide +kernel)),
      (Step.lo 10 3 4 (show Step sortList 10 3 4 4 6 by decide +kernel)),
      (Step.hi 10 3 4 (show Step sortList 10 3 4 4 6 by decide +kernel)),
      (Step.lo 11 3 4 (show Step sortList 11 3 4 5 7 by decide +kernel)),
      (Step.hi 11 3 4 (show Step sortList 11 3 4 5 7 by decide +kernel)),
      (Step.lo 12 5 6 (show Step sortList 12 5 6 8 10 by decide +kernel)),
      (Step.hi 12 5 6 (show Step sortList 12 5 6 8 10 by decide +kernel)),
      (Step.lo 13 5 6 (show Step sortList 13 5 6 9 11 by decide +kernel)),
      (Step.hi 13 5 6 (show Step sortList 13 5 6 9 11 by decide +kernel)),
      (Step.lo 14 7 8 (show Step sortList 14 7 8 12 14 by decide +kernel)),
      (Step.hi 14 7 8 (show Step sortList 14 7 8 12 14 by decide +kernel)),
      (Step.lo 15 7 8 (show Step sortList 15 7 8 13 15 by decide +kernel)),
      (Step.hi 15 7 8 (show Step sortList 15 7 8 13 15 by decide +kernel)),
      (Step.lo 16 10 9 (show Step sortList 16 10 9 1 2 by decide +kernel)),
      (Step.hi 16 10 9 (show Step sortList 16 10 9 1 2 by decide +kernel)),
      (Step.lo 17 12 11 (show Step sortList 17 12 11 5 6 by decide +kernel)),
      (Step.hi 17 12 11 (show Step sortList 17 12 11 5 6 by decide +kernel)),
      (Step.lo 18 14 13 (show Step sortList 18 14 13 9 10 by decide +kernel)),
      (Step.hi 18 14 13 (show Step sortList 18 14 13 9 10 by decide +kernel)),
      (Step.lo 19 16 15 (show Step sortList 19 16 15 13 14 by decide +kernel)),
      (Step.hi 19 16 15 (show Step sortList 19 16 15 13 14 by decide +kernel)),
      (Step.lo 20 9 11 (show Step sortList 20 9 11 0 4 by decide +kernel)),
      (Step.hi 20 9 11 (show Step sortList 20 9 11 0 4 by decide +kernel)),
      (Step.lo 21 17 18 (show Step sortList 21 17 18 1 5 by decide +kernel)),
      (Step.hi 21 17 18 (show Step sortList 21 17 18 1 5 by decide +kernel)),
      (Step.lo 22 17 18 (show Step sortList 22 17 18 2 6 by decide +kernel)),
      (Step.hi 22 17 18 (show Step sortList 22 17 18 2 6 by decide +kernel)),
      (Step.lo 23 10 12 (show Step sortList 23 10 12 3 7 by decide +kernel)),
      (Step.hi 23 10 12 (show Step sortList 23 10 12 3 7 by decide +kernel)),
      (Step.lo 24 13 15 (show Step sortList 24 13 15 8 12 by decide +kernel)),
      (Step.hi 24 13 15 (show Step sortList 24 13 15 8 12 by decide +kernel)),
      (Step.lo 25 19 20 (show Step sortList 25 19 20 9 13 by decide +kernel)),
      (Step.hi 25 19 20 (show Step sortList 25 19 20 9 13 by decide +kernel)),
      (Step.lo 26 19 20 (show Step sortList 26 19 20 10 14 by decide +kernel)),
      (Step.hi 26 19 20 (show Step sortList 26 19 20 10 14 by decide +kernel)),
      (Step.lo 27 14 16 (show Step sortList 27 14 16 11 15 by decide +kernel)),
      (Step.hi 27 14 16 (show Step sortList 27 14 16 11 15 by decide +kernel)),
      (Step.lo 28 23 21 (show Step sortList 28 23 21 2 4 by decide +kernel)),
      (Step.hi 28 23 21 (show Step sortList 28 23 21 2 4 by decide +kernel)),
      (Step.lo 29 24 22 (show Step sortList 29 24 22 3 5 by decide +kernel)),
      (Step.hi 29 24 22 (show Step sortList 29 24 22 3 5 by decide +kernel)),
      (Step.lo 30 27 25 (show Step sortList 30 27 25 10 12 by decide +kernel)),
      (Step.hi 30 27 25 (show Step sortList 30 27 25 10 12 by decide +kernel)),
      (Step.lo 31 28 26 (show Step sortList 31 28 26 11 13 by decide +kernel)),
      (Step.hi 31 28 26 (show Step sortList 31 28 26 11 13 by decide +kernel)),
      (Step.lo 32 22 29 (show Step sortList 32 22 29 1 2 by decide +kernel)),
      (Step.hi 32 22 29 (show Step sortList 32 22 29 1 2 by decide +kernel)),
      (Step.lo 33 30 29 (show Step sortList 33 30 29 3 4 by decide +kernel)),
      (Step.hi 33 30 29 (show Step sortList 33 30 29 3 4 by decide +kernel)),
      (Step.lo 34 30 23 (show Step sortList 34 30 23 5 6 by decide +kernel)),
      (Step.hi 34 30 23 (show Step sortList 34 30 23 5 6 by decide +kernel)),
      (Step.lo 35 26 31 (show Step sortList 35 26 31 9 10 by decide +kernel)),
      (Step.hi 35 26 31 (show Step sortList 35 26 31 9 10 by decide +kernel)),
      (Step.lo 36 32 31 (show Step sortList 36 32 31 11 12 by decide +kernel)),
      (Step.hi 36 32 31 (show Step sortList 36 32 31 11 12 by decide +kernel)),
      (Step.lo 37 32 27 (show Step sortList 37 32 27 13 14 by decide +kernel)),
      (Step.hi 37 32 27 (show Step sortList 37 32 27 13 14 by decide +kernel)),
      (Step.lo 38 21 25 (show Step sortList 38 21 25 0 8 by decide +kernel)),
      (Step.hi 38 21 25 (show Step sortList 38 21 25 0 8 by decide +kernel)),
      (Step.lo 39 33 36 (show Step sortList 39 33 36 1 9 by decide +kernel)),
      (Step.hi 39 33 36 (show Step sortList 39 33 36 1 9 by decide +kernel)),
      (Step.lo 40 33 36 (show Step sortList 40 33 36 2 10 by decide +kernel)),
      (Step.hi 40 33 36 (show Step sortList 40 33 36 2 10 by decide +kernel)),
      (Step.lo 41 34 37 (show Step sortList 41 34 37 3 11 by decide +kernel)),
      (Step.hi 41 34 37 (show Step sortList 41 34 37 3 11 by decide +kernel)),
      (Step.lo 42 34 37 (show Step sortList 42 34 37 4 12 by decide +kernel)),
      (Step.hi 42 34 37 (show Step sortList 42 34 37 4 12 by decide +kernel)),
      (Step.lo 43 35 38 (show Step sortList 43 35 38 5 13 by decide +kernel)),
      (Step.hi 43 35 38 (show Step sortList 43 35 38 5 13 by decide +kernel)),
      (Step.lo 44 35 38 (show Step sortList 44 35 38 6 14 by decide +kernel)),
      (Step.hi 44 35 38 (show Step sortList 44 35 38 6 14 by decide +kernel)),
      (Step.lo 45 24 28 (show Step sortList 45 24 28 7 15 by decide +kernel)),
      (Step.hi 45 24 28 (show Step sortList 45 24 28 7 15 by decide +kernel)),
      (Step.lo 46 43 39 (show Step sortList 46 43 39 4 8 by decide +kernel)),
      (Step.hi 46 43 39 (show Step sortList 46 43 39 4 8 by decide +kernel)),
      (Step.lo 47 44 40 (show Step sortList 47 44 40 5 9 by decide +kernel)),
      (Step.hi 47 44 40 (show Step sortList 47 44 40 5 9 by decide +kernel)),
      (Step.lo 48 45 41 (show Step sortList 48 45 41 6 10 by decide +kernel)),
      (Step.hi 48 45 41 (show Step sortList 48 45 41 6 10 by decide +kernel)),
      (Step.lo 49 46 42 (show Step sortList 49 46 42 7 11 by decide +kernel)),
      (Step.hi 49 46 42 (show Step sortList 49 46 42 7 11 by decide +kernel)),
      (Step.lo 50 41 47 (show Step sortList 50 41 47 2 4 by decide +kernel)),
      (Step.hi 50 41 47 (show Step sortList 50 41 47 2 4 by decide +kernel)),
      (Step.lo 51 42 48 (show Step sortList 51 42 48 3 5 by decide +kernel)),
      (Step.hi 51 42 48 (show Step sortList 51 42 48 3 5 by decide +kernel)),
      (Step.lo 52 49 47 (show Step sortList 52 49 47 6 8 by decide +kernel)),
      (Step.hi 52 49 47 (show Step sortList 52 49 47 6 8 by decide +kernel)),
      (Step.lo 53 50 48 (show Step sortList 53 50 48 7 9 by decide +kernel)),
      (Step.hi 53 50 48 (show Step sortList 53 50 48 7 9 by decide +kernel)),
      (Step.lo 54 49 43 (show Step sortList 54 49 43 10 12 by decide +kernel)),
      (Step.hi 54 49 43 (show Step sortList 54 49 43 10 12 by decide +kernel)),
      (Step.lo 55 50 44 (show Step sortList 55 50 44 11 13 by decide +kernel)),
      (Step.hi 55 50 44 (show Step sortList 55 50 44 11 13 by decide +kernel)),
      (Step.lo 56 40 51 (show Step sortList 56 40 51 1 2 by decide +kernel)),
      (Step.hi 56 40 51 (show Step sortList 56 40 51 1 2 by decide +kernel)),
      (Step.lo 57 52 51 (show Step sortList 57 52 51 3 4 by decide +kernel)),
      (Step.hi 57 52 51 (show Step sortList 57 52 51 3 4 by decide +kernel)),
      (Step.lo 58 52 53 (show Step sortList 58 52 53 5 6 by decide +kernel)),
      (Step.hi 58 52 53 (show Step sortList 58 52 53 5 6 by decide +kernel)),
      (Step.lo 59 54 53 (show Step sortList 59 54 53 7 8 by decide +kernel)),
      (Step.hi 59 54 53 (show Step sortList 59 54 53 7 8 by decide +kernel)),
      (Step.lo 60 54 55 (show Step sortList 60 54 55 9 10 by decide +kernel)),
      (Step.hi 60 54 55 (show Step sortList 60 54 55 9 10 by decide +kernel)),
      (Step.lo 61 56 55 (show Step sortList 61 56 55 11 12 by decide +kernel)),
      (Step.hi 61 56 55 (show Step sortList 61 56 55 11 12 by decide +kernel)),
      (Step.lo 62 56 45 (show Step sortList 62 56 45 13 14 by decide +kernel)),
      (Step.hi 62 56 45 (show Step sortList 62 56 45 13 14 by decide +kernel)),
      (Step.lo 0 0 0 (show Step mergeList 0 0 0 0 8 by decide +kernel)),
      (Step.hi 0 0 0 (show Step mergeList 0 0 0 0 8 by decide +kernel)),
      (Step.lo 1 0 0 (show Step mergeList 1 0 0 1 9 by decide +kernel)),
      (Step.hi 1 0 0 (show Step mergeList 1 0 0 1 9 by decide +kernel)),
      (Step.lo 2 0 0 (show Step mergeList 2 0 0 2 10 by decide +kernel)),
      (Step.hi 2 0 0 (show Step mergeList 2 0 0 2 10 by decide +kernel)),
      (Step.lo 3 0 0 (show Step mergeList 3 0 0 3 11 by decide +kernel)),
      (Step.hi 3 0 0 (show Step mergeList 3 0 0 3 11 by decide +kernel)),
      (Step.lo 4 0 0 (show Step mergeList 4 0 0 4 12 by decide +kernel)),
      (Step.hi 4 0 0 (show Step mergeList 4 0 0 4 12 by decide +kernel)),
      (Step.lo 5 0 0 (show Step mergeList 5 0 0 5 13 by decide +kernel)),
      (Step.hi 5 0 0 (show Step mergeList 5 0 0 5 13 by decide +kernel)),
      (Step.lo 6 0 0 (show Step mergeList 6 0 0 6 14 by decide +kernel)),
      (Step.hi 6 0 0 (show Step mergeList 6 0 0 6 14 by decide +kernel)),
      (Step.lo 7 0 0 (show Step mergeList 7 0 0 7 15 by decide +kernel)),
      (Step.hi 7 0 0 (show Step mergeList 7 0 0 7 15 by decide +kernel)),
      (Step.lo 8 1 5 (show Step mergeList 8 1 5 0 4 by decide +kernel)),
      (Step.hi 8 1 5 (show Step mergeList 8 1 5 0 4 by decide +kernel)),
      (Step.lo 9 2 6 (show Step mergeList 9 2 6 1 5 by decide +kernel)),
      (Step.hi 9 2 6 (show Step mergeList 9 2 6 1 5 by decide +kernel)),
      (Step.lo 10 3 7 (show Step mergeList 10 3 7 2 6 by decide +kernel)),
      (Step.hi 10 3 7 (show Step mergeList 10 3 7 2 6 by decide +kernel)),
      (Step.lo 11 4 8 (show Step mergeList 11 4 8 3 7 by decide +kernel)),
      (Step.hi 11 4 8 (show Step mergeList 11 4 8 3 7 by decide +kernel)),
      (Step.lo 12 1 5 (show Step mergeList 12 1 5 8 12 by decide +kernel)),
      (Step.hi 12 1 5 (show Step mergeList 12 1 5 8 12 by decide +kernel)),
      (Step.lo 13 2 6 (show Step mergeList 13 2 6 9 13 by decide +kernel)),
      (Step.hi 13 2 6 (show Step mergeList 13 2 6 9 13 by decide +kernel)),
      (Step.lo 14 3 7 (show Step mergeList 14 3 7 10 14 by decide +kernel)),
      (Step.hi 14 3 7 (show Step mergeList 14 3 7 10 14 by decide +kernel)),
      (Step.lo 15 4 8 (show Step mergeList 15 4 8 11 15 by decide +kernel)),
      (Step.hi 15 4 8 (show Step mergeList 15 4 8 11 15 by decide +kernel)),
      (Step.lo 16 9 11 (show Step mergeList 16 9 11 0 2 by decide +kernel)),
      (Step.hi 16 9 11 (show Step mergeList 16 9 11 0 2 by decide +kernel)),
      (Step.lo 17 10 12 (show Step mergeList 17 10 12 1 3 by decide +kernel)),
      (Step.hi 17 10 12 (show Step mergeList 17 10 12 1 3 by decide +kernel)),
      (Step.lo 18 9 11 (show Step mergeList 18 9 11 4 6 by decide +kernel)),
      (Step.hi 18 9 11 (show Step mergeList 18 9 11 4 6 by decide +kernel)),
      (Step.lo 19 10 12 (show Step mergeList 19 10 12 5 7 by decide +kernel)),
      (Step.hi 19 10 12 (show Step mergeList 19 10 12 5 7 by decide +kernel)),
      (Step.lo 20 13 15 (show Step mergeList 20 13 15 8 10 by decide +kernel)),
      (Step.hi 20 13 15 (show Step mergeList 20 13 15 8 10 by decide +kernel)),
      (Step.lo 21 14 16 (show Step mergeList 21 14 16 9 11 by decide +kernel)),
      (Step.hi 21 14 16 (show Step mergeList 21 14 16 9 11 by decide +kernel)),
      (Step.lo 22 13 15 (show Step mergeList 22 13 15 12 14 by decide +kernel)),
      (Step.hi 22 13 15 (show Step mergeList 22 13 15 12 14 by decide +kernel)),
      (Step.lo 23 14 16 (show Step mergeList 23 14 16 13 15 by decide +kernel)),
      (Step.hi 23 14 16 (show Step mergeList 23 14 16 13 15 by decide +kernel)),
      (Step.lo 24 17 18 (show Step mergeList 24 17 18 0 1 by decide +kernel)),
      (Step.hi 24 17 18 (show Step mergeList 24 17 18 0 1 by decide +kernel)),
      (Step.lo 25 17 18 (show Step mergeList 25 17 18 2 3 by decide +kernel)),
      (Step.hi 25 17 18 (show Step mergeList 25 17 18 2 3 by decide +kernel)),
      (Step.lo 26 19 20 (show Step mergeList 26 19 20 4 5 by decide +kernel)),
      (Step.hi 26 19 20 (show Step mergeList 26 19 20 4 5 by decide +kernel)),
      (Step.lo 27 19 20 (show Step mergeList 27 19 20 6 7 by decide +kernel)),
      (Step.hi 27 19 20 (show Step mergeList 27 19 20 6 7 by decide +kernel)),
      (Step.lo 28 21 22 (show Step mergeList 28 21 22 8 9 by decide +kernel)),
      (Step.hi 28 21 22 (show Step mergeList 28 21 22 8 9 by decide +kernel)),
      (Step.lo 29 21 22 (show Step mergeList 29 21 22 10 11 by decide +kernel)),
      (Step.hi 29 21 22 (show Step mergeList 29 21 22 10 11 by decide +kernel)),
      (Step.lo 30 23 24 (show Step mergeList 30 23 24 12 13 by decide +kernel)),
      (Step.hi 30 23 24 (show Step mergeList 30 23 24 12 13 by decide +kernel)),
      (Step.lo 31 23 24 (show Step mergeList 31 23 24 14 15 by decide +kernel)),
      (Step.hi 31 23 24 (show Step mergeList 31 23 24 14 15 by decide +kernel)),
      (Last.sort16 39 (show Last sortList 39 0 by decide +kernel)), (Last.sort16 57 (show Last sortList 57 1 by decide +kernel)),
      (Last.sort16 57 (show Last sortList 57 2 by decide +kernel)), (Last.sort16 58 (show Last sortList 58 3 by decide +kernel)),
      (Last.sort16 58 (show Last sortList 58 4 by decide +kernel)), (Last.sort16 59 (show Last sortList 59 5 by decide +kernel)),
      (Last.sort16 59 (show Last sortList 59 6 by decide +kernel)), (Last.sort16 60 (show Last sortList 60 7 by decide +kernel)),
      (Last.sort16 60 (show Last sortList 60 8 by decide +kernel)), (Last.sort16 61 (show Last sortList 61 9 by decide +kernel)),
      (Last.sort16 61 (show Last sortList 61 10 by decide +kernel)), (Last.sort16 62 (show Last sortList 62 11 by decide +kernel)),
      (Last.sort16 62 (show Last sortList 62 12 by decide +kernel)), (Last.sort16 63 (show Last sortList 63 13 by decide +kernel)),
      (Last.sort16 63 (show Last sortList 63 14 by decide +kernel)), (Last.sort16 46 (show Last sortList 46 15 by decide +kernel)),
      (Last.merge 25 (show Last mergeList 25 0 by decide +kernel)), (Last.merge 25 (show Last mergeList 25 1 by decide +kernel)),
      (Last.merge 26 (show Last mergeList 26 2 by decide +kernel)), (Last.merge 26 (show Last mergeList 26 3 by decide +kernel)),
      (Last.merge 27 (show Last mergeList 27 4 by decide +kernel)), (Last.merge 27 (show Last mergeList 27 5 by decide +kernel)),
      (Last.merge 28 (show Last mergeList 28 6 by decide +kernel)), (Last.merge 28 (show Last mergeList 28 7 by decide +kernel)),
      (Last.merge 29 (show Last mergeList 29 8 by decide +kernel)), (Last.merge 29 (show Last mergeList 29 9 by decide +kernel)),
      (Last.merge 30 (show Last mergeList 30 10 by decide +kernel)), (Last.merge 30 (show Last mergeList 30 11 by decide +kernel)),
      (Last.merge 31 (show Last mergeList 31 12 by decide +kernel)), (Last.merge 31 (show Last mergeList 31 13 by decide +kernel)),
      (Last.merge 32 (show Last mergeList 32 14 by decide +kernel)), (Last.merge 32 (show Last mergeList 32 15 by decide +kernel)),
      kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15,
      kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29,
      kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43,
      kernelRun0_B.sl.r_44, kernelRun0_B.sl.r_45, kernelRun0_B.sl.r_46, kernelRun0_B.sl.r_47, kernelRun0_B.sl.r_48, kernelRun0_B.sl.r_49, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57,
      kernelRun0_B.sl.r_58, kernelRun0_B.sl.r_59, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.r_70, kernelRun0_B.sl.r_71,
      kernelRun0_B.sl.r_72, kernelRun0_B.sl.r_73, kernelRun0_B.sl.r_74, kernelRun0_B.sl.r_75, kernelRun0_B.sl.r_76, kernelRun0_B.sl.r_77, kernelRun0_B.sl.r_78, kernelRun0_B.sl.r_79, kernelRun0_B.sl.r_80, kernelRun0_B.sl.r_81, kernelRun0_B.sl.r_82, kernelRun0_B.sl.r_83, kernelRun0_B.sl.r_84, kernelRun0_B.sl.r_85,
      kernelRun0_B.sl.r_86, kernelRun0_B.sl.r_87, kernelRun0_B.sl.r_88, kernelRun0_B.sl.r_89, kernelRun0_B.sl.r_90, kernelRun0_B.sl.r_91, kernelRun0_B.sl.r_92, kernelRun0_B.sl.r_93, kernelRun0_B.sl.r_94, kernelRun0_B.sl.r_95, kernelRun0_B.sl.r_96, kernelRun0_B.sl.r_97, kernelRun0_B.sl.r_98, kernelRun0_B.sl.r_99,
      kernelRun0_B.sl.r_100, kernelRun0_B.sl.r_101, kernelRun0_B.sl.r_102, kernelRun0_B.sl.r_103, kernelRun0_B.sl.r_104, kernelRun0_B.sl.r_105, kernelRun0_B.sl.r_106, kernelRun0_B.sl.r_107, kernelRun0_B.sl.r_108, kernelRun0_B.sl.r_109, kernelRun0_B.sl.r_110, kernelRun0_B.sl.r_111, kernelRun0_B.sl.r_112,
      kernelRun0_B.sl.r_113, kernelRun0_B.sl.r_114, kernelRun0_B.sl.r_115, kernelRun0_B.sl.r_116, kernelRun0_B.sl.r_117, kernelRun0_B.sl.r_118, kernelRun0_B.sl.r_119, kernelRun0_B.sl.r_120, kernelRun0_B.sl.r_121, kernelRun0_B.sl.r_122, kernelRun0_B.sl.r_123, kernelRun0_B.sl.r_124, kernelRun0_B.sl.r_125,
      kernelRun0_B.sl.r_126, kernelRun0_B.sl.r_127, kernelRun0_B.sl.r_128, kernelRun0_B.sl.r_129, kernelRun0_B.sl.r_130, kernelRun0_B.sl.r_131, kernelRun0_B.sl.r_132, kernelRun0_B.sl.r_133, kernelRun0_B.sl.r_134, kernelRun0_B.sl.r_135, kernelRun0_B.sl.r_136, kernelRun0_B.sl.r_137, kernelRun0_B.sl.r_138,
      kernelRun0_B.sl.r_139, kernelRun0_B.sl.r_140, kernelRun0_B.sl.r_141, kernelRun0_B.sl.r_142, kernelRun0_B.sl.r_143, kernelRun0_B.sl.r_144, kernelRun0_B.sl.r_145, kernelRun0_B.sl.r_146, kernelRun0_B.sl.r_147, kernelRun0_B.sl.r_148, kernelRun0_B.sl.r_149, kernelRun0_B.sl.r_150, kernelRun0_B.sl.r_151,
      kernelRun0_B.sl.r_152, kernelRun0_B.sl.r_153, kernelRun0_B.sl.r_154, kernelRun0_B.sl.r_155, kernelRun0_B.sl.r_156, kernelRun0_B.sl.r_157, kernelRun0_B.sl.r_158, kernelRun0_B.sl.r_159, kernelRun0_B.sl.r_160, kernelRun0_B.sl.r_161, kernelRun0_B.sl.r_162, kernelRun0_B.sl.r_163, kernelRun0_B.sl.r_164,
      kernelRun0_B.sl.r_165, kernelRun0_B.sl.r_166, kernelRun0_B.sl.r_167, kernelRun0_B.sl.r_168, kernelRun0_B.sl.r_169, kernelRun0_B.sl.r_170, kernelRun0_B.sl.r_171, kernelRun0_B.sl.r_172, kernelRun0_B.sl.r_173, kernelRun0_B.sl.r_174, kernelRun0_B.sl.r_175, kernelRun0_B.sl.r_176, kernelRun0_B.sl.r_177,
      kernelRun0_B.sl.r_178, kernelRun0_B.sl.r_179, kernelRun0_B.sl.r_180, kernelRun0_B.sl.r_181, kernelRun0_B.sl.r_182, kernelRun0_B.sl.r_183, kernelRun0_B.sl.r_184, kernelRun0_B.sl.r_185, kernelRun0_B.sl.r_186, kernelRun0_B.sl.r_187, kernelRun0_B.sl.r_188, kernelRun0_B.sl.r_189, kernelRun0_B.sl.r_190,
      kernelRun0_B.sl.r_191, kernelRun0_B.sl.r_192, kernelRun0_B.sl.r_193, kernelRun0_B.sl.r_194, kernelRun0_B.sl.r_195, kernelRun0_B.sl.r_196, kernelRun0_B.sl.r_197, kernelRun0_B.sl.r_198, kernelRun0_B.sl.r_199, kernelRun0_B.sl.r_200, kernelRun0_B.sl.r_201, kernelRun0_B.sl.r_202, kernelRun0_B.sl.r_203,
      kernelRun0_B.sl.r_204, kernelRun0_B.sl.r_205, kernelRun0_B.sl.r_206, kernelRun0_B.sl.r_207, kernelRun0_B.sl.r_208, kernelRun0_B.sl.r_209, kernelRun0_B.sl.r_210, kernelRun0_B.sl.r_211, kernelRun0_B.sl.r_212, kernelRun0_B.sl.r_213, kernelRun0_B.sl.r_214, kernelRun0_B.sl.r_215, kernelRun0_B.sl.r_216,
      kernelRun0_B.sl.r_217, kernelRun0_B.sl.r_218, kernelRun0_B.sl.r_219, kernelRun0_B.sl.r_220, kernelRun0_B.sl.r_221, kernelRun0_B.sl.r_222, kernelRun0_B.sl.r_223, kernelRun0_B.sl.r_224, kernelRun0_B.sl.r_225, kernelRun0_B.sl.r_226, kernelRun0_B.sl.r_227, kernelRun0_B.sl.r_228, kernelRun0_B.sl.r_229,
      kernelRun0_B.sl.r_230, kernelRun0_B.sl.r_231, kernelRun0_B.sl.r_232, kernelRun0_B.sl.r_233, kernelRun0_B.sl.r_234, kernelRun0_B.sl.r_235, kernelRun0_B.sl.r_236, kernelRun0_B.sl.r_237, kernelRun0_B.sl.r_238, kernelRun0_B.sl.r_239, kernelRun0_B.sl.r_240, kernelRun0_B.sl.r_241, kernelRun0_B.sl.r_242,
      kernelRun0_B.sl.r_243, kernelRun0_B.sl.r_244, kernelRun0_B.sl.r_245, kernelRun0_B.sl.r_246, kernelRun0_B.sl.r_247, kernelRun0_B.sl.r_248, kernelRun0_B.sl.r_249, kernelRun0_B.sl.r_250, kernelRun0_B.sl.r_251, kernelRun0_B.sl.r_252, kernelRun0_B.sl.r_253, kernelRun0_B.sl.r_254, kernelRun0_B.sl.r_255,
      kernelRun0_B.sl.r_256, kernelRun0_B.sl.r_257, kernelRun0_B.sl.r_258, kernelRun0_B.sl.r_259, kernelRun0_B.sl.r_260, kernelRun0_B.sl.r_261, kernelRun0_B.sl.r_262, kernelRun0_B.sl.r_263, kernelRun0_B.sl.r_264, kernelRun0_B.sl.r_265, kernelRun0_B.sl.r_266, kernelRun0_B.sl.r_267, kernelRun0_B.sl.r_268,
      kernelRun0_B.sl.r_269, kernelRun0_B.sl.r_270, kernelRun0_B.sl.r_271, kernelRun0_B.sl.r_272, kernelRun0_B.sl.r_273, kernelRun0_B.sl.r_274, kernelRun0_B.sl.r_275, kernelRun0_B.sl.r_276, kernelRun0_B.sl.r_277, kernelRun0_B.sl.r_278, kernelRun0_B.sl.r_279, kernelRun0_B.sl.r_280, kernelRun0_B.sl.r_281,
      kernelRun0_B.sl.r_282, kernelRun0_B.sl.r_283, kernelRun0_B.sl.r_284, kernelRun0_B.sl.r_285, kernelRun0_B.sl.r_286, kernelRun0_B.sl.r_287, kernelRun0_B.sl.r_288, kernelRun0_B.sl.r_289, kernelRun0_B.sl.r_290, kernelRun0_B.sl.r_291, kernelRun0_B.sl.r_292, kernelRun0_B.sl.r_293, kernelRun0_B.sl.r_294,
      kernelRun0_B.sl.r_295, kernelRun0_B.sl.r_296, kernelRun0_B.sl.r_297, kernelRun0_B.sl.r_298, kernelRun0_B.sl.r_299, kernelRun0_B.sl.r_300, kernelRun0_B.sl.r_301, kernelRun0_B.sl.r_302, kernelRun0_B.sl.r_303, kernelRun0_B.sl.r_304, kernelRun0_B.sl.r_305, kernelRun0_B.sl.r_306, kernelRun0_B.sl.r_307,
      kernelRun0_B.sl.r_308, kernelRun0_B.sl.r_309, kernelRun0_B.sl.r_310, kernelRun0_B.sl.r_311, kernelRun0_B.sl.r_312, kernelRun0_B.sl.r_313, kernelRun0_B.sl.r_314, kernelRun0_B.sl.r_315, kernelRun0_B.sl.r_316, kernelRun0_B.sl.r_317, kernelRun0_B.sl.r_318, kernelRun0_B.sl.r_319, kernelRun0_B.sl.r_320,
      kernelRun0_B.sl.r_321, kernelRun0_B.sl.r_322, kernelRun0_B.sl.r_323, kernelRun0_B.sl.r_324, kernelRun0_B.sl.r_325, kernelRun0_B.sl.r_326, kernelRun0_B.sl.r_327, kernelRun0_B.sl.r_328, kernelRun0_B.sl.r_329, kernelRun0_B.sl.r_330, kernelRun0_B.sl.r_331, kernelRun0_B.sl.r_332, kernelRun0_B.sl.r_333,
      kernelRun0_B.sl.r_334, kernelRun0_B.sl.r_335, kernelRun0_B.sl.r_336, kernelRun0_B.sl.r_337, kernelRun0_B.sl.r_338, kernelRun0_B.sl.r_339, kernelRun0_B.sl.r_340, kernelRun0_B.sl.r_341, kernelRun0_B.sl.r_342, kernelRun0_B.sl.r_343, kernelRun0_B.sl.r_344, kernelRun0_B.sl.r_345, kernelRun0_B.sl.r_346,
      kernelRun0_B.sl.r_347, kernelRun0_B.sl.r_348, kernelRun0_B.sl.r_349, kernelRun0_B.sl.r_350, kernelRun0_B.sl.r_351, kernelRun0_B.sl.r_352, kernelRun0_B.sl.r_353, kernelRun0_B.sl.r_354, kernelRun0_B.sl.r_355, kernelRun0_B.sl.r_356, kernelRun0_B.sl.r_357, kernelRun0_B.sl.r_358, kernelRun0_B.sl.r_359,
      kernelRun0_B.sl.r_360, kernelRun0_B.sl.r_361, kernelRun0_B.sl.r_362, kernelRun0_B.sl.r_363, kernelRun0_B.sl.r_364, kernelRun0_B.sl.r_365, kernelRun0_B.sl.r_366, kernelRun0_B.sl.r_367, kernelRun0_B.sl.r_368, kernelRun0_B.sl.r_369, kernelRun0_B.sl.r_370, kernelRun0_B.sl.r_371, kernelRun0_B.sl.r_372,
      kernelRun0_B.sl.r_373, kernelRun0_B.sl.r_374, kernelRun0_B.sl.r_375, kernelRun0_B.sl.r_376, kernelRun0_B.sl.r_377, kernelRun0_B.sl.r_378, kernelRun0_B.sl.r_379, kernelRun0_B.sl.r_380, kernelRun0_B.sl.r_381, kernelRun0_B.sl.r_382, kernelRun0_B.sl.r_383, kernelRun0_B.sl.r_384, kernelRun0_B.sl.r_385,
      kernelRun0_B.sl.r_386, kernelRun0_B.sl.r_387, kernelRun0_B.sl.r_388, kernelRun0_B.sl.r_389, kernelRun0_B.sl.r_390, kernelRun0_B.sl.r_391, kernelRun0_B.sl.r_392, kernelRun0_B.sl.r_393, kernelRun0_B.sl.r_394, kernelRun0_B.sl.r_395, kernelRun0_B.sl.r_396, kernelRun0_B.sl.r_397, kernelRun0_B.sl.r_398,
      kernelRun0_B.sl.r_399, kernelRun0_B.sl.r_400, kernelRun0_B.sl.r_401, kernelRun0_B.sl.r_402, kernelRun0_B.sl.r_403, kernelRun0_B.sl.r_404, kernelRun0_B.sl.r_405, kernelRun0_B.sl.r_406, kernelRun0_B.sl.r_407, kernelRun0_B.sl.r_408, kernelRun0_B.sl.r_409, kernelRun0_B.sl.r_410, kernelRun0_B.sl.r_411,
      kernelRun0_B.sl.r_412, kernelRun0_B.sl.r_413, kernelRun0_B.sl.r_414, kernelRun0_B.sl.r_415, kernelRun0_B.sl.r_416, kernelRun0_B.sl.r_417, kernelRun0_B.sl.r_418, kernelRun0_B.sl.r_419, kernelRun0_B.sl.r_420, kernelRun0_B.sl.r_421, kernelRun0_B.sl.r_422, kernelRun0_B.sl.r_423, kernelRun0_B.sl.r_424,
      kernelRun0_B.sl.r_425, kernelRun0_B.sl.r_426, kernelRun0_B.sl.r_427, kernelRun0_B.sl.r_428, kernelRun0_B.sl.r_429, kernelRun0_B.sl.r_430, kernelRun0_B.sl.r_431, kernelRun0_B.sl.r_432, kernelRun0_B.sl.r_433, kernelRun0_B.sl.r_434, kernelRun0_B.sl.r_435, kernelRun0_B.sl.r_436, kernelRun0_B.sl.r_437,
      kernelRun0_B.sl.r_438, kernelRun0_B.sl.r_439, kernelRun0_B.sl.r_440, kernelRun0_B.sl.r_441, kernelRun0_B.sl.r_442, kernelRun0_B.sl.r_443, kernelRun0_B.sl.r_444, kernelRun0_B.sl.r_445, kernelRun0_B.sl.r_446, kernelRun0_B.sl.r_447, kernelRun0_B.sl.r_448, kernelRun0_B.sl.r_449, kernelRun0_B.sl.r_450,
      kernelRun0_B.sl.r_451, kernelRun0_B.sl.r_452, kernelRun0_B.sl.r_453, kernelRun0_B.sl.r_454, kernelRun0_B.sl.r_455, kernelRun0_B.sl.r_456, kernelRun0_B.sl.r_457, kernelRun0_B.sl.r_458, kernelRun0_B.sl.r_459, kernelRun0_B.sl.r_460, kernelRun0_B.sl.r_461, kernelRun0_B.sl.r_462, kernelRun0_B.sl.r_463,
      kernelRun0_B.sl.r_464, kernelRun0_B.sl.r_465, kernelRun0_B.sl.r_466, kernelRun0_B.sl.r_467, kernelRun0_B.sl.r_468, kernelRun0_B.sl.r_469, kernelRun0_B.sl.r_470, kernelRun0_B.sl.r_471, kernelRun0_B.sl.r_472, kernelRun0_B.sl.r_473, kernelRun0_B.sl.r_474, kernelRun0_B.sl.r_475, kernelRun0_B.sl.r_476,
      kernelRun0_B.sl.r_477, kernelRun0_B.sl.r_478, kernelRun0_B.sl.r_479, kernelRun0_B.sl.r_480, kernelRun0_B.sl.r_481, kernelRun0_B.sl.r_482, kernelRun0_B.sl.r_483, kernelRun0_B.sl.r_484, kernelRun0_B.sl.r_485, kernelRun0_B.sl.r_486, kernelRun0_B.sl.r_487, kernelRun0_B.sl.r_488, kernelRun0_B.sl.r_489,
      kernelRun0_B.sl.r_490, kernelRun0_B.sl.r_491, kernelRun0_B.sl.r_492, kernelRun0_B.sl.r_493, kernelRun0_B.sl.r_494, kernelRun0_B.sl.r_495, kernelRun0_B.sl.r_496, kernelRun0_B.sl.r_497, kernelRun0_B.sl.r_498, kernelRun0_B.sl.r_499, kernelRun0_B.sl.r_500, kernelRun0_B.sl.r_501, kernelRun0_B.sl.r_502,
      kernelRun0_B.sl.r_503, kernelRun0_B.sl.r_504, kernelRun0_B.sl.r_505, kernelRun0_B.sl.r_506, kernelRun0_B.sl.r_507, kernelRun0_B.sl.r_508, kernelRun0_B.sl.r_509, kernelRun0_B.sl.r_510, kernelRun0_B.sl.r_511, kernelRun0_B.sl.r_512, kernelRun0_B.sl.r_513, kernelRun0_B.sl.r_514, kernelRun0_B.sl.r_515,
      kernelRun0_B.sl.r_516, kernelRun0_B.sl.r_517, kernelRun0_B.sl.r_518, kernelRun0_B.sl.r_519, kernelRun0_B.sl.r_520, kernelRun0_B.sl.r_521, kernelRun0_B.sl.r_522, kernelRun0_B.sl.r_523, kernelRun0_B.sl.r_524, kernelRun0_B.sl.r_525, kernelRun0_B.sl.r_526, kernelRun0_B.sl.r_527, kernelRun0_B.sl.r_528,
      kernelRun0_B.sl.r_529, kernelRun0_B.sl.r_530, kernelRun0_B.sl.r_531, kernelRun0_B.sl.r_532, kernelRun0_B.sl.r_533, kernelRun0_B.sl.r_534, kernelRun0_B.sl.r_535, kernelRun0_B.sl.r_536, kernelRun0_B.sl.r_537, kernelRun0_B.sl.r_538, kernelRun0_B.sl.r_539, kernelRun0_B.sl.r_540, kernelRun0_B.sl.r_541,
      kernelRun0_B.sl.r_542, kernelRun0_B.sl.r_543, kernelRun0_B.sl.r_544, kernelRun0_B.sl.r_545, kernelRun0_B.sl.r_546, kernelRun0_B.sl.r_547, kernelRun0_B.sl.r_548, kernelRun0_B.sl.r_549, kernelRun0_B.sl.r_550, kernelRun0_B.sl.r_551, kernelRun0_B.sl.r_552, kernelRun0_B.sl.r_553, kernelRun0_B.sl.r_554,
      kernelRun0_B.sl.r_555, kernelRun0_B.sl.r_556, kernelRun0_B.sl.r_557, kernelRun0_B.sl.r_558, kernelRun0_B.sl.r_559, kernelRun0_B.sl.r_560, kernelRun0_B.sl.r_561, kernelRun0_B.sl.r_562, kernelRun0_B.sl.r_563, kernelRun0_B.sl.r_564, kernelRun0_B.sl.r_565, kernelRun0_B.sl.r_566, kernelRun0_B.sl.r_567,
      kernelRun0_B.sl.r_568, kernelRun0_B.sl.r_569, kernelRun0_B.sl.r_570, kernelRun0_B.sl.r_571, kernelRun0_B.sl.r_572, kernelRun0_B.sl.r_573, kernelRun0_B.sl.r_574, kernelRun0_B.sl.r_575, kernelRun0_B.sl.r_576, kernelRun0_B.sl.r_577, kernelRun0_B.sl.r_578, kernelRun0_B.sl.r_579, kernelRun0_B.sl.r_580,
      kernelRun0_B.sl.r_581, kernelRun0_B.sl.r_582, kernelRun0_B.sl.r_583, kernelRun0_B.sl.r_584, kernelRun0_B.sl.r_585, kernelRun0_B.sl.r_586, kernelRun0_B.sl.r_587, kernelRun0_B.sl.r_588, kernelRun0_B.sl.r_589, kernelRun0_B.sl.r_590, kernelRun0_B.sl.r_591, kernelRun0_B.sl.r_592, kernelRun0_B.sl.r_593,
      kernelRun0_B.sl.r_594, kernelRun0_B.sl.r_595, kernelRun0_B.sl.r_596, kernelRun0_B.sl.r_597, kernelRun0_B.sl.r_598, kernelRun0_B.sl.r_599, kernelRun0_B.sl.r_600, kernelRun0_B.sl.r_601, kernelRun0_B.sl.r_602, kernelRun0_B.sl.r_603, kernelRun0_B.sl.r_604, kernelRun0_B.sl.r_605, kernelRun0_B.sl.r_606,
      kernelRun0_B.sl.r_607, kernelRun0_B.sl.r_608, kernelRun0_B.sl.r_609, kernelRun0_B.sl.r_610, kernelRun0_B.sl.r_611, kernelRun0_B.sl.r_612, kernelRun0_B.sl.r_613, kernelRun0_B.sl.r_614, kernelRun0_B.sl.r_615, kernelRun0_B.sl.r_616, kernelRun0_B.sl.r_617, kernelRun0_B.sl.r_618, kernelRun0_B.sl.r_619,
      kernelRun0_B.sl.r_620, kernelRun0_B.sl.r_621, kernelRun0_B.sl.r_622, kernelRun0_B.sl.r_623, kernelRun0_B.sl.r_624, kernelRun0_B.sl.r_625, kernelRun0_B.sl.r_626, kernelRun0_B.sl.r_627, kernelRun0_B.sl.r_628, kernelRun0_B.sl.r_629, kernelRun0_B.sl.r_630, kernelRun0_B.sl.r_631, kernelRun0_B.sl.r_632,
      kernelRun0_B.sl.r_633, kernelRun0_B.sl.r_634, kernelRun0_B.sl.r_635, kernelRun0_B.sl.r_636, kernelRun0_B.sl.r_637, kernelRun0_B.sl.r_638, kernelRun0_B.sl.r_639, kernelRun0_B.sl.r_640, kernelRun0_B.sl.r_641, kernelRun0_B.sl.r_642, kernelRun0_B.sl.r_643, kernelRun0_B.sl.r_644, kernelRun0_B.sl.r_645,
      kernelRun0_B.sl.r_646, kernelRun0_B.sl.r_647, kernelRun0_B.sl.r_648, kernelRun0_B.sl.r_649, kernelRun0_B.sl.r_650, kernelRun0_B.sl.r_651, kernelRun0_B.sl.r_652, kernelRun0_B.sl.r_653, kernelRun0_B.sl.r_654, kernelRun0_B.sl.r_655, kernelRun0_B.sl.r_656, kernelRun0_B.sl.r_657, kernelRun0_B.sl.r_658,
      kernelRun0_B.sl.r_659, kernelRun0_B.sl.r_660, kernelRun0_B.sl.r_661, kernelRun0_B.sl.r_662, kernelRun0_B.sl.r_663, kernelRun0_B.sl.r_664, kernelRun0_B.sl.r_665, kernelRun0_B.sl.r_666, kernelRun0_B.sl.r_667, kernelRun0_B.sl.r_668, kernelRun0_B.sl.r_669, kernelRun0_B.sl.r_670, kernelRun0_B.sl.r_671,
      kernelRun0_B.sl.r_672, kernelRun0_B.sl.r_673, kernelRun0_B.sl.r_674, kernelRun0_B.sl.r_675, kernelRun0_B.sl.r_676, kernelRun0_B.sl.r_677, kernelRun0_B.sl.r_678, kernelRun0_B.sl.r_679, kernelRun0_B.sl.r_680, kernelRun0_B.sl.r_681, kernelRun0_B.sl.r_682, kernelRun0_B.sl.r_683, kernelRun0_B.sl.r_684,
      kernelRun0_B.sl.r_685, kernelRun0_B.sl.r_686, kernelRun0_B.sl.r_687, kernelRun0_B.sl.r_688, kernelRun0_B.sl.r_689, kernelRun0_B.sl.r_690, kernelRun0_B.sl.r_691, kernelRun0_B.sl.r_692, kernelRun0_B.sl.r_693, kernelRun0_B.sl.r_694, kernelRun0_B.sl.r_695, kernelRun0_B.sl.r_696, kernelRun0_B.sl.r_697,
      kernelRun0_B.sl.r_698, kernelRun0_B.sl.r_699, kernelRun0_B.sl.r_700, kernelRun0_B.sl.r_701, kernelRun0_B.sl.r_702, kernelRun0_B.sl.r_703, kernelRun0_B.sl.r_704, kernelRun0_B.sl.r_705, kernelRun0_B.sl.r_706, kernelRun0_B.sl.r_707, kernelRun0_B.sl.r_708, kernelRun0_B.sl.r_709, kernelRun0_B.sl.r_710,
      kernelRun0_B.sl.r_711, kernelRun0_B.sl.r_712, kernelRun0_B.sl.r_713, kernelRun0_B.sl.r_714, kernelRun0_B.sl.r_715, kernelRun0_B.sl.r_716, kernelRun0_B.sl.r_717, kernelRun0_B.sl.r_718, kernelRun0_B.sl.r_719, kernelRun0_B.sl.r_720, kernelRun0_B.sl.r_721, kernelRun0_B.sl.r_722, kernelRun0_B.sl.r_723,
      kernelRun0_B.sl.r_724, kernelRun0_B.sl.r_725, kernelRun0_B.sl.r_726, kernelRun0_B.sl.r_727, kernelRun0_B.sl.r_728, kernelRun0_B.sl.r_729, kernelRun0_B.sl.r_730, kernelRun0_B.sl.r_731, kernelRun0_B.sl.r_732, kernelRun0_B.sl.r_733, kernelRun0_B.sl.r_734, kernelRun0_B.sl.r_735, kernelRun0_B.sl.r_736,
      kernelRun0_B.sl.r_737, kernelRun0_B.sl.r_738, kernelRun0_B.sl.r_739, kernelRun0_B.sl.r_740, kernelRun0_B.sl.r_741, kernelRun0_B.sl.r_742, kernelRun0_B.sl.r_743, kernelRun0_B.sl.r_744, kernelRun0_B.sl.r_745, kernelRun0_B.sl.r_746, kernelRun0_B.sl.r_747, kernelRun0_B.sl.r_748, kernelRun0_B.sl.r_749,
      kernelRun0_B.sl.r_750, kernelRun0_B.sl.r_751, kernelRun0_B.sl.r_752, kernelRun0_B.sl.r_753, kernelRun0_B.sl.r_754, kernelRun0_B.sl.r_755, kernelRun0_B.sl.r_756, kernelRun0_B.sl.r_757, kernelRun0_B.sl.r_758, kernelRun0_B.sl.r_759, kernelRun0_B.sl.r_760, kernelRun0_B.sl.r_761, kernelRun0_B.sl.r_762,
      kernelRun0_B.sl.r_763, kernelRun0_B.sl.r_764, kernelRun0_B.sl.r_765, kernelRun0_B.sl.r_766, kernelRun0_B.sl.r_767, kernelRun0_B.sl.r_768, kernelRun0_B.sl.r_769, kernelRun0_B.sl.r_770, kernelRun0_B.sl.r_771, kernelRun0_B.sl.r_772, kernelRun0_B.sl.r_773, kernelRun0_B.sl.r_774, kernelRun0_B.sl.r_775,
      kernelRun0_B.sl.r_776, kernelRun0_B.sl.r_777, kernelRun0_B.sl.r_778, kernelRun0_B.sl.r_779, kernelRun0_B.sl.r_780, kernelRun0_B.sl.r_781, kernelRun0_B.sl.r_782, kernelRun0_B.sl.r_783, kernelRun0_B.sl.r_784, kernelRun0_B.sl.r_785, kernelRun0_B.sl.r_786, kernelRun0_B.sl.r_787, kernelRun0_B.sl.r_788,
      kernelRun0_B.sl.r_789, kernelRun0_B.sl.r_790, kernelRun0_B.sl.r_791, kernelRun0_B.sl.r_792, kernelRun0_B.sl.r_793, kernelRun0_B.sl.r_794, kernelRun0_B.sl.r_795, kernelRun0_B.sl.r_796, kernelRun0_B.sl.r_797, kernelRun0_B.sl.r_798, kernelRun0_B.sl.r_799, kernelRun0_B.sl.r_800, kernelRun0_B.sl.r_801,
      kernelRun0_B.sl.r_802, kernelRun0_B.sl.r_803, kernelRun0_B.sl.r_804, kernelRun0_B.sl.r_805, kernelRun0_B.sl.r_806, kernelRun0_B.sl.r_807, kernelRun0_B.sl.r_808, kernelRun0_B.sl.r_809, kernelRun0_B.sl.r_810, kernelRun0_B.sl.r_811, kernelRun0_B.sl.r_812, kernelRun0_B.sl.r_813, kernelRun0_B.sl.r_814,
      kernelRun0_B.sl.r_815, kernelRun0_B.sl.r_816, kernelRun0_B.sl.r_817, kernelRun0_B.sl.r_818, kernelRun0_B.sl.r_819, kernelRun0_B.sl.r_820, kernelRun0_B.sl.r_821, kernelRun0_B.sl.r_822, kernelRun0_B.sl.r_823, kernelRun0_B.sl.r_824, kernelRun0_B.sl.r_825, kernelRun0_B.sl.r_826, kernelRun0_B.sl.r_827,
      kernelRun0_B.sl.r_828, kernelRun0_B.sl.r_829, kernelRun0_B.sl.r_830, kernelRun0_B.sl.r_831, kernelRun0_B.sl.r_832, kernelRun0_B.sl.r_833, kernelRun0_B.sl.r_834, kernelRun0_B.sl.r_835, kernelRun0_B.sl.r_836, kernelRun0_B.sl.r_837, kernelRun0_B.sl.r_838, kernelRun0_B.sl.r_839, kernelRun0_B.sl.r_840,
      kernelRun0_B.sl.r_841, kernelRun0_B.sl.r_842, kernelRun0_B.sl.r_843, kernelRun0_B.sl.r_844, kernelRun0_B.sl.r_845, kernelRun0_B.sl.r_846, kernelRun0_B.sl.r_847, kernelRun0_B.sl.r_848, kernelRun0_B.sl.r_849, kernelRun0_B.sl.r_850, kernelRun0_B.sl.r_851, kernelRun0_B.sl.r_852, kernelRun0_B.sl.r_853,
      kernelRun0_B.sl.r_854, kernelRun0_B.sl.r_855, kernelRun0_B.sl.r_856, kernelRun0_B.sl.r_857, kernelRun0_B.sl.r_858, kernelRun0_B.sl.r_859, kernelRun0_B.sl.r_860, kernelRun0_B.sl.r_861, kernelRun0_B.sl.r_862, kernelRun0_B.sl.r_863, kernelRun0_B.sl.r_864, kernelRun0_B.sl.r_865, kernelRun0_B.sl.r_866,
      kernelRun0_B.sl.r_867, kernelRun0_B.sl.r_868, kernelRun0_B.sl.r_869, kernelRun0_B.sl.r_870, kernelRun0_B.sl.r_871, kernelRun0_B.sl.r_872, kernelRun0_B.sl.r_873, kernelRun0_B.sl.r_874, kernelRun0_B.sl.r_875, kernelRun0_B.sl.r_876, kernelRun0_B.sl.r_877, kernelRun0_B.sl.r_878, kernelRun0_B.sl.r_879,
      kernelRun0_B.sl.r_880, kernelRun0_B.sl.r_881, kernelRun0_B.sl.r_882, kernelRun0_B.sl.r_883, kernelRun0_B.sl.r_884, kernelRun0_B.sl.r_885, kernelRun0_B.sl.r_886, kernelRun0_B.sl.r_887, kernelRun0_B.sl.r_888, kernelRun0_B.sl.r_889, kernelRun0_B.sl.r_890, kernelRun0_B.sl.r_891, kernelRun0_B.sl.r_892,
      kernelRun0_B.sl.r_893, kernelRun0_B.sl.r_894, kernelRun0_B.sl.r_895, kernelRun0_B.sl.r_896, kernelRun0_B.sl.r_897, kernelRun0_B.sl.r_898, kernelRun0_B.sl.r_899, kernelRun0_B.sl.r_900, kernelRun0_B.sl.r_901, kernelRun0_B.sl.r_902, kernelRun0_B.sl.r_903, kernelRun0_B.sl.r_904, kernelRun0_B.sl.r_905,
      kernelRun0_B.sl.r_906, kernelRun0_B.sl.r_907, kernelRun0_B.sl.r_908, kernelRun0_B.sl.r_909, kernelRun0_B.sl.r_910, kernelRun0_B.sl.r_911, kernelRun0_B.sl.r_912, kernelRun0_B.sl.r_913, kernelRun0_B.sl.r_914, kernelRun0_B.sl.r_915, kernelRun0_B.sl.r_916, kernelRun0_B.sl.r_917, kernelRun0_B.sl.r_918,
      kernelRun0_B.sl.r_919, kernelRun0_B.sl.r_920, kernelRun0_B.sl.r_921, kernelRun0_B.sl.r_922, kernelRun0_B.sl.r_923, kernelRun0_B.sl.r_924, kernelRun0_B.sl.r_925, kernelRun0_B.sl.r_926, kernelRun0_B.sl.r_927, kernelRun0_B.sl.r_928, kernelRun0_B.sl.r_929, kernelRun0_B.sl.r_930, kernelRun0_B.sl.r_931,
      kernelRun0_B.sl.r_932, kernelRun0_B.sl.r_933, kernelRun0_B.sl.r_934, kernelRun0_B.sl.r_935, kernelRun0_B.sl.r_936, kernelRun0_B.sl.r_937, kernelRun0_B.sl.r_938, kernelRun0_B.sl.r_939, kernelRun0_B.sl.r_940, kernelRun0_B.sl.r_941, kernelRun0_B.sl.r_942, kernelRun0_B.sl.r_943, kernelRun0_B.sl.r_944,
      kernelRun0_B.sl.r_945, kernelRun0_B.sl.r_946, kernelRun0_B.sl.r_947, kernelRun0_B.sl.r_948, kernelRun0_B.sl.r_949, kernelRun0_B.sl.r_950, kernelRun0_B.sl.r_951, kernelRun0_B.sl.r_952, kernelRun0_B.sl.r_953, kernelRun0_B.sl.r_954, kernelRun0_B.sl.r_955, kernelRun0_B.sl.r_956, kernelRun0_B.sl.r_957,
      kernelRun0_B.sl.r_958, kernelRun0_B.sl.r_959, kernelRun0_B.sl.r_960, kernelRun0_B.sl.r_961, kernelRun0_B.sl.r_962, kernelRun0_B.sl.r_963, kernelRun0_B.sl.r_964, kernelRun0_B.sl.r_965, kernelRun0_B.sl.r_966, kernelRun0_B.sl.r_967, kernelRun0_B.sl.r_968, kernelRun0_B.sl.r_969, kernelRun0_B.sl.r_970,
      kernelRun0_B.sl.r_971, kernelRun0_B.sl.r_972, kernelRun0_B.sl.r_973, kernelRun0_B.sl.r_974, kernelRun0_B.sl.r_975, kernelRun0_B.sl.r_976, kernelRun0_B.sl.r_977, kernelRun0_B.sl.r_978, kernelRun0_B.sl.r_979, kernelRun0_B.sl.r_980, kernelRun0_B.sl.r_981, kernelRun0_B.sl.r_982, kernelRun0_B.sl.r_983,
      kernelRun0_B.sl.r_984, kernelRun0_B.sl.r_985, kernelRun0_B.sl.r_986, kernelRun0_B.sl.r_987, kernelRun0_B.sl.r_988, kernelRun0_B.sl.r_989, kernelRun0_B.sl.r_990, kernelRun0_B.sl.r_991, kernelRun0_B.sl.r_992, kernelRun0_B.sl.r_993, kernelRun0_B.sl.r_994, kernelRun0_B.sl.r_995, kernelRun0_B.sl.r_996,
      kernelRun0_B.sl.r_997, kernelRun0_B.sl.r_998, kernelRun0_B.sl.r_999, kernelRun0_B.sl.r_1000, kernelRun0_B.sl.r_1001, kernelRun0_B.sl.r_1002, kernelRun0_B.sl.r_1003, kernelRun0_B.sl.r_1004, kernelRun0_B.sl.r_1005, kernelRun0_B.sl.r_1006, kernelRun0_B.sl.r_1007, kernelRun0_B.sl.r_1008,
      kernelRun0_B.sl.r_1009, kernelRun0_B.sl.r_1010, kernelRun0_B.sl.r_1011, kernelRun0_B.sl.r_1012, kernelRun0_B.sl.r_1013, kernelRun0_B.sl.r_1014, kernelRun0_B.sl.r_1015, kernelRun0_B.sl.r_1016, kernelRun0_B.sl.r_1017, kernelRun0_B.sl.r_1018, kernelRun0_B.sl.r_1019, kernelRun0_B.sl.r_1020,
      kernelRun0_B.sl.r_1021, kernelRun0_B.sl.r_1022, kernelRun0_B.sl.r_1023, kernelRun0_B.sl.r_1024, kernelRun0_B.sl.r_1025, kernelRun0_B.sl.r_1026, kernelRun0_B.sl.r_1027, kernelRun0_B.sl.r_1028, kernelRun0_B.sl.r_1029, kernelRun0_B.sl.r_1030, kernelRun0_B.sl.r_1031, kernelRun0_B.sl.r_1032,
      kernelRun0_B.sl.r_1033, kernelRun0_B.sl.r_1034, kernelRun0_B.sl.r_1035, kernelRun0_B.sl.r_1036, kernelRun0_B.sl.r_1037, kernelRun0_B.sl.r_1038, kernelRun0_B.sl.r_1039, kernelRun0_B.sl.r_1040, kernelRun0_B.sl.r_1041, kernelRun0_B.sl.r_1042, kernelRun0_B.sl.r_1043, kernelRun0_B.sl.r_1044,
      kernelRun0_B.sl.r_1045, kernelRun0_B.sl.r_1046, kernelRun0_B.sl.r_1047, kernelRun0_B.sl.r_1048, kernelRun0_B.sl.r_1049, kernelRun0_B.sl.r_1050, kernelRun0_B.sl.r_1051, kernelRun0_B.sl.r_1052, kernelRun0_B.sl.r_1053, kernelRun0_B.sl.r_1054, kernelRun0_B.sl.r_1055, kernelRun0_B.sl.r_1056,
      kernelRun0_B.sl.r_1057, kernelRun0_B.sl.r_1058, kernelRun0_B.sl.r_1059, kernelRun0_B.sl.r_1060, kernelRun0_B.sl.r_1061, kernelRun0_B.sl.r_1062, kernelRun0_B.sl.r_1063, kernelRun0_B.sl.r_1064, kernelRun0_B.sl.r_1065, kernelRun0_B.sl.r_1066, kernelRun0_B.sl.r_1067, kernelRun0_B.sl.r_1068,
      kernelRun0_B.sl.r_1069, kernelRun0_B.sl.r_1070, kernelRun0_B.sl.r_1071, kernelRun0_B.sl.r_1072, kernelRun0_B.sl.r_1073, kernelRun0_B.sl.r_1074, kernelRun0_B.sl.r_1075, kernelRun0_B.sl.r_1076, kernelRun0_B.sl.r_1077, kernelRun0_B.sl.r_1078, kernelRun0_B.sl.r_1079, kernelRun0_B.sl.r_1080,
      kernelRun0_B.sl.r_1081, kernelRun0_B.sl.r_1082, kernelRun0_B.sl.r_1083, kernelRun0_B.sl.r_1084, kernelRun0_B.sl.r_1085, kernelRun0_B.sl.r_1086, kernelRun0_B.sl.r_1087, kernelRun0_B.sl.r_1088, kernelRun0_B.sl.r_1089, kernelRun0_B.sl.r_1090, kernelRun0_B.sl.r_1091, kernelRun0_B.sl.r_1092,
      kernelRun0_B.sl.r_1093, kernelRun0_B.sl.r_1094, kernelRun0_B.sl.r_1095, kernelRun0_B.sl.r_1096, kernelRun0_B.sl.r_1097, kernelRun0_B.sl.r_1098, kernelRun0_B.sl.r_1099, kernelRun0_B.sl.r_1100, kernelRun0_B.sl.r_1101, kernelRun0_B.sl.r_1102, kernelRun0_B.sl.r_1103, kernelRun0_B.sl.r_1104,
      kernelRun0_B.sl.r_1105, kernelRun0_B.sl.r_1106, kernelRun0_B.sl.r_1107, kernelRun0_B.sl.r_1108, kernelRun0_B.sl.r_1109, kernelRun0_B.sl.r_1110, kernelRun0_B.sl.r_1111, kernelRun0_B.sl.r_1112, kernelRun0_B.sl.r_1113, kernelRun0_B.sl.r_1114, kernelRun0_B.sl.r_1115, kernelRun0_B.sl.r_1116,
      kernelRun0_B.sl.r_1117, kernelRun0_B.sl.r_1118, kernelRun0_B.sl.r_1119, kernelRun0_B.sl.r_1120, kernelRun0_B.sl.r_1121, kernelRun0_B.sl.r_1122, kernelRun0_B.sl.r_1123, kernelRun0_B.sl.r_1124, kernelRun0_B.sl.r_1125, kernelRun0_B.sl.r_1126, kernelRun0_B.sl.r_1127, kernelRun0_B.sl.r_1128,
      kernelRun0_B.sl.r_1129, kernelRun0_B.sl.r_1130, kernelRun0_B.sl.r_1131, kernelRun0_B.sl.r_1132, kernelRun0_B.sl.r_1133, kernelRun0_B.sl.r_1134, kernelRun0_B.sl.r_1135, kernelRun0_B.sl.r_1136, kernelRun0_B.sl.r_1137, kernelRun0_B.sl.r_1138, kernelRun0_B.sl.r_1139, kernelRun0_B.sl.r_1140,
      kernelRun0_B.sl.r_1141, kernelRun0_B.sl.r_1142, kernelRun0_B.sl.r_1143, kernelRun0_B.sl.r_1144, kernelRun0_B.sl.r_1145, kernelRun0_B.sl.r_1146, kernelRun0_B.sl.r_1147, kernelRun0_B.sl.r_1148, kernelRun0_B.sl.r_1149, kernelRun0_B.sl.v4, kernelRun0_B.sl.v5, kernelRun0_B.sl.v6, kernelRun0_B.sl.v448,
      kernelRun0_B.sl.v449, kernelRun0_B.sl.v450, kernelRun0_B.sl.v451, kernelRun0_B.sl.v452, kernelRun0_B.sl.v453, kernelRun0_B.sl.v454, kernelRun0_B.sl.v455, kernelRun0_B.sl.v456, kernelRun0_B.sl.v457, kernelRun0_B.sl.v458, kernelRun0_B.sl.v459, kernelRun0_B.sl.v460, kernelRun0_B.sl.v461, kernelRun0_B.sl.v462,
      kernelRun0_B.sl.v463, kernelRun0_B.sl.v464, kernelRun0_B.sl.v465, kernelRun0_B.sl.v466, kernelRun0_B.sl.v467, kernelRun0_B.sl.v468, kernelRun0_B.sl.v469, kernelRun0_B.sl.v470, kernelRun0_B.sl.v471, kernelRun0_B.sl.v472, kernelRun0_B.sl.v473, kernelRun0_B.sl.v474, kernelRun0_B.sl.v475, kernelRun0_B.sl.v476,
      kernelRun0_B.sl.v477, kernelRun0_B.sl.v478, kernelRun0_B.sl.v479, kernelRun0_B.sl.v480, kernelRun0_B.sl.v481, kernelRun0_B.sl.v482, kernelRun0_B.sl.v483, kernelRun0_B.sl.v484, kernelRun0_B.sl.v485, kernelRun0_B.sl.v486, kernelRun0_B.sl.v487, kernelRun0_B.sl.v488, kernelRun0_B.sl.v489, kernelRun0_B.sl.v490,
      kernelRun0_B.sl.v491, kernelRun0_B.sl.v492, kernelRun0_B.sl.v493, kernelRun0_B.sl.v494, kernelRun0_B.sl.v495, kernelRun0_B.sl.v496, kernelRun0_B.sl.v497, kernelRun0_B.sl.v498, kernelRun0_B.sl.v499, kernelRun0_B.sl.v500, kernelRun0_B.sl.v501, kernelRun0_B.sl.v502, kernelRun0_B.sl.v503, kernelRun0_B.sl.v504,
      kernelRun0_B.sl.v505, kernelRun0_B.sl.v506, kernelRun0_B.sl.v507, kernelRun0_B.sl.v508, kernelRun0_B.sl.v509, kernelRun0_B.sl.v510, kernelRun0_B.sl.v511, kernelRun0_B.sl.v512, kernelRun0_B.sl.v513, kernelRun0_B.sl.v514, kernelRun0_B.sl.v515, kernelRun0_B.sl.v516, kernelRun0_B.sl.v517, kernelRun0_B.sl.v518,
      kernelRun0_B.sl.v519, kernelRun0_B.sl.v520, kernelRun0_B.sl.v521, kernelRun0_B.sl.v522, kernelRun0_B.sl.v523, kernelRun0_B.sl.v524, kernelRun0_B.sl.v525, kernelRun0_B.sl.v526, kernelRun0_B.sl.v527, kernelRun0_B.sl.v528, kernelRun0_B.sl.v529, kernelRun0_B.sl.v530, kernelRun0_B.sl.v531, kernelRun0_B.sl.v532,
      kernelRun0_B.sl.v533, kernelRun0_B.sl.v534, kernelRun0_B.sl.v535, kernelRun0_B.sl.v536, kernelRun0_B.sl.v537, kernelRun0_B.sl.v538, kernelRun0_B.sl.v540, kernelRun0_B.sl.v541, kernelRun0_B.sl.v543, kernelRun0_B.sl.v544, kernelRun0_B.sl.v546, kernelRun0_B.sl.v547, kernelRun0_B.sl.v549, kernelRun0_B.sl.v550,
      kernelRun0_B.sl.v552, kernelRun0_B.sl.v553, kernelRun0_B.sl.v555, kernelRun0_B.sl.v556, kernelRun0_B.sl.v558, kernelRun0_B.sl.v559, kernelRun0_B.sl.v561, kernelRun0_B.sl.v562, kernelRun0_B.sl.v564, kernelRun0_B.sl.v565, kernelRun0_B.sl.v567, kernelRun0_B.sl.v808, kernelRun0_B.sl.v809, kernelRun0_B.sl.v810,
      kernelRun0_B.sl.v811, kernelRun0_B.sl.v812, kernelRun0_B.sl.v813, kernelRun0_B.sl.v814, kernelRun0_B.sl.v815, kernelRun0_B.sl.v816, kernelRun0_B.sl.v817, kernelRun0_B.sl.v818, kernelRun0_B.sl.v819, kernelRun0_B.sl.v820, kernelRun0_B.sl.v821, kernelRun0_B.sl.v822, kernelRun0_B.sl.v823, kernelRun0_B.sl.v824,
      kernelRun0_B.sl.v825, kernelRun0_B.sl.v826, kernelRun0_B.sl.v827, kernelRun0_B.sl.v828, kernelRun0_B.sl.v829, kernelRun0_B.sl.v830, kernelRun0_B.sl.v831, kernelRun0_B.sl.v832, kernelRun0_B.sl.v833, kernelRun0_B.sl.v834, kernelRun0_B.sl.v835, kernelRun0_B.sl.v836, kernelRun0_B.sl.v837, kernelRun0_B.sl.v838,
      kernelRun0_B.sl.v839, kernelRun0_B.sl.v840, kernelRun0_B.sl.v841, kernelRun0_B.sl.v842, kernelRun0_B.sl.v843, kernelRun0_B.sl.v844, kernelRun0_B.sl.v845, kernelRun0_B.sl.v846, kernelRun0_B.sl.v847, kernelRun0_B.sl.v848, kernelRun0_B.sl.v849, kernelRun0_B.sl.v850, kernelRun0_B.sl.v851, kernelRun0_B.sl.v852,
      kernelRun0_B.sl.v853, kernelRun0_B.sl.v854, kernelRun0_B.sl.v855, kernelRun0_B.sl.v856, kernelRun0_B.sl.v857, kernelRun0_B.sl.v859, kernelRun0_B.sl.v860, kernelRun0_B.sl.v862, kernelRun0_B.sl.v863, kernelRun0_B.sl.v865, kernelRun0_B.sl.v866, kernelRun0_B.sl.v868, kernelRun0_B.sl.v869, kernelRun0_B.sl.v871,
      kernelRun0_B.sl.v872, kernelRun0_B.sl.v874, kernelRun0_B.sl.v875, kernelRun0_B.sl.v877, kernelRun0_B.sl.v878, kernelRun0_B.sl.v880, kernelRun0_B.sl.v881, kernelRun0_B.sl.v883, kernelRun0_B.sl.v884, kernelRun0_B.sl.v886, kernelRun0_B.sl.v887, kernelRun0_B.sl.v889, kernelRun0_B.sl.v890, kernelRun0_B.sl.v891,
      kernelRun0_B.sl.v892, kernelRun0_B.sl.v893, kernelRun0_B.sl.v894, kernelRun0_B.sl.v895, kernelRun0_B.sl.v896, kernelRun0_B.sl.v897, kernelRun0_B.sl.v898, kernelRun0_B.sl.v899, kernelRun0_B.sl.v900, kernelRun0_B.sl.v901, kernelRun0_B.sl.v902, kernelRun0_B.sl.v903, kernelRun0_B.sl.v904, kernelRun0_B.sl.v905,
      kernelRun0_B.sl.v906, kernelRun0_B.sl.v907, kernelRun0_B.sl.v908, kernelRun0_B.sl.v909, kernelRun0_B.sl.v910, kernelRun0_B.sl.v911, kernelRun0_B.sl.v912, kernelRun0_B.sl.v913, kernelRun0_B.sl.v914, kernelRun0_B.sl.v915, kernelRun0_B.sl.v916, kernelRun0_B.sl.v917, kernelRun0_B.sl.v918, kernelRun0_B.sl.v919,
      kernelRun0_B.sl.v920, kernelRun0_B.sl.v921, kernelRun0_B.sl.v922, kernelRun0_B.sl.v923, kernelRun0_B.sl.v924, kernelRun0_B.sl.v925, kernelRun0_B.sl.v926, kernelRun0_B.sl.v927, kernelRun0_B.sl.v1228, kernelRun0_B.sl.v1229, kernelRun0_B.sl.v1230, kernelRun0_B.sl.v1231, kernelRun0_B.sl.v1232, kernelRun0_B.sl.v1233,
      kernelRun0_B.sl.v1234, kernelRun0_B.sl.v1235, kernelRun0_B.sl.v1236, kernelRun0_B.sl.v1237, kernelRun0_B.sl.v1238, kernelRun0_B.sl.v1239, kernelRun0_B.sl.v1240, kernelRun0_B.sl.v1241, kernelRun0_B.sl.v1242, kernelRun0_B.sl.v1243, kernelRun0_B.sl.v1244, kernelRun0_B.sl.v1245, kernelRun0_B.sl.v1246,
      kernelRun0_B.sl.v1247, kernelRun0_B.sl.v1248, kernelRun0_B.sl.v1249, kernelRun0_B.sl.v1250, kernelRun0_B.sl.v1251, kernelRun0_B.sl.v1252, kernelRun0_B.sl.v1253, kernelRun0_B.sl.v1254, kernelRun0_B.sl.v1255, kernelRun0_B.sl.v1256, kernelRun0_B.sl.v1257, kernelRun0_B.sl.v1258, kernelRun0_B.sl.v1259,
      kernelRun0_B.sl.v1260, kernelRun0_B.sl.v1261, kernelRun0_B.sl.v1262, kernelRun0_B.sl.v1263, kernelRun0_B.sl.v1264, kernelRun0_B.sl.v1265, kernelRun0_B.sl.v1266, kernelRun0_B.sl.v1267, kernelRun0_B.sl.v1268, kernelRun0_B.sl.v1269, kernelRun0_B.sl.v1270, kernelRun0_B.sl.v1271, kernelRun0_B.sl.v1272,
      kernelRun0_B.sl.v1273, kernelRun0_B.sl.v1274, kernelRun0_B.sl.v1275, kernelRun0_B.sl.v1277, kernelRun0_B.sl.v1278, kernelRun0_B.sl.v1280, kernelRun0_B.sl.v1281, kernelRun0_B.sl.v1283, kernelRun0_B.sl.v1284, kernelRun0_B.sl.v1286, kernelRun0_B.sl.v1287, kernelRun0_B.sl.v1289, kernelRun0_B.sl.v1290,
      kernelRun0_B.sl.v1291, kernelRun0_B.sl.v1292, kernelRun0_B.sl.v1293, kernelRun0_B.sl.v1294, kernelRun0_B.sl.v1295, kernelRun0_B.sl.v1296, kernelRun0_B.sl.v1297, kernelRun0_B.sl.v1298, kernelRun0_B.sl.v1299, kernelRun0_B.sl.v1300, kernelRun0_B.sl.v1301, kernelRun0_B.sl.v1302, kernelRun0_B.sl.v1303,
      kernelRun0_B.sl.v1304, kernelRun0_B.sl.v1305, kernelRun0_B.sl.v1306, kernelRun0_B.sl.v1307, kernelRun0_B.sl.v1308, kernelRun0_B.sl.v1309, kernelRun0_B.sl.v1310, kernelRun0_B.sl.v1311, kernelRun0_B.sl.v1312, kernelRun0_B.sl.v1313, kernelRun0_B.sl.v1314, kernelRun0_B.sl.v1315, kernelRun0_B.sl.v1316,
      kernelRun0_B.sl.v1317, kernelRun0_B.sl.v1318, kernelRun0_B.sl.v1319, kernelRun0_B.sl.v1320, kernelRun0_B.sl.v1321, kernelRun0_B.sl.v1322, kernelRun0_B.sl.v1323, kernelRun0_B.sl.v1324, kernelRun0_B.sl.v1325, kernelRun0_B.sl.v1326, kernelRun0_B.sl.v1327, kernelRun0_B.sl.v1328, kernelRun0_B.sl.v1329,
      kernelRun0_B.sl.v1330, kernelRun0_B.sl.v1331, kernelRun0_B.sl.v1332, kernelRun0_B.sl.v1333, kernelRun0_B.sl.v1334, kernelRun0_B.sl.v1335, kernelRun0_B.sl.v1336, kernelRun0_B.sl.v1337, kernelRun0_B.sl.v1338, kernelRun0_B.sl.v1340, kernelRun0_B.sl.v1341, kernelRun0_B.sl.v1343, kernelRun0_B.sl.v1344,
      kernelRun0_B.sl.v1346, kernelRun0_B.sl.v1347, kernelRun0_B.sl.v1648, kernelRun0_B.sl.v1649, kernelRun0_B.sl.v1650, kernelRun0_B.sl.v1651, kernelRun0_B.sl.v1652, kernelRun0_B.sl.v1653, kernelRun0_B.sl.v1654, kernelRun0_B.sl.v1655, kernelRun0_B.sl.v1656, kernelRun0_B.sl.v1657, kernelRun0_B.sl.v1658,
      kernelRun0_B.sl.v1659, kernelRun0_B.sl.v1660, kernelRun0_B.sl.v1661, kernelRun0_B.sl.v1662, kernelRun0_B.sl.v1663, kernelRun0_B.sl.v1664, kernelRun0_B.sl.v1665, kernelRun0_B.sl.v1666, kernelRun0_B.sl.v1667, kernelRun0_B.sl.v1668, kernelRun0_B.sl.v1669, kernelRun0_B.sl.v1670, kernelRun0_B.sl.v1671,
      kernelRun0_B.sl.v1672, kernelRun0_B.sl.v1673, kernelRun0_B.sl.v1674, kernelRun0_B.sl.v1675, kernelRun0_B.sl.v1676, kernelRun0_B.sl.v1677, kernelRun0_B.sl.v1678, kernelRun0_B.sl.v1679, kernelRun0_B.sl.v1680, kernelRun0_B.sl.v1681, kernelRun0_B.sl.v1682, kernelRun0_B.sl.v1683, kernelRun0_B.sl.v1684,
      kernelRun0_B.sl.v1685, kernelRun0_B.sl.v1686, kernelRun0_B.sl.v1687, kernelRun0_B.sl.v1688, kernelRun0_B.sl.v1689, kernelRun0_B.sl.v1690, kernelRun0_B.sl.v1691, kernelRun0_B.sl.v1692, kernelRun0_B.sl.v1693, kernelRun0_B.sl.v1694, kernelRun0_B.sl.v1695, kernelRun0_B.sl.v1696, kernelRun0_B.sl.v1697,
      kernelRun0_B.sl.v1698, kernelRun0_B.sl.v1699, kernelRun0_B.sl.v1700, kernelRun0_B.sl.v1701, kernelRun0_B.sl.v1702, kernelRun0_B.sl.v1703, kernelRun0_B.sl.v1704, kernelRun0_B.sl.v1705, kernelRun0_B.sl.v1706, kernelRun0_B.sl.v1707, kernelRun0_B.sl.v1708, kernelRun0_B.sl.v1709, kernelRun0_B.sl.v1710,
      kernelRun0_B.sl.v1711, kernelRun0_B.sl.v1712, kernelRun0_B.sl.v1713, kernelRun0_B.sl.v1714, kernelRun0_B.sl.v1715, kernelRun0_B.sl.v1716, kernelRun0_B.sl.v1717, kernelRun0_B.sl.v1718, kernelRun0_B.sl.v1719, kernelRun0_B.sl.v1720, kernelRun0_B.sl.v1721, kernelRun0_B.sl.v1722, kernelRun0_B.sl.v1723,
      kernelRun0_B.sl.v1724, kernelRun0_B.sl.v1725, kernelRun0_B.sl.v1726, kernelRun0_B.sl.v1727, kernelRun0_B.sl.v1728, kernelRun0_B.sl.v1729, kernelRun0_B.sl.v1730, kernelRun0_B.sl.v1731, kernelRun0_B.sl.v1732, kernelRun0_B.sl.v1733, kernelRun0_B.sl.v1734, kernelRun0_B.sl.v1735, kernelRun0_B.sl.v1736,
      kernelRun0_B.sl.v1737, kernelRun0_B.sl.v1738, kernelRun0_B.sl.v1740, kernelRun0_B.sl.v1741, kernelRun0_B.sl.v1743, kernelRun0_B.sl.v1744, kernelRun0_B.sl.v1746, kernelRun0_B.sl.v1747, kernelRun0_B.sl.v1749, kernelRun0_B.sl.v1750, kernelRun0_B.sl.v1752, kernelRun0_B.sl.v1753, kernelRun0_B.sl.v1755,
      kernelRun0_B.sl.v1756, kernelRun0_B.sl.v1758, kernelRun0_B.sl.v1759, kernelRun0_B.sl.v1761, kernelRun0_B.sl.v1762, kernelRun0_B.sl.v1764, kernelRun0_B.sl.v1765, kernelRun0_B.sl.v1767, kernelRun0_B.sl.v1995, kernelRun0_B.sl.v2005, kernelRun0_B.sl.v2006, kernelRun0_B.sl.v2007, kernelRun0_B.sl.v2009,
      kernelRun0_B.sl.v2010, kernelRun0_B.sl.v2012, kernelRun0_B.sl.v2013, kernelRun0_B.sl.v2015, kernelRun0_B.sl.v2016, kernelRun0_B.sl.v2018, kernelRun0_B.sl.v2019, kernelRun0_B.sl.v2021, kernelRun0_B.sl.v2022, kernelRun0_B.sl.v2024, kernelRun0_B.sl.v2025, kernelRun0_B.sl.v2027, kernelRun0_B.sl.v2028,
      kernelRun0_B.sl.v2030, kernelRun0_B.sl.v2031, kernelRun0_B.sl.v2033, kernelRun0_B.sl.v2034, kernelRun0_B.sl.v2036, kernelRun0_B.sl.v2037, kernelRun0_B.sl.v2039, kernelRun0_B.sl.v2040, kernelRun0_B.sl.v2042, kernelRun0_B.sl.v2043, kernelRun0_B.sl.v2044, kernelRun0_B.sl.v2045, kernelRun0_B.sl.v2046,
      kernelRun0_B.sl.v2047, kernelRun0_B.sl.v2526, kernelRun0_B.sl.v2527, kernelRun0_B.sl.v2528, kernelRun0_B.sl.v2529, kernelRun0_B.sl.v2530, kernelRun0_B.sl.v2531, kernelRun0_B.sl.v2532, kernelRun0_B.sl.v2533, kernelRun0_B.sl.v2534, kernelRun0_B.sl.v2535, kernelRun0_B.sl.v2536, kernelRun0_B.sl.v2537,
      kernelRun0_B.sl.v2538, kernelRun0_B.sl.v2539, kernelRun0_B.sl.v2540, kernelRun0_B.sl.v2541, kernelRun0_B.sl.v2542, kernelRun0_B.sl.v2543, kernelRun0_B.sl.v2544, kernelRun0_B.sl.v2545, kernelRun0_B.sl.v2546, kernelRun0_B.sl.v2547, kernelRun0_B.sl.v2548, kernelRun0_B.sl.v2549, kernelRun0_B.sl.v2550,
      kernelRun0_B.sl.v2551, kernelRun0_B.sl.v2552, kernelRun0_B.sl.v2553, kernelRun0_B.sl.v2554, kernelRun0_B.sl.v2555, kernelRun0_B.sl.v2748, kernelRun0_B.sl.v2779, kernelRun0_B.sl.v2781, kernelRun0_B.sl.v2782, kernelRun0_B.sl.v2783, kernelRun0_B.sl.v2784, kernelRun0_B.sl.v2785, kernelRun0_B.sl.v2786,
      kernelRun0_B.sl.v2789, kernelRun0_B.sl.v2790, kernelRun0_B.sl.v2791, kernelRun0_B.sl.v2793, kernelRun0_B.sl.v2794, kernelRun0_B.sl.v2795, kernelRun0_B.sl.v2797, kernelRun0_B.sl.v2798, kernelRun0_B.sl.v2801, kernelRun0_B.sl.v2802, kernelRun0_B.sl.v2803, kernelRun0_B.sl.v2805, kernelRun0_B.sl.v2806,
      kernelRun0_B.sl.v2807, kernelRun0_B.sl.v2809, kernelRun0_B.sl.v2810, kernelRun0_B.sl.v2811, kernelRun0_B.sl.v2813, kernelRun0_B.sl.v2814, kernelRun0_B.sl.v2817, kernelRun0_B.sl.v2818, kernelRun0_B.sl.v2820,
      k0_pay7, k0_pay8, k0_pay9, k0_pay10, k0_pay11, k0_pay12, k0_pay13, k0_pay14, k0_pay15, k0_pay16, k0_pay17, k0_pay18,
      k0_pay19, k0_pay20, k0_pay21, k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41, k0_pay42, k0_pay43, k0_pay44,
      k0_pay45, k0_pay46, k0_pay47, k0_pay48, k0_pay49, k0_pay50, k0_pay51, k0_pay52, k0_pay53, k0_pay54, k0_pay55, k0_pay56, k0_pay57,
      k0_pay58, k0_pay59, k0_pay60, k0_pay61, k0_pay62, k0_pay63, k0_pay64, k0_pay65, k0_pay66, k0_pay67, k0_pay68, k0_pay69, k0_pay70,
      k0_pay71, k0_pay72, k0_pay73, k0_pay74, k0_pay75, k0_pay76, k0_pay77, k0_pay78, k0_pay79, k0_pay80, k0_pay81, k0_pay82, k0_pay83,
      k0_pay84, k0_pay85, k0_pay86, k0_pay87, k0_pay88, k0_pay89, k0_pay90, k0_pay91, k0_pay92, k0_pay93, k0_pay94, k0_pay95, k0_pay96,
      k0_pay97, k0_pay98, k0_pay99, k0_pay100, k0_pay101, k0_pay102, k0_pay103, k0_pay104, k0_pay105, k0_pay106, k0_pay107, k0_pay108,
      k0_pay109, k0_pay110, k0_pay111, k0_pay112, k0_pay113, k0_pay114, k0_pay115, k0_pay116, k0_pay117, k0_pay118, k0_pay119, k0_pay120,
      k0_pay121, k0_pay122, k0_pay123, k0_pay124, k0_pay125, k0_pay126, k0_pay127, k0_pay128, k0_pay129, k0_pay130, k0_pay131, k0_pay132,
      k0_pay133, k0_pay134, k0_pay135, k0_pay136, k0_pay137, k0_pay138, k0_pay139, k0_pay140, k0_pay141, k0_pay142, k0_pay143, k0_pay144,
      k0_pay145, k0_pay146, k0_pay147, k0_pay148, k0_pay149, k0_pay150, k0_pay151, k0_pay152, k0_pay153, k0_pay154, k0_pay155, k0_pay156,
      k0_pay157, k0_pay158, k0_pay159, k0_pay160, k0_pay161, k0_pay162, k0_pay163, k0_pay164, k0_pay165, k0_pay166, k0_pay167, k0_pay168,
      k0_pay169, k0_pay170, k0_pay171, k0_pay172, k0_pay173, k0_pay174, k0_pay175, k0_pay176, k0_pay177, k0_pay178, k0_pay179, k0_pay180,
      k0_pay181, k0_pay182, k0_pay183, k0_pay184, k0_pay185, k0_pay186, k0_pay187, k0_pay188, k0_pay189, k0_pay190, k0_pay191, k0_pay192,
      k0_pay193, k0_pay194, k0_pay195, k0_pay196, k0_pay197, k0_pay198, k0_pay199, k0_pay200, k0_pay201, k0_pay202, k0_pay203, k0_pay204,
      k0_pay205, k0_pay206, k0_pay207, k0_pay208, k0_pay209, k0_pay210, k0_pay211, k0_pay212, k0_pay213, k0_pay214, k0_pay215, k0_pay216,
      k0_pay217, k0_pay218, k0_pay219, k0_pay220, k0_pay221, k0_pay222, k0_pay223, k0_pay224, k0_pay225, k0_pay226, k0_pay227, k0_pay228,
      k0_pay229, k0_pay230, k0_pay231, k0_pay232, k0_pay233, k0_pay234, k0_pay235, k0_pay236, k0_pay237, k0_pay238, k0_pay239, k0_pay240,
      k0_pay241, k0_pay242, k0_pay243, k0_pay244, k0_pay245, k0_pay246, k0_pay247, k0_pay248, k0_pay249, k0_pay250, k0_pay251, k0_pay252,
      k0_pay253, k0_pay254, k0_pay255, k0_pay256, k0_pay257, k0_pay258, k0_pay259, k0_pay260, k0_pay261, k0_pay262, k0_pay263, k0_pay264,
      k0_pay265, k0_pay266, k0_pay267, k0_pay268, k0_pay269, k0_pay270, k0_pay271, k0_pay272, k0_pay273, k0_pay274, k0_pay275, k0_pay276,
      k0_pay277, k0_pay278, k0_pay279, k0_pay280, k0_pay281, k0_pay282, k0_pay283, k0_pay284, k0_pay285, k0_pay286, k0_pay287, k0_pay288,
      k0_pay289, k0_pay290, k0_pay291, k0_pay292, k0_pay293, k0_pay294, k0_pay295, k0_pay296, k0_pay297, k0_pay298, k0_pay299, k0_pay300,
      k0_pay301, k0_pay302, k0_pay303, k0_pay304, k0_pay305, k0_pay306, k0_pay307, k0_pay308, k0_pay309, k0_pay310, k0_pay311, k0_pay312,
      k0_pay313, k0_pay314, k0_pay315, k0_pay316, k0_pay317, k0_pay318, k0_pay319, k0_pay320, k0_pay321, k0_pay322, k0_pay323, k0_pay324,
      k0_pay325, k0_pay326, k0_pay327, k0_pay328, k0_pay329, k0_pay330, k0_pay331, k0_pay332, k0_pay333, k0_pay334, k0_pay335, k0_pay336,
      k0_pay337, k0_pay338, k0_pay339, k0_pay340, k0_pay341, k0_pay342, k0_pay343, k0_pay344, k0_pay345, k0_pay346, k0_pay347, k0_pay348,
      k0_pay349, k0_pay350, k0_pay351, k0_pay352, k0_pay353, k0_pay354, k0_pay355, k0_pay356, k0_pay357, k0_pay358, k0_pay359, k0_pay360,
      k0_pay361, k0_pay362, k0_pay363, k0_pay364, k0_pay365, k0_pay366, k0_pay367, k0_pay368, k0_pay369, k0_pay370, k0_pay371, k0_pay372,
      k0_pay373, k0_pay374, k0_pay375, k0_pay376, k0_pay377, k0_pay378, k0_pay379, k0_pay380, k0_pay381, k0_pay382, k0_pay383, k0_pay384,
      k0_pay385, k0_pay386, k0_pay387, k0_pay388, k0_pay389, k0_pay390, k0_pay391, k0_pay392, k0_pay393, k0_pay394, k0_pay395, k0_pay396,
      k0_pay397, k0_pay398, k0_pay399, k0_pay400, k0_pay401, k0_pay402, k0_pay403, k0_pay404, k0_pay405, k0_pay406, k0_pay407, k0_pay408,
      k0_pay409, k0_pay410, k0_pay411, k0_pay412, k0_pay413, k0_pay414, k0_pay415, k0_pay416, k0_pay417, k0_pay418, k0_pay419, k0_pay420,
      k0_pay421, k0_pay422, k0_pay423, k0_pay424, k0_pay425, k0_pay426, k0_pay427, k0_pay428, k0_pay429, k0_pay430, k0_pay431, k0_pay432,
      k0_pay433, k0_pay434, k0_pay435, k0_pay436, k0_pay437, k0_pay438, k0_pay439, k0_pay440, k0_pay441, k0_pay442, k0_pay443, k0_pay444,
      k0_pay445, k0_pay446, k0_pay447, k0_pay448, k0_pay449, k0_pay450, k0_pay451, k0_pay452, k0_pay453, k0_pay454, k0_pay455, k0_pay456,
      k0_pay457, k0_pay458, k0_pay459, k0_pay460, k0_pay461, k0_pay462, k0_pay463, k0_pay464, k0_pay465, k0_pay466, k0_pay467, k0_pay468,
      k0_pay469, k0_pay470, k0_pay471, k0_pay472, k0_pay473, k0_pay474, k0_pay475, k0_pay476, k0_pay477, k0_pay478, k0_pay479, k0_pay480,
      k0_pay481, k0_pay482, k0_pay483, k0_pay484, k0_pay485, k0_pay486, k0_pay487, k0_pay488, k0_pay489, k0_pay490, k0_pay491, k0_pay492,
      k0_pay493, k0_pay494, k0_pay495, k0_pay496, k0_pay497, k0_pay498, k0_pay499, k0_pay500, k0_pay501, k0_pay502, k0_pay503, k0_pay504,
      k0_pay505, k0_pay506, k0_pay507, k0_pay508, k0_pay509, k0_pay510, k0_pay511, k0_pay512, k0_pay513, k0_pay514, k0_pay515, k0_pay516,
      k0_pay517, k0_pay518, k0_pay519, k0_pay520, k0_pay521, k0_pay522, k0_pay523, k0_pay524, k0_pay525, k0_pay526, k0_pay527, k0_pay528,
      k0_pay529, k0_pay530, k0_pay531, k0_pay532, k0_pay533, k0_pay534, k0_pay535, k0_pay536, k0_pay537, k0_pay538, k0_pay539, k0_pay540,
      k0_pay541, k0_pay542, k0_pay543, k0_pay544, k0_pay545, k0_pay546, k0_pay547, k0_pay548, k0_pay549, k0_pay550, k0_pay551, k0_pay552,
      k0_pay553, k0_pay554, k0_pay555, k0_pay556, k0_pay557, k0_pay558, k0_pay559, k0_pay560, k0_pay561, k0_pay562, k0_pay563, k0_pay564,
      k0_pay565, k0_pay566, k0_pay567, k0_pay568, k0_pay569, k0_pay570, k0_pay571, k0_pay572, k0_pay573, k0_pay574, k0_pay575, k0_pay576,
      k0_pay577, k0_pay578, k0_pay579, k0_pay580, k0_pay581, k0_pay582, k0_pay583, k0_pay584, k0_pay585, k0_pay586, k0_pay587, k0_pay588,
      k0_pay589, k0_pay590, k0_pay591, k0_pay592, k0_pay593, k0_pay594, k0_pay595, k0_pay596, k0_pay597, k0_pay598, k0_pay599, k0_pay600,
      k0_pay601, k0_pay602, k0_pay603, k0_pay604, k0_pay605, k0_pay606, k0_pay607, k0_pay608, k0_pay609, k0_pay610, k0_pay611, k0_pay612,
      k0_pay613, k0_pay614, k0_pay615, k0_pay616, k0_pay617, k0_pay618, k0_pay619, k0_pay620, k0_pay621, k0_pay622, k0_pay623, k0_pay624,
      k0_pay625, k0_pay626, k0_pay627, k0_pay628, k0_pay629, k0_pay630, k0_pay631, k0_pay632, k0_pay633, k0_pay634, k0_pay635, k0_pay636,
      k0_pay637, k0_pay638, k0_pay639, k0_pay640, k0_pay641, k0_pay642, k0_pay643, k0_pay644, k0_pay645, k0_pay646, k0_pay647, k0_pay648,
      k0_pay649, k0_pay650, k0_pay651, k0_pay652, k0_pay653, k0_pay654, k0_pay655, k0_pay656, k0_pay657, k0_pay658, k0_pay659, k0_pay660,
      k0_pay661, k0_pay662, k0_pay663, k0_pay664, k0_pay665, k0_pay666, k0_pay667, k0_pay668, k0_pay669, k0_pay670, k0_pay671, k0_pay672,
      k0_pay673, k0_pay674, k0_pay675, k0_pay676, k0_pay677, k0_pay678, k0_pay679, k0_pay680, k0_pay681, k0_pay682, k0_pay683, k0_pay684,
      k0_pay685, k0_pay686, k0_pay687, k0_pay688, k0_pay689, k0_pay690, k0_pay691, k0_pay692, k0_pay693, k0_pay694, k0_pay695, k0_pay696,
      k0_pay697, k0_pay698, k0_pay699, k0_pay700, k0_pay701, k0_pay702, k0_pay703, k0_pay704, k0_pay705, k0_pay706, k0_pay707, k0_pay708,
      k0_pay709, k0_pay710, k0_pay711, k0_pay712, k0_pay713, k0_pay714, k0_pay715, k0_pay716, k0_pay717, k0_pay718, k0_pay719, k0_pay720,
      k0_pay721, k0_pay722, k0_pay723, k0_pay724, k0_pay725, k0_pay726, k0_pay727, k0_pay728, k0_pay729, k0_pay730, k0_pay731, k0_pay732,
      k0_pay733, k0_pay734, k0_pay735, k0_pay736, k0_pay737, k0_pay738, k0_pay739, k0_pay740, k0_pay741, k0_pay742, k0_pay743, k0_pay744,
      k0_pay745, k0_pay746, k0_pay747, k0_pay748, k0_pay749, k0_pay750, k0_pay751, k0_pay752, k0_pay753, k0_pay754, k0_pay755, k0_pay756,
      k0_pay757, k0_pay758, k0_pay759, k0_pay760, k0_pay761, k0_pay762, k0_pay763, k0_pay764, k0_pay765, k0_pay766, k0_pay767, k0_pay768,
      k0_pay769, k0_pay770, k0_pay771, k0_pay772, k0_pay773, k0_pay774, k0_pay775, k0_pay776, k0_pay777, k0_pay778, k0_pay779, k0_pay780,
      k0_pay781, k0_pay782, k0_pay783, k0_pay784, k0_pay785, k0_pay786, k0_pay787, k0_pay788, k0_pay789, k0_pay790, k0_pay791, k0_pay792,
      k0_pay793, k0_pay794, k0_pay795, k0_pay796, k0_pay797, k0_pay798, k0_pay799, k0_pay800, k0_pay801, k0_pay802, k0_pay803, k0_pay804,
      k0_pay805, k0_pay806, k0_pay807, k0_pay808, k0_pay809, k0_pay810, k0_pay811, k0_pay812, k0_pay813, k0_pay814, k0_pay815, k0_pay816,
      k0_pay817, k0_pay818, k0_pay819, k0_pay820, k0_pay821, k0_pay822, k0_pay823, k0_pay824, k0_pay825, k0_pay826, k0_pay827, k0_pay828,
      k0_pay829, k0_pay830, k0_pay831, k0_pay832, k0_pay833, k0_pay834, k0_pay835, k0_pay836, k0_pay837, k0_pay838, k0_pay839, k0_pay840,
      k0_pay841, k0_pay842, k0_pay843, k0_pay844, k0_pay845, k0_pay846, k0_pay847, k0_pay848, k0_pay849, k0_pay850, k0_pay851, k0_pay852,
      k0_pay853, k0_pay854, k0_pay855, k0_pay856, k0_pay857, k0_pay858, k0_pay859, k0_pay860, k0_pay861, k0_pay862, k0_pay863, k0_pay864,
      k0_pay865, k0_pay866, k0_pay867, k0_pay868, k0_pay869, k0_pay870, k0_pay871, k0_pay872, k0_pay873, k0_pay874, k0_pay875, k0_pay876,
      k0_pay877, k0_pay878, k0_pay879, k0_pay880, k0_pay881, k0_pay882, k0_pay883, k0_pay884, k0_pay885, k0_pay886, k0_pay887, k0_pay888,
      k0_pay889, k0_pay890, k0_pay891, k0_pay892, k0_pay893, k0_pay894, k0_pay895, k0_pay896, k0_pay897, k0_pay898, k0_pay899, k0_pay900,
      k0_pay901, k0_pay902, k0_pay903, k0_pay904, k0_pay905, k0_pay906, k0_pay907, k0_pay908, k0_pay909, k0_pay910, k0_pay911, k0_pay912,
      k0_pay913, k0_pay914, k0_pay915, k0_pay916, k0_pay917, k0_pay918, k0_pay919, k0_pay920, k0_pay921, k0_pay922, k0_pay923, k0_pay924,
      k0_pay925, k0_pay926, k0_pay927, k0_pay928, k0_pay929, k0_pay930, k0_pay931, k0_pay932, k0_pay933, k0_pay934, k0_pay935, k0_pay936,
      k0_pay937, k0_pay938, k0_pay939, k0_pay940, k0_pay941, k0_pay942, k0_pay943, k0_pay944, k0_pay945, k0_pay946, k0_pay947, k0_pay948,
      k0_pay949, k0_pay950, k0_pay951, k0_pay952, k0_pay953, k0_pay954, k0_pay955, k0_pay956, k0_pay957, k0_pay958, k0_pay959, k0_pay960,
      k0_pay961, k0_pay962, k0_pay963, k0_pay964, k0_pay965, k0_pay966, k0_pay967, k0_pay968, k0_pay969, k0_pay970, k0_pay971, k0_pay972,
      k0_pay973, k0_pay974, k0_pay975, k0_pay976, k0_pay977, k0_pay978, k0_pay979, k0_pay980, k0_pay981, k0_pay982, k0_pay983, k0_pay984,
      k0_pay985, k0_pay986, k0_pay987, k0_pay988, k0_pay989, k0_pay990, k0_pay991, k0_pay992, k0_pay993, k0_pay994, k0_pay995, k0_pay996,
      k0_pay997, k0_pay998, k0_pay999, k0_pay1000, k0_pay1001, k0_pay1002, k0_pay1003, k0_pay1004, k0_pay1005, k0_pay1006, k0_pay1007,
      k0_pay1008, k0_pay1009, k0_pay1010, k0_pay1011, k0_pay1012, k0_pay1013, k0_pay1014, k0_pay1015, k0_pay1016, k0_pay1017, k0_pay1018,
      k0_pay1019, k0_pay1020, k0_pay1021, k0_pay1022, k0_pay1023, k0_pay1024, k0_pay1025, k0_pay1026, k0_pay1027, k0_pay1028, k0_pay1029,
      k0_pay1030, k0_pay1031, k0_pay1032, k0_pay1033, k0_pay1034, k0_pay1035, k0_pay1036, k0_pay1037, k0_pay1038, k0_pay1039, k0_pay1040,
      k0_pay1041, k0_pay1042, k0_pay1043, k0_pay1044, k0_pay1045, k0_pay1046, k0_pay1047, k0_pay1048, k0_pay1049, k0_pay1050, k0_pay1051,
      k0_pay1052, k0_pay1053, k0_pay1054, k0_pay1055, k0_pay1056, k0_pay1057, k0_pay1058, k0_pay1059, k0_pay1060, k0_pay1061, k0_pay1062,
      k0_pay1063, k0_pay1064, k0_pay1065, k0_pay1066, k0_pay1067, k0_pay1068, k0_pay1069, k0_pay1070, k0_pay1071, k0_pay1072, k0_pay1073,
      k0_pay1074, k0_pay1075, k0_pay1076, k0_pay1077, k0_pay1078, k0_pay1079, k0_pay1080, k0_pay1081, k0_pay1082, k0_pay1083, k0_pay1084,
      k0_pay1085, k0_pay1086, k0_pay1087, k0_pay1088, k0_pay1089, k0_pay1090, k0_pay1091, k0_pay1092, k0_pay1093, k0_pay1094, k0_pay1095,
      k0_pay1096, k0_pay1097, k0_pay1098, k0_pay1099, k0_pay1100, k0_pay1101, k0_pay1102, k0_pay1103, k0_pay1104, k0_pay1105, k0_pay1106,
      k0_pay1107, k0_pay1108, k0_pay1109, k0_pay1110, k0_pay1111, k0_pay1112, k0_pay1113, k0_pay1114, k0_pay1115, k0_pay1116, k0_pay1117,
      k0_pay1118, k0_pay1119, k0_pay1120, k0_pay1121, k0_pay1122, k0_pay1123, k0_pay1124, k0_pay1125, k0_pay1126, k0_pay1127, k0_pay1128,
      k0_pay1129, k0_pay1130, k0_pay1131, k0_pay1132, k0_pay1133, k0_pay1134, k0_pay1135, k0_pay1136, k0_pay1137, k0_pay1138, k0_pay1139,
      k0_pay1140, k0_pay1141, k0_pay1142, k0_pay1143, k0_pay1144, k0_pay1145, k0_pay1146, k0_pay1147, k0_pay1148, k0_pay1149, k0_pay1150,
      k0_pay1151, k0_pay1152, k0_pay1153, k0_pay1154, k0_pay1155, k0_pay1156, k0_pay1157, k0_pay1158, k0_pay1159, k0_pay1160, k0_pay1161,
      k0_pay1162, k0_pay1163, k0_pay1164, k0_pay1165, k0_pay1166, k0_pay1167, k0_pay1168, k0_pay1169, k0_pay1170, k0_pay1171, k0_pay1172,
      k0_pay1173, k0_pay1174, k0_pay1175, k0_pay1176, k0_pay1177, k0_pay1178, k0_pay1179, k0_pay1180, k0_pay1181, k0_pay1182, k0_pay1183,
      k0_pay1184, k0_pay1185, k0_pay1186, k0_pay1187, k0_pay1188, k0_pay1189, k0_pay1190, k0_pay1191, k0_pay1192, k0_pay1193, k0_pay1194,
      k0_pay1195, k0_pay1196, k0_pay1197, k0_pay1198, k0_pay1199, k0_pay1200, k0_pay1201, k0_pay1202, k0_pay1203, k0_pay1204, k0_pay1205,
      k0_pay1206, k0_pay1207, k0_pay1208, k0_pay1209, k0_pay1210, k0_pay1211, k0_pay1212, k0_pay1213, k0_pay1214, k0_pay1215, k0_pay1216,
      k0_pay1217, k0_pay1218, k0_pay1219, k0_pay1220, k0_pay1221, k0_pay1222, k0_pay1223, k0_pay1224, k0_pay1225, k0_pay1226, k0_pay1227,
      k0_pay1228, k0_pay1229, k0_pay1230, k0_pay1231, k0_pay1232, k0_pay1233, k0_pay1234, k0_pay1235, k0_pay1236, k0_pay1237, k0_pay1238,
      k0_pay1239, k0_pay1240, k0_pay1241, k0_pay1242, k0_pay1243, k0_pay1244, k0_pay1245, k0_pay1246, k0_pay1247, k0_pay1248, k0_pay1249,
      k0_pay1250, k0_pay1251, k0_pay1252, k0_pay1253, k0_pay1254, k0_pay1255, k0_pay1256, k0_pay1257, k0_pay1258, k0_pay1259, k0_pay1260,
      k0_pay1261, k0_pay1262, k0_pay1263, k0_pay1264, k0_pay1265, k0_pay1266, k0_pay1267, k0_pay1268, k0_pay1269, k0_pay1270, k0_pay1271,
      k0_pay1272, k0_pay1273, k0_pay1274, k0_pay1275, k0_pay1276, k0_pay1277, k0_pay1278, k0_pay1279, k0_pay1280, k0_pay1281, k0_pay1282,
      k0_pay1283, k0_pay1284, k0_pay1285, k0_pay1286, k0_pay1287, k0_pay1288, k0_pay1289, k0_pay1290, k0_pay1291, k0_pay1292, k0_pay1293,
      k0_pay1294, k0_pay1295, k0_pay1296, k0_pay1297, k0_pay1298, k0_pay1299, k0_pay1300, k0_pay1301, k0_pay1302, k0_pay1303, k0_pay1304,
      k0_pay1305, k0_pay1306, k0_pay1307, k0_pay1308, k0_pay1309, k0_pay1310, k0_pay1311, k0_pay1312, k0_pay1313, k0_pay1314, k0_pay1315,
      k0_pay1316, k0_pay1317, k0_pay1318, k0_pay1319, k0_pay1320, k0_pay1321, k0_pay1322, k0_pay1323, k0_pay1324, k0_pay1325, k0_pay1326,
      k0_pay1327, k0_pay1328, k0_pay1329, k0_pay1330, k0_pay1331, k0_pay1332, k0_pay1333, k0_pay1334, k0_pay1335, k0_pay1336, k0_pay1337,
      k0_pay1338, k0_pay1339, k0_pay1340, k0_pay1341, k0_pay1342, k0_pay1343, k0_pay1344, k0_pay1345, k0_pay1346, k0_pay1347, k0_pay1348,
      k0_pay1349, k0_pay1350, k0_pay1351, k0_pay1352, k0_pay1353, k0_pay1354, k0_pay1355, k0_pay1356, k0_pay1357, k0_pay1358, k0_pay1359,
      k0_pay1360, k0_pay1361, k0_pay1362, k0_pay1363, k0_pay1364, k0_pay1365, k0_pay1366, k0_pay1367, k0_pay1368, k0_pay1369, k0_pay1370,
      k0_pay1371, k0_pay1372, k0_pay1373, k0_pay1374, k0_pay1375, k0_pay1376, k0_pay1377, k0_pay1378, k0_pay1379, k0_pay1380, k0_pay1381,
      k0_pay1382, k0_pay1383, k0_pay1384, k0_pay1385, k0_pay1386, k0_pay1387, k0_pay1388, k0_pay1389, k0_pay1390, k0_pay1391, k0_pay1392,
      k0_pay1393, k0_pay1394, k0_pay1395, k0_pay1396, k0_pay1397, k0_pay1398, k0_pay1399, k0_pay1400, k0_pay1401, k0_pay1402, k0_pay1403,
      k0_pay1404, k0_pay1405, k0_pay1406, k0_pay1407, k0_pay1408, k0_pay1409, k0_pay1410, k0_pay1411, k0_pay1412, k0_pay1413, k0_pay1414,
      k0_pay1415, k0_pay1416, k0_pay1417, k0_pay1418, k0_pay1419, k0_pay1420, k0_pay1421, k0_pay1422, k0_pay1423, k0_pay1424, k0_pay1425,
      k0_pay1426, k0_pay1427, k0_pay1428, k0_pay1429, k0_pay1430, k0_pay1431, k0_pay1432, k0_pay1433, k0_pay1434, k0_pay1435, k0_pay1436,
      k0_pay1437, k0_pay1438, k0_pay1439, k0_pay1440, k0_pay1441, k0_pay1442, k0_pay1443, k0_pay1444, k0_pay1445, k0_pay1446, k0_pay1447,
      k0_pay1448, k0_pay1449, k0_pay1450, k0_pay1451, k0_pay1452, k0_pay1453, k0_pay1454, k0_pay1455, k0_pay1456, k0_pay1457, k0_pay1458,
      k0_pay1459, k0_pay1460, k0_pay1461, k0_pay1462, k0_pay1463, k0_pay1464, k0_pay1465, k0_pay1466, k0_pay1467, k0_pay1468, k0_pay1469,
      k0_pay1470, k0_pay1471, k0_pay1472, k0_pay1473, k0_pay1474, k0_pay1475, k0_pay1476, k0_pay1477, k0_pay1478, k0_pay1479, k0_pay1480,
      k0_pay1481, k0_pay1482, k0_pay1483, k0_pay1484, k0_pay1485, k0_pay1486, k0_pay1487, k0_pay1488, k0_pay1489, k0_pay1490, k0_pay1491,
      k0_pay1492, k0_pay1493, k0_pay1494, k0_pay1495, k0_pay1496, k0_pay1497, k0_pay1498, k0_pay1499, k0_pay1500, k0_pay1501, k0_pay1502,
      k0_pay1503, k0_pay1504, k0_pay1505, k0_pay1506, k0_pay1507, k0_pay1508, k0_pay1509, k0_pay1510, k0_pay1511, k0_pay1512, k0_pay1513,
      k0_pay1514, k0_pay1515, k0_pay1516, k0_pay1517, k0_pay1518, k0_pay1519, k0_pay1520, k0_pay1521, k0_pay1522, k0_pay1523, k0_pay1524,
      k0_pay1525, k0_pay1526, k0_pay1527, k0_pay1528, k0_pay1529, k0_pay1530, k0_pay1531, k0_pay1532, k0_pay1533, k0_pay1534, k0_pay1535,
      k0_pay1536, k0_pay1537, k0_pay1538, k0_pay1539, k0_pay1540, k0_pay1541, k0_pay1542, k0_pay1543, k0_pay1544, k0_pay1545, k0_pay1546,
      k0_pay1547, k0_pay1548, k0_pay1549, k0_pay1550, k0_pay1551, k0_pay1552, k0_pay1553, k0_pay1554, k0_pay1555, k0_pay1556, k0_pay1557,
      k0_pay1558, k0_pay1559, k0_pay1560, k0_pay1561, k0_pay1562, k0_pay1563, k0_pay1564, k0_pay1565, k0_pay1566, k0_pay1567, k0_pay1568,
      k0_pay1569, k0_pay1570, k0_pay1571, k0_pay1572, k0_pay1573, k0_pay1574, k0_pay1575, k0_pay1576, k0_pay1577, k0_pay1578, k0_pay1579,
      k0_pay1580, k0_pay1581, k0_pay1582, k0_pay1583, k0_pay1584, k0_pay1585, k0_pay1586, k0_pay1587, k0_pay1588, k0_pay1589, k0_pay1590,
      k0_pay1591, k0_pay1592, k0_pay1593, k0_pay1594, k0_pay1595, k0_pay1596, k0_pay1597, k0_pay1598, k0_pay1599, k0_pay1600, k0_pay1601,
      k0_pay1602, k0_pay1603, k0_pay1604, k0_pay1605, k0_pay1606, k0_pay1607, k0_pay1608, k0_pay1609, k0_pay1610, k0_pay1611, k0_pay1612,
      k0_pay1613, k0_pay1614, k0_pay1615, k0_pay1616, k0_pay1617, k0_pay1618, k0_pay1619, k0_pay1620, k0_pay1621, k0_pay1622, k0_pay1623,
      k0_pay1624, k0_pay1625, k0_pay1626, k0_pay1627, k0_pay1628, k0_pay1629, k0_pay1630, k0_pay1631, k0_pay1632, k0_pay1633, k0_pay1634,
      k0_pay1635, k0_pay1636, k0_pay1637, k0_pay1638, k0_pay1639, k0_pay1640, k0_pay1641, k0_pay1642, k0_pay1643, k0_pay1644, k0_pay1645,
      k0_pay1646, k0_pay1647, k0_pay1648, k0_pay1649, k0_pay1650, k0_pay1651, k0_pay1652, k0_pay1653, k0_pay1654, k0_pay1655, k0_pay1656,
      k0_pay1657, k0_pay1658, k0_pay1659, k0_pay1660, k0_pay1661, k0_pay1662, k0_pay1663, k0_pay1664, k0_pay1665, k0_pay1666, k0_pay1667,
      k0_pay1668, k0_pay1669, k0_pay1670, k0_pay1671, k0_pay1672, k0_pay1673, k0_pay1674, k0_pay1675, k0_pay1676, k0_pay1677, k0_pay1678,
      k0_pay1679, k0_pay1680, k0_pay1681, k0_pay1682, k0_pay1683, k0_pay1684, k0_pay1685, k0_pay1686, k0_pay1687, k0_pay1688, k0_pay1689,
      k0_pay1690, k0_pay1691, k0_pay1692, k0_pay1693, k0_pay1694, k0_pay1695, k0_pay1696, k0_pay1697, k0_pay1698, k0_pay1699, k0_pay1700,
      k0_pay1701, k0_pay1702, k0_pay1703, k0_pay1704, k0_pay1705, k0_pay1706, k0_pay1707, k0_pay1708, k0_pay1709, k0_pay1710, k0_pay1711,
      k0_pay1712, k0_pay1713, k0_pay1714, k0_pay1715, k0_pay1716, k0_pay1717, k0_pay1718, k0_pay1719, k0_pay1720, k0_pay1721, k0_pay1722,
      k0_pay1723, k0_pay1724, k0_pay1725, k0_pay1726, k0_pay1727, k0_pay1728, k0_pay1729, k0_pay1730, k0_pay1731, k0_pay1732, k0_pay1733,
      k0_pay1734, k0_pay1735, k0_pay1736, k0_pay1737, k0_pay1738, k0_pay1739, k0_pay1740, k0_pay1741, k0_pay1742, k0_pay1743, k0_pay1744,
      k0_pay1745, k0_pay1746, k0_pay1747, k0_pay1748, k0_pay1749, k0_pay1750, k0_pay1751, k0_pay1752, k0_pay1753, k0_pay1754, k0_pay1755,
      k0_pay1756, k0_pay1757, k0_pay1758, k0_pay1759, k0_pay1760, k0_pay1761, k0_pay1762, k0_pay1763, k0_pay1764, k0_pay1765, k0_pay1766,
      k0_pay1767, k0_pay1768, k0_pay1769, k0_pay1770, k0_pay1771, k0_pay1772, k0_pay1773, k0_pay1774, k0_pay1775, k0_pay1776, k0_pay1777,
      k0_pay1778, k0_pay1779, k0_pay1780, k0_pay1781, k0_pay1782, k0_pay1783, k0_pay1784, k0_pay1785, k0_pay1786, k0_pay1787, k0_pay1788,
      k0_pay1789, k0_pay1790, k0_pay1791, k0_pay1792, k0_pay1793, k0_pay1794, k0_pay1795, k0_pay1796, k0_pay1797, k0_pay1798, k0_pay1799,
      k0_pay1800, k0_pay1801, k0_pay1802, k0_pay1803, k0_pay1804, k0_pay1805, k0_pay1806, k0_pay1807, k0_pay1808, k0_pay1809, k0_pay1810,
      k0_pay1811, k0_pay1812, k0_pay1813, k0_pay1814, k0_pay1815, k0_pay1816, k0_pay1817, k0_pay1818, k0_pay1819, k0_pay1820, k0_pay1821,
      k0_pay1822, k0_pay1823, k0_pay1824, k0_pay1825, k0_pay1826, k0_pay1827, k0_pay1828, k0_pay1829, k0_pay1830, k0_pay1831, k0_pay1832,
      k0_pay1833, k0_pay1834, k0_pay1835, k0_pay1836, k0_pay1837, k0_pay1838, k0_pay1839, k0_pay1840, k0_pay1841, k0_pay1842, k0_pay1843,
      k0_pay1844, k0_pay1845, k0_pay1846, k0_pay1847, k0_pay1848, k0_pay1849, k0_pay1850, k0_pay1851, k0_pay1852, k0_pay1853, k0_pay1854,
      k0_pay1855, k0_pay1856, k0_pay1857, k0_pay1858, k0_pay1859, k0_pay1860, k0_pay1861, k0_pay1862, k0_pay1863, k0_pay1864, k0_pay1865,
      k0_pay1866, k0_pay1867, k0_pay1868, k0_pay1869, k0_pay1870, k0_pay1871, k0_pay1872, k0_pay1873, k0_pay1874, k0_pay1875, k0_pay1876,
      k0_pay1877, k0_pay1878, k0_pay1879, k0_pay1880, k0_pay1881, k0_pay1882, k0_pay1883, k0_pay1884, k0_pay1885, k0_pay1886, k0_pay1887,
      k0_pay1888, k0_pay1889, k0_pay1890, k0_pay1891, k0_pay1892, k0_pay1893, k0_pay1894, k0_pay1895, k0_pay1896, k0_pay1897, k0_pay1898,
      k0_pay1899, k0_pay1900, k0_pay1901, k0_pay1902, k0_pay1903, k0_pay1904, k0_pay1905, k0_pay1906, k0_pay1907, k0_pay1908, k0_pay1909,
      k0_pay1910, k0_pay1911, k0_pay1912, k0_pay1913, k0_pay1914, k0_pay1915, k0_pay1916, k0_pay1917, k0_pay1918, k0_pay1919, k0_pay1920,
      k0_pay1921, k0_pay1922, k0_pay1923, k0_pay1924, k0_pay1925, k0_pay1926, k0_pay1927, k0_pay1928, k0_pay1929, k0_pay1930, k0_pay1931,
      k0_pay1932, k0_pay1933, k0_pay1934, k0_pay1935, k0_pay1936, k0_pay1937, k0_pay1938, k0_pay1939, k0_pay1940, k0_pay1941, k0_pay1942,
      k0_pay1943, k0_pay1944, k0_pay1945, k0_pay1946, k0_pay1947, k0_pay1948, k0_pay1949, k0_pay1950, k0_pay1951, k0_pay1952, k0_pay1953,
      k0_pay1954, k0_pay1955, k0_pay1956, k0_pay1957, k0_pay1958, k0_pay1959, k0_pay1960, k0_pay1961, k0_pay1962, k0_pay1963, k0_pay1964,
      k0_pay1965, k0_pay1966, k0_pay1967, k0_pay1968, k0_pay1969, k0_pay1970, k0_pay1971, k0_pay1972, k0_pay1973, k0_pay1974, k0_pay1975,
      k0_pay1976, k0_pay1977, k0_pay1978, k0_pay1979, k0_pay1980, k0_pay1981, k0_pay1982, k0_pay1983, k0_pay1984, k0_pay1985, k0_pay1986,
      k0_pay1987, k0_pay1988, k0_pay1989, k0_pay1990, k0_pay1991, k0_pay1992, k0_pay1993, k0_pay1994, k0_pay1995, k0_pay1996, k0_pay1997,
      k0_pay1998, k0_pay1999, k0_pay2000, k0_pay2001, k0_pay2002, k0_pay2003, k0_pay2004, k0_pay2005, k0_pay2006, k0_pay2007, k0_pay2008,
      k0_pay2009, k0_pay2010, k0_pay2011, k0_pay2012, k0_pay2013, k0_pay2014, k0_pay2015, k0_pay2016, k0_pay2017, k0_pay2018, k0_pay2019,
      k0_pay2020, k0_pay2021, k0_pay2022, k0_pay2023, k0_pay2024, k0_pay2025, k0_pay2026]
    rw [hP, hQ]
    exact ⟨rfl, rfl⟩
  obtain ⟨h0, h1⟩ := key _ _ rfl rfl
  exact congrArg₂ k0_pay2025 h0 h1

end Cert.KernelIdeal.Knn

end
-- ==== Proof.Knn.Point.lean ====
/- What every grid point writes: one block of sources and one of neighbours, from the point's two blocks of the input. -/
module

public import proofs.«01_k».proof.Proof.Knn.BodyA
public import proofs.«01_k».proof.Proof.Knn.BodyB
public import Idealize.ShloMosaic.Lib.WritesUnit
public import Idealize.ShloMosaic.Lib.ValueLayout

@[expose] public section

noncomputable section

namespace Cert.KernelIdeal.Knn

open Idealize.ShloMosaic Cert.KernelIdeal.Gen Cert.KernelIdeal.Value Idealize.ShloMosaic.TcCoe

variable {F : FTy → Type} [FloatOps F]

/-- A point's block: the sources of its rows in front, their neighbours behind. -/
def blockOut (i : grid0.Coords) (D : FVec F S16x16x8x1024 .f32) : Vec F S2x1x1024x16 .i32 := fun y =>
  if (y 0).val = 1 then
    k0_pay2 (dst D (Scalar.muli (BitVec.ofNat 32 (i 0).val) 2048#32)) (ix4 (0 : Fin 1) (0 : Fin 1) (y 2 : Fin 1024) (y 3 : Fin 16))
  else
    k0_pay1 (k0_pay2026 (BitVec.ofNat 32 (i 1).val) (Scalar.muli (BitVec.ofNat 32 (i 0).val) 2048#32))
      (ix4 (0 : Fin 1) (0 : Fin 1) (y 2 : Fin 1024) (y 3 : Fin 16))

/-- Two pieces, one to each half, read back. -/
theorem two_pieces (f : VO0_2.ty.Contents (Elt F)) (p q : Vec F S1x1x1024x16 .i32) (y : S2x1x1024x16.Idx) :
    VO0_2.read (Elt F) (VO0_2.writes (Elt F) f
        [⟨Rect.unit ![1, 0, 0, 0] ![1, 1, 1024, 16] inb_S2x1x1024x16_S1x1x1024x16_1_0_0_0, p⟩,
          ⟨Rect.unit ![0, 0, 0, 0] ![1, 1, 1024, 16] inb_S2x1x1024x16_S1x1x1024x16_0_0_0_0, q⟩]) y
      = if (y 0).val = 1 then p (ix4 (0 : Fin 1) (0 : Fin 1) (y 2 : Fin 1024) (y 3 : Fin 16))
        else q (ix4 (0 : Fin 1) (0 : Fin 1) (y 2 : Fin 1024) (y 3 : Fin 16)) := by
  have h0 : (y 0).val < 2 := (y 0).isLt
  have h1 : (y 1).val < 1 := (y 1).isLt
  by_cases h : (y 0).val = 1
  · rw [if_pos h]
    refine View.read_writes_cons_unit_of_mem VO0_2 f _ p _ y _ rfl fun a => ?_
    match a with
    | ⟨0, _⟩ => exact h
    | ⟨1, _⟩ => show (y 1).val = 0 + 0; omega
    | ⟨2, _⟩ => exact (Nat.zero_add _).symm
    | ⟨3, _⟩ => exact (Nat.zero_add _).symm
  · rw [if_neg h]
    refine (View.read_writes_cons_unit_of_not_mem VO0_2 f _ p _ y rfl 0 (Or.inl ?_)).trans ?_
    · show (y 0).val < 1; omega
    refine View.read_writes_cons_unit_of_mem VO0_2 f _ q _ y _ rfl fun a => ?_
    match a with
    | ⟨0, _⟩ => show (y 0).val = 0 + 0; omega
    | ⟨1, _⟩ => show (y 1).val = 0 + 0; omega
    | ⟨2, _⟩ => exact (Nat.zero_add _).symm
    | ⟨3, _⟩ => exact (Nat.zero_add _).symm

section Cases

variable (c : Dev nD) (i : grid0.Coords) (arg2 : Memref sig .tc .vmem S1x1024x128 .f32) (harg2 : arg2.IsWhole)
  (arg3 : Memref sig .tc .vmem S1x2048x128 .f32) (harg3 : arg3.IsWhole) (arg4 : Memref sig .tc .vmem S2x1x1024x16 .i32)
  (harg4 : arg4.IsWhole) (arg5 : Memref sig .tc .vmem S2048x1024 .f32) (harg5 : arg5.IsWhole)
  (x0 : Vec F S1x1024x128 .f32) (x1 : Vec F S1x2048x128 .f32) (xs0 : Vec F S2048x1024 .f32)

theorem out_A (hc0 : cond0_0 i) : out0_A_2 c i arg2 harg2 arg3 harg3 arg4 harg4 arg5 harg5 hc0 x0 x1
    = blockOut i (k0_pay5 x1 x0 (k0_pay4 x1)) := by
  funext y
  unfold out0_A_2 kernelRun0_A
  dsimp only
  rw [neighbours_first]
  exact two_pieces _ _ _ y

theorem out_B (hc0 : ¬cond0_0 i) : out0_B_2 c i arg2 harg2 arg3 harg3 arg4 harg4 arg5 harg5 hc0 x0 x1 xs0
    = blockOut i (k0_pay5 x1 x0 xs0) := by
  funext y
  unfold out0_B_2 kernelRun0_B
  dsimp only
  rw [neighbours_later]
  exact two_pieces _ _ _ y

/-- The first point of a sample leaves the squared norms in the scratch. -/
theorem scratch_A (hc0 : cond0_0 i) : sout0_A_0 c i arg2 harg2 arg3 harg3 arg4 harg4 arg5 harg5 hc0 x0 x1 = k0_pay4 x1 := by
  unfold sout0_A_0 kernelRun0_A
  dsimp only
  refine (View.read_writes_full (Val := Elt F) VS0_0 _ inb_S2048x1024_S2048x1024_0_0 _ _).trans ?_
  refine congrArg k0_pay4 ?_
  exact (View.readAt_full (Val := Elt F) arg3.view _ inb_S1x2048x128_S1x2048x128_0_0_0).trans (harg3.read_unread x1)

end Cases

variable (m : (ℓ : Loc nD τ sig) → Buf (Elt F) ℓ)

/-- The distances of a point, from the sample's rows. -/
def distances (x1 : Vec F S1x2048x128 .f32) (x0 : Vec F S1x1024x128 .f32) : FVec F S16x16x8x1024 .f32 := k0_pay5 x1 x0 (k0_pay4 x1)

/-- A sample's rows. -/
def sample (h : Vec F S8x2048x128 .f32) (b : Fin 8) : Vec F S1x2048x128 .f32 := fun y => h (ix3 b (y 1 : Fin 2048) (y 2 : Fin 128))

/-- Half of a sample's rows. -/
def rows (h : Vec F S8x2048x128 .f32) (b : Fin 8) (r : Fin 2) : Vec F S1x1024x128 .f32 := fun y =>
  h (ix3 b (⟨r.val * 1024 + (y 1 : Fin 1024).val, by have := r.isLt; have h : (y 1).val < 1024 := (y 1).isLt; omega⟩ : Fin 2048) (y 2 : Fin 128))

theorem idx_facts01 : ∀ t : Fin cfg0.N, win0_1.index t (0 : Fin 3) = t.val / 2 ∧ win0_1.index t (1 : Fin 3) = 0
    ∧ win0_1.index t (2 : Fin 3) = 0 ∧ win0_0.index t (0 : Fin 3) = t.val / 2 ∧ win0_0.index t (1 : Fin 3) = t.val % 2
    ∧ win0_0.index t (2 : Fin 3) = 0 :=
  (by decide +kernel : ∀ t : Fin grid0.N, _)

theorem iblk_sample (c : Dev nD) (t : Fin cfg0.N) (b : Fin 8) (hb : t.val / 2 = b.val) :
    iblk m c 1 t = sample (m ((c : Thread nD τ).loc main_arg0)) b := by
  obtain ⟨e0, e1, e2, -, -, -⟩ := idx_facts01 t
  funext y
  have hy0 : (y 0).val < 1 := (y 0).isLt
  show m ((c : Thread nD τ).loc main_arg0) (((cfg0.win 1).blk t).view.emb y) = _
  refine congrArg (m ((c : Thread nD τ).loc main_arg0)) (funext fun a => Fin.ext ?_)
  match a with
  | ⟨0, _⟩ => show win0_1.index t (0 : Fin 3) * 1 + 1 * (y 0).val = b.val; rw [e0]; omega
  | ⟨1, _⟩ => show win0_1.index t (1 : Fin 3) * 2048 + 1 * (y 1).val = (y 1).val; rw [e1]; omega
  | ⟨2, _⟩ => show win0_1.index t (2 : Fin 3) * 128 + 1 * (y 2).val = (y 2).val; rw [e2]; omega

theorem iblk_rows (c : Dev nD) (t : Fin cfg0.N) (b : Fin 8) (r : Fin 2) (hb : t.val / 2 = b.val) (hr : t.val % 2 = r.val) :
    iblk m c 0 t = rows (m ((c : Thread nD τ).loc main_arg0)) b r := by
  obtain ⟨-, -, -, e0, e1, e2⟩ := idx_facts01 t
  funext y
  have hy0 : (y 0).val < 1 := (y 0).isLt
  show m ((c : Thread nD τ).loc main_arg0) (((cfg0.win 0).blk t).view.emb y) = _
  refine congrArg (m ((c : Thread nD τ).loc main_arg0)) (funext fun a => Fin.ext ?_)
  match a with
  | ⟨0, _⟩ => show win0_0.index t (0 : Fin 3) * 1 + 1 * (y 0).val = b.val; rw [e0]; omega
  | ⟨1, _⟩ => show win0_0.index t (1 : Fin 3) * 1024 + 1 * (y 1).val = r.val * 1024 + (y 1).val; rw [e1]; omega
  | ⟨2, _⟩ => show win0_0.index t (2 : Fin 3) * 128 + 1 * (y 2).val = (y 2).val; rw [e2]; omega

/-- What a point leaves in its output window. -/
theorem point_out (c : Dev nD) (t : Fin cfg0.N) (b : Fin 8) (r : Fin 2) (hb : t.val / 2 = b.val) (hr : t.val % 2 = r.val) :
    (outsAt0 m c t.val t.isLt).1
      = blockOut (grid0.coords t) (distances (sample (m ((c : Thread nD τ).loc main_arg0)) b) (rows (m ((c : Thread nD τ).loc main_arg0)) b r)) := by
  by_cases h0 : t.val % 2 = 0
  · rw [outsAt0_A m c t h0]
    dsimp only
    rw [out_A, iblk_sample m c t b hb, iblk_rows m c t b r hb hr]
    rfl
  · have ht : t.val - 1 < cfg0.N := Nat.lt_of_le_of_lt (Nat.sub_le _ _) t.isLt
    have h1 : (t.val - 1) % 2 = 0 := by omega
    have e : (outsAt0 m c (t.val - 1) ht).2 = k0_pay4 (sample (m ((c : Thread nD τ).loc main_arg0)) b) := by
      rw [outsAt0_A m c ⟨t.val - 1, ht⟩ h1]
      dsimp only
      rw [scratch_A, iblk_sample m c ⟨t.val - 1, ht⟩ b (by show (t.val - 1) / 2 = b.val; omega)]
    rw [outsAt0_B m c t h0]
    dsimp only
    rw [out_B, e, iblk_sample m c t b hb, iblk_rows m c t b r hb hr]
    rfl

/-- The array after the run, at an index. -/
theorem G2_apply (c : Dev nD) (a : Fin 2) (b : Fin 8) (n : Fin 2048) (u : Fin 16) (r : Fin 2) (l : Fin 1024) (hn : n.val = r.val * 1024 + l.val)
    (t : Fin cfg0.N) (ht : t.val = 2 * b.val + r.val) :
    G2 m c (ix4 a b n u)
      = blockOut (grid0.coords t) (distances (sample (m ((c : Thread nD τ).loc main_arg0)) b) (rows (m ((c : Thread nD τ).loc main_arg0)) b r))
          (ix4 a (0 : Fin 1) l u) := by
  have ha := a.isLt; have hb := b.isLt; have hr := r.isLt; have hl := l.isLt; have hu := u.isLt
  have hp : pt2Of (ix4 a b n u) = t.val := by
    show 16 * (a.val / 2 - 0) + 2 * (b.val / 1 - 0) + 1 * (n.val / 1024 - 0) + 1 * (u.val / 16 - 0) = t.val
    omega
  have hloc : loc2Of (ix4 a b n u) = ix4 a (0 : Fin 1) l u := by
    funext x
    apply Fin.ext
    match x with
    | ⟨0, _⟩ => show a.val % 2 = a.val; omega
    | ⟨1, _⟩ => show b.val % 1 = 0; omega
    | ⟨2, _⟩ => show n.val % 1024 = l.val; omega
    | ⟨3, _⟩ => show u.val % 16 = u.val; omega
  unfold G2
  rw [dif_pos (by rw [hp]; exact t.isLt), hloc, fold0_congr m c _ _ t.val (by have := t.isLt; omega) hp, ← outsAt0_sweep m c t.val t.isLt,
    point_out m c t b r (by omega) (by omega)]

end Cert.KernelIdeal.Knn

end
-- ==== Proof.Knn.Col.lean ====
/- What the registers of the network hold in one lane: after a sort or a merge the sixteen least of the keys that came in, in
   order, each with the tag that belongs to its key. -/
module

public import proofs.«01_k».proof.Proof.Knn.Reg
public import Idealize.ShloMosaic.Lib.ValueLayout
public import Idealize.ShloMosaic.Lib.SortNet.Positions

@[expose] public section

noncomputable section

namespace Cert.KernelIdeal.Knn

open Idealize.ShloMosaic Idealize.ShloMosaic.SortNet Cert.KernelIdeal.Gen

variable {s s' : Shape}

/-- The keys of sixteen registers at one index; the order is turned round, so that the greatest of it is the least key. -/
def col (S : Fin 16 → Reg Ideal s) (x : s.Idx) : Fin 16 → ERealᵒᵈ := fun u => OrderDual.toDual ((S u).v x)

/-- Every register's tag is the tag of its key. -/
def Tagged (T : EReal → BitVec 32) (S : Fin 16 → Reg Ideal s) (x : s.Idx) : Prop := ∀ u, (S u).t x = T ((S u).v x)

theorem lo_v_apply (p q : Reg Ideal s) (x : s.Idx) : (lo p q).v x = min (p.v x) (q.v x) := rfl

theorem hi_v_apply (p q : Reg Ideal s) (x : s.Idx) : (hi p q).v x = max (p.v x) (q.v x) := rfl

theorem cmp_ogt (a b : EReal) : (Ideal.cmp .ogt a b = 1) ↔ b < a := by
  unfold Ideal.cmp
  by_cases h : b < a <;> simp [h]

theorem lo_t_apply (p q : Reg Ideal s) (x : s.Idx) : (lo p q).t x = if q.v x < p.v x then q.t x else p.t x := by
  show (if Ideal.cmp .ogt (p.v x) (q.v x) = 1 then q.t x else p.t x) = _
  simp only [cmp_ogt]

theorem hi_t_apply (p q : Reg Ideal s) (x : s.Idx) : (hi p q).t x = if q.v x < p.v x then p.t x else q.t x := by
  show (if Ideal.cmp .ogt (p.v x) (q.v x) = 1 then p.t x else q.t x) = _
  simp only [cmp_ogt]

theorem lo_tagged {T : EReal → BitVec 32} {p q : Reg Ideal s} {x : s.Idx} (hp : p.t x = T (p.v x)) (hq : q.t x = T (q.v x)) :
    (lo p q).t x = T ((lo p q).v x) := by
  rw [lo_t_apply, lo_v_apply]
  split
  · rename_i h; rw [min_eq_right h.le, hq]
  · rename_i h; rw [min_eq_left (not_lt.1 h), hp]

theorem hi_tagged {T : EReal → BitVec 32} {p q : Reg Ideal s} {x : s.Idx} (hp : p.t x = T (p.v x)) (hq : q.t x = T (q.v x)) :
    (hi p q).t x = T ((hi p q).v x) := by
  rw [hi_t_apply, hi_v_apply]
  split
  · rename_i h; rw [max_eq_left h.le, hp]
  · rename_i h; rw [max_eq_right (not_lt.1 h), hq]

theorem Tagged.net {T : EReal → BitVec 32} {x : s.Idx} (N : Network 16) {S : Fin 16 → Reg Ideal s} (h : Tagged T S x) :
    Tagged T (regNet N S) x := by
  induction N generalizing S with
  | nil => exact h
  | cons c N ih =>
    refine ih (S := regStep c S) fun u => ?_
    unfold regStep
    split
    · exact lo_tagged (h _) (h _)
    · split
      · exact hi_tagged (h _) (h _)
      · exact h u

theorem Tagged.mergeIn {T : EReal → BitVec 32} {x : s.Idx} {A B : Fin 16 → Reg Ideal s} (hA : Tagged T A x) (hB : Tagged T B x) :
    Tagged T (mergeIn A B) x := fun u => lo_tagged (hA u) (hB _)

theorem col_net (N : Network 16) (S : Fin 16 → Reg Ideal s) (x : s.Idx) : col (regNet N S) x = Network.apply N (col S x) := by
  induction N generalizing S with
  | nil => rfl
  | cons c N ih =>
    refine (ih (regStep c S)).trans ?_
    show _ = Network.apply N (c.apply (col S x))
    congr 1
    funext u
    unfold Cmpx.apply
    show OrderDual.toDual ((regStep c S u).v x) = _
    unfold regStep
    by_cases h1 : u = c.hi
    · have h2 : ¬ u = c.lo := fun e => c.ne (e.symm.trans h1)
      rw [if_pos h1, if_neg h2, if_pos h1, lo_v_apply, max_comm]; rfl
    · rw [if_neg h1, if_neg h1]
      by_cases h2 : u = c.lo
      · rw [if_pos h2, if_pos h2, hi_v_apply, min_comm]; rfl
      · rw [if_neg h2, if_neg h2]; rfl

/-- At the index the registers hold the sixteen least of the keys of the listed rows, least first, and the tags of those keys. -/
structure Holds {ι : Type} (e : ι → ERealᵒᵈ) (T : EReal → BitVec 32) (S : Fin 16 → Reg Ideal s) (x : s.Idx) (L : List ι) : Prop where
  col : List.ofFn (col S x) = topList 16 (L.map e)
  tag : Tagged T S x

variable {ι : Type} {e : ι → ERealᵒᵈ} {T : EReal → BitVec 32}

theorem sort16_holds {S : Fin 16 → Reg Ideal s} {x : s.Idx} {L : List ι} (h : List.ofFn (col S x) = L.map e) (ht : Tagged T S x) :
    Holds e T (sort16 S) x L where
  col := by
    unfold sort16
    rw [col_net, ← h]
    exact ofFn_oddEvenNet 4 (col S x)
  tag := ht.net _

theorem Holds.antitone {S : Fin 16 → Reg Ideal s} {x : s.Idx} {L : List ι} (h : Holds e T S x L) : Antitone (Knn.col S x) := by
  have hp := pairwise_topList 16 (L.map e)
  rw [← h.col, List.pairwise_ofFn] at hp
  intro a b hab
  rcases hab.lt_or_eq with h | rfl
  · exact hp h
  · exact le_rfl

theorem merge_holds {A B : Fin 16 → Reg Ideal s} {x : s.Idx} {L L' : List ι} (hA : Holds e T A x L) (hB : Holds e T B x L') :
    Holds e T (merge A B) x (L ++ L') where
  col := by
    unfold merge
    rw [col_net, List.map_append, ← topList_append_topList_topList, ← hA.col, ← hB.col]
    have hm : mergeList = mergeDescNet 4 := mergePairsNet_eq_mergeDescNet 4
    rw [hm]
    exact (topOfTwo_eq_topList 4 (Knn.col A x) (Knn.col B x) hA.antitone hB.antitone).2
  tag := (hA.tag.mergeIn hB.tag).net _

/-- A family that reads another one elsewhere holds what that one holds there. -/
theorem Holds.congr {S : Fin 16 → Reg Ideal s} {S' : Fin 16 → Reg Ideal s'} {x : s.Idx} {y : s'.Idx} {L : List ι}
    (h : Holds e T S x L) (hv : ∀ u, (S' u).v y = (S u).v x) (ht : ∀ u, (S' u).t y = (S u).t x) : Holds e T S' y L where
  col := by
    rw [← h.col]; congr 1; funext u; exact congrArg OrderDual.toDual (hv u)
  tag := fun u => by rw [ht, hv, h.tag u]

/-- Every key that is held is the key of a listed row. -/
theorem Holds.mem {S : Fin 16 → Reg Ideal s} {x : s.Idx} {L : List ι} (h : Holds e T S x L) (u : Fin 16) :
    ∃ n ∈ L, e n = OrderDual.toDual ((S u).v x) := by
  have hm : Knn.col S x u ∈ List.ofFn (Knn.col S x) := by rw [List.mem_ofFn]; exact ⟨u, rfl⟩
  rw [h.col] at hm
  exact List.mem_map.1 (mem_of_mem_topList hm)

/-- One half of a vector of groups is every second group. -/
theorem half_apply {α : Type} {m n : ℕ} (hm : m = 2 * n) (b : Fin 2) (x : (⟨3, ![m, 8, 1024]⟩ : Shape).Idx → α)
    (h₁ : (⟨3, ![m, 8, 1024]⟩ : Shape).ShapeCasts ⟨4, ![n, 2, 8, 1024]⟩)
    (h₂ : (⟨4, ![n, 2, 8, 1024]⟩ : Shape).Slices ![0, b.val, 0, 0] ⟨4, ![n, 1, 8, 1024]⟩)
    (h₃ : (⟨4, ![n, 1, 8, 1024]⟩ : Shape).ShapeCasts ⟨3, ![n, 8, 1024]⟩) (g : Fin n) (i : Fin 8) (l : Fin 1024) :
    shapeCast _ (extractStridedSlice _ ![0, b.val, 0, 0] (shapeCast _ x h₁) h₂) h₃ (ix3 g i l)
      = x (ix3 (⟨2 * g.val + b.val, by have := b.isLt; have := g.isLt; omega⟩ : Fin m) i l) := by
  rw [shapeCast_apply _ h₃ (ix3 g i l) (ix4 g (0 : Fin 1) i l) (by
    rw [Shape.rowMajor_val_four, Shape.rowMajor_val_three]
    show ((g.val * 1 + 0) * 8 + i.val) * 1024 + l.val = (g.val * 8 + i.val) * 1024 + l.val
    omega)]
  have hs : ∀ y : (⟨4, ![n, 2, 8, 1024]⟩ : Shape).Idx → α,
      extractStridedSlice ⟨4, ![n, 1, 8, 1024]⟩ ![0, b.val, 0, 0] y h₂ (ix4 g (0 : Fin 1) i l) = y (ix4 g b i l) := by
    intro y
    refine congrArg y (funext fun a => Fin.ext ?_)
    match a with
    | ⟨0, _⟩ => exact Nat.zero_add _
    | ⟨1, _⟩ => exact Nat.add_zero _
    | ⟨2, _⟩ => exact Nat.zero_add _
    | ⟨3, _⟩ => exact Nat.zero_add _
  rw [hs]
  exact shapeCast_apply _ h₁ _ _ (by
    rw [Shape.rowMajor_val_four, Shape.rowMajor_val_three]
    show ((2 * g.val + b.val) * 8 + i.val) * 1024 + l.val = ((g.val * 2 + b.val) * 8 + i.val) * 1024 + l.val
    rw [Nat.mul_comm 2])

end Cert.KernelIdeal.Knn

end
-- ==== Proof.Knn.Final.lean ====
/- The network read on one lane of distances: after the last turn sublane 0 holds the sixteen nearest rows of all 2048, in the
   order of a descending sort of the keys turned round. -/
module

public import proofs.«01_k».proof.Proof.Knn.Col
public import Idealize.ShloMosaic.Lib.KernelVsHost

@[expose] public section

noncomputable section

namespace Cert.KernelIdeal.Knn

open Idealize.ShloMosaic Idealize.ShloMosaic.SortNet Cert.KernelIdeal.Gen

/-- The row that stands in group `g` at place `u`, sublane `s`. -/
def rowOf (g u : Fin 16) (s : Fin 8) : Fin 2048 :=
  ⟨g.val * 128 + u.val * 8 + s.val, by have := g.isLt; have := u.isLt; have := s.isLt; omega⟩

/-- The key of a row in lane `l`. -/
def key (D : FVec Ideal S16x16x8x1024 .f32) (l : Fin 1024) (n : Fin 2048) : EReal :=
  D (ix4 (⟨n.val / 128, by have := n.isLt; omega⟩ : Fin 16) (⟨n.val / 8 % 16, by omega⟩ : Fin 16) (⟨n.val % 8, by omega⟩ : Fin 8) l)

/-- The key of a row, in the order turned round. -/
def entry (D : FVec Ideal S16x16x8x1024 .f32) (l : Fin 1024) (n : Fin 2048) : ERealᵒᵈ := OrderDual.toDual (key D l n)

theorem key_rowOf (D : FVec Ideal S16x16x8x1024 .f32) (l : Fin 1024) (g u : Fin 16) (s : Fin 8) :
    key D l (rowOf g u s) = D (ix4 g u s l) := by
  unfold key rowOf
  have hg := g.isLt; have hu := u.isLt; have hs := s.isLt
  congr 2 <;> (apply Fin.ext; simp only []; omega)

/-- The row that a key belongs to. -/
def rowAt (D : FVec Ideal S16x16x8x1024 .f32) (l : Fin 1024) (y : EReal) : Fin 2048 := Function.invFun (key D l) y

/-- The tag of a key in the groups: group and place. -/
def tagIn (D : FVec Ideal S16x16x8x1024 .f32) (l : Fin 1024) (y : EReal) : BitVec 32 := BitVec.ofNat 32 ((rowAt D l y).val / 8)

/-- The tag of a key once the groups are merged: the row. -/
def tagAll (D : FVec Ideal S16x16x8x1024 .f32) (l : Fin 1024) (y : EReal) : BitVec 32 := BitVec.ofNat 32 (rowAt D l y).val

theorem tag_word : ∀ g u : Fin 16, IntOp.ori (IntOp.shli .vector (BitVec.ofNat 32 (0 * 16 + g.val)) 4#32) (BitVec.ofNat 32 u.val)
    = BitVec.ofNat 32 (g.val * 16 + u.val) := by decide +kernel

theorem row_word : ∀ q : Fin 256, ∀ s : Fin 8, IntOp.ori (IntOp.shli .vector (BitVec.ofNat 32 q.val) 3#32) (BitVec.ofNat 32 (0 * 8 + s.val))
    = BitVec.ofNat 32 (q.val * 8 + s.val) := by decide +kernel

section Lane

variable {D : FVec Ideal S16x16x8x1024 .f32} {l : Fin 1024}

theorem rowAt_key (hD : Function.Injective (key D l)) (n : Fin 2048) : rowAt D l (key D l n) = n :=
  Function.leftInverse_invFun hD n

theorem inReg_v_apply (u g : Fin 16) (s : Fin 8) : (inReg D u).v (ix3 g s l) = D (ix4 g u s l) := by
  have hs : ∀ y : S16x1x8x1024.Idx → EReal, shapeCast S16x8x1024 y shapeCasts_S16x1x8x1024_S16x8x1024 (ix3 g s l) = y (ix4 g (0 : Fin 1) s l) := by
    intro y
    refine shapeCast_apply _ _ _ _ ?_
    rw [Shape.rowMajor_val_four, Shape.rowMajor_val_three]
    show ((g.val * 1 + 0) * 8 + s.val) * 1024 + l.val = (g.val * 8 + s.val) * 1024 + l.val
    omega
  unfold inReg
  dsimp only
  rw [hs]
  refine congrArg D (funext fun a => Fin.ext ?_)
  match a with
  | ⟨0, _⟩ => exact Nat.zero_add _
  | ⟨1, _⟩ => exact Nat.add_zero _
  | ⟨2, _⟩ => exact Nat.zero_add _
  | ⟨3, _⟩ => exact Nat.zero_add _

/-- In the groups of one stage, `w` of the first 16 to each: every group and sublane holds its rows. -/
def Stage (D : FVec Ideal S16x16x8x1024 .f32) (l : Fin 1024) (w : ℕ) {m : ℕ} (S : Fin 16 → Reg Ideal ⟨3, ![m, 8, 1024]⟩) : Prop :=
  ∀ (g : Fin m) (i : Fin 8), ∃ L : List (Fin 2048), Holds (entry D l) (tagIn D l) S (ix3 g i l) L ∧ L.length = 16 * w
    ∧ ∀ n : Fin 2048, n ∈ L ↔ n.val / (128 * w) = g.val ∧ n.val % 8 = i.val

theorem stage_sort16 (hD : Function.Injective (key D l)) : Stage D l 1 (m := 16) (sort16 (inReg D)) := by
  intro g i
  refine ⟨List.ofFn fun u => rowOf g u i, sort16_holds ?_ ?_, List.length_ofFn, fun n => ?_⟩
  · rw [List.map_ofFn]
    congr 1
    funext u
    show OrderDual.toDual ((inReg D u).v (ix3 g i l)) = OrderDual.toDual (key D l (rowOf g u i))
    rw [inReg_v_apply, key_rowOf]
  · intro u
    rw [inReg_v_apply, ← key_rowOf D l g u i]
    show _ = BitVec.ofNat 32 ((rowAt D l (key D l (rowOf g u i))).val / 8)
    rw [rowAt_key hD]
    have e : (rowOf g u i).val / 8 = g.val * 16 + u.val := by
      have := i.isLt; show (g.val * 128 + u.val * 8 + i.val) / 8 = _; omega
    rw [e]
    exact tag_word g u
  · have hi := i.isLt
    have hn := n.isLt
    rw [List.mem_ofFn]
    constructor
    · rintro ⟨u, rfl⟩
      have hu := u.isLt
      show (g.val * 128 + u.val * 8 + i.val) / (128 * 1) = g.val ∧ (g.val * 128 + u.val * 8 + i.val) % 8 = i.val
      omega
    · rintro ⟨h1, h2⟩
      refine ⟨⟨n.val / 8 % 16, by omega⟩, Fin.ext ?_⟩
      show g.val * 128 + n.val / 8 % 16 * 8 + i.val = n.val
      omega

/-- A stage's groups merged in pairs are the next stage. -/
theorem stage_pair {w m n : ℕ} (hm : m = 2 * n) {S : Fin 16 → Reg Ideal ⟨3, ![m, 8, 1024]⟩} (hS : Stage D l w S)
    (h₁ : (⟨3, ![m, 8, 1024]⟩ : Shape).ShapeCasts ⟨4, ![n, 2, 8, 1024]⟩)
    (h₂ : (⟨4, ![n, 2, 8, 1024]⟩ : Shape).Slices ![0, 0, 0, 0] ⟨4, ![n, 1, 8, 1024]⟩)
    (h₂' : (⟨4, ![n, 2, 8, 1024]⟩ : Shape).Slices ![0, 1, 0, 0] ⟨4, ![n, 1, 8, 1024]⟩)
    (h₃ : (⟨4, ![n, 1, 8, 1024]⟩ : Shape).ShapeCasts ⟨3, ![n, 8, 1024]⟩) :
    Stage D l (2 * w) (merge (halfOf _ _ ⟨3, ![n, 8, 1024]⟩ ![0, 0, 0, 0] h₁ h₂ h₃ S)
      (halfOf _ _ ⟨3, ![n, 8, 1024]⟩ ![0, 1, 0, 0] h₁ h₂' h₃ S)) := by
  intro g i
  have hg := g.isLt
  obtain ⟨L, hL, cL, mL⟩ := hS ⟨2 * g.val + 0, by omega⟩ i
  obtain ⟨L', hL', cL', mL'⟩ := hS ⟨2 * g.val + 1, by omega⟩ i
  refine ⟨L ++ L', merge_holds (hL.congr ?_ ?_) (hL'.congr ?_ ?_), ?_, fun r => ?_⟩
  · exact fun u => half_apply hm 0 (S u).v h₁ h₂ h₃ g i l
  · exact fun u => half_apply hm 0 (S u).t h₁ h₂ h₃ g i l
  · exact fun u => half_apply hm 1 (S u).v h₁ h₂' h₃ g i l
  · exact fun u => half_apply hm 1 (S u).t h₁ h₂' h₃ g i l
  · rw [List.length_append, cL, cL']; ring
  · rw [List.mem_append, mL, mL']
    have e : r.val / (128 * (2 * w)) = r.val / (128 * w) / 2 := by
      rw [Nat.div_div_eq_div_mul]; congr 1; ring
    rw [e]
    generalize r.val / (128 * w) = q
    show (q = 2 * g.val + 0 ∧ r.val % 8 = i.val) ∨ (q = 2 * g.val + 1 ∧ r.val % 8 = i.val) ↔ q / 2 = g.val ∧ r.val % 8 = i.val
    omega

/-- In sublane `j` the registers hold `c` rows, among them those that `p j` names, each tagged with its row. -/
def Sub (D : FVec Ideal S16x16x8x1024 .f32) (l : Fin 1024) (c : ℕ) (p : Fin 8 → Fin 2048 → Prop)
    (S : Fin 16 → Reg Ideal S1x8x1024) : Prop :=
  ∀ j : Fin 8, ∃ L : List (Fin 2048), Holds (entry D l) (tagAll D l) S (ix3 (0 : Fin 1) j l) L ∧ L.length = c ∧ ∀ n, p j n → n ∈ L

theorem sub_grouped (hD : Function.Injective (key D l)) : Sub D l 256 (fun j n => n.val % 8 = j.val) (grouped D) := by
  have hS : Stage D l 16 (m := 1) (pair2 (pair4 (pair8 (pair16 (sort16 (inReg D)))))) :=
    stage_pair (w := 8) (m := 2) (n := 1) rfl
      (stage_pair (w := 4) (m := 4) (n := 2) rfl
        (stage_pair (w := 2) (m := 8) (n := 4) rfl
          (stage_pair (w := 1) (m := 16) (n := 8) rfl (stage_sort16 hD) _ _ _ _) _ _ _ _) _ _ _ _) _ _ _ _
  intro j
  obtain ⟨L, hL, cL, mL⟩ := hS 0 j
  refine ⟨L, ⟨hL.col, fun u => ?_⟩, cL, fun n hn => (mL n).2 ⟨?_, hn⟩⟩
  · obtain ⟨n, hn, e⟩ := hL.mem u
    have e' : (pair2 (pair4 (pair8 (pair16 (sort16 (inReg D))))) u).v (ix3 (0 : Fin 1) j l) = key D l n := (congrArg OrderDual.ofDual e).symm
    have ht := hL.tag u
    rw [e'] at ht
    show IntOp.ori (IntOp.shli .vector ((pair2 (pair4 (pair8 (pair16 (sort16 (inReg D))))) u).t (ix3 (0 : Fin 1) j l)) 3#32)
        (BitVec.ofNat 32 (0 * 8 + j.val)) = tagAll D l ((pair2 (pair4 (pair8 (pair16 (sort16 (inReg D))))) u).v (ix3 (0 : Fin 1) j l))
    rw [e', ht]
    unfold tagIn tagAll
    rw [rowAt_key hD]
    have hj := ((mL n).1 hn).2
    have hlt := n.isLt
    rw [row_word ⟨n.val / 8, by omega⟩ j]
    show BitVec.ofNat 32 (n.val / 8 * 8 + j.val) = _
    congr 1
    omega
  · have := n.isLt
    show n.val / (128 * 16) = 0
    omega

theorem rotate_apply {α : Type} (k : BitVec 32) (j j' : Fin 8) (hj : j'.val = (j.val + 8 - k.toNat % 8) % 8) (x : S1x8x1024.Idx → α) :
    dynamicRotate 1 k none x rotates_S1x8x1024_d1 (ix3 (0 : Fin 1) j l) = x (ix3 (0 : Fin 1) j' l) :=
  dynamicRotate_apply _ k x _ _ _ fun b => match b with
    | ⟨0, _⟩ => rfl
    | ⟨1, _⟩ => hj
    | ⟨2, _⟩ => rfl

/-- One turn joins to every sublane the rows of the one that comes round. -/
theorem sub_turn {c : ℕ} {p : Fin 8 → Fin 2048 → Prop} {S : Fin 16 → Reg Ideal S1x8x1024} (k : BitVec 32) (hS : Sub D l c p S) :
    Sub D l (c + c) (fun j n => p j n ∨ p ⟨(j.val + 8 - k.toNat % 8) % 8, Nat.mod_lt _ (by decide)⟩ n) (turn k S) := by
  intro j
  obtain ⟨L, hL, cL, mL⟩ := hS j
  obtain ⟨L', hL', cL', mL'⟩ := hS ⟨(j.val + 8 - k.toNat % 8) % 8, Nat.mod_lt _ (by decide)⟩
  refine ⟨L ++ L', merge_holds hL (hL'.congr ?_ ?_), ?_, fun n hn => List.mem_append.2 (hn.imp (mL n) (mL' n))⟩
  · exact fun u => rotate_apply k j _ rfl (S u).v
  · exact fun u => rotate_apply k j _ rfl (S u).t
  · rw [List.length_append, cL, cL']

theorem all_sublanes : ∀ r : Fin 8, ((r.val = 0 ∨ r.val = 4) ∨ (r.val = 2 ∨ r.val = 6)) ∨ ((r.val = 1 ∨ r.val = 5) ∨ (r.val = 3 ∨ r.val = 7)) := by
  decide

/-- At the end sublane 0 holds the sixteen least of all rows. -/
theorem final_holds (hD : Function.Injective (key D l)) :
    Holds (entry D l) (tagAll D l) (final D) (ix3 (0 : Fin 1) (0 : Fin 8) l) (List.finRange 2048) := by
  obtain ⟨L, hL, cL, mL⟩ := sub_turn 7#32 (sub_turn 6#32 (sub_turn 4#32 (sub_grouped hD))) 0
  have hp : (List.finRange 2048).Perm L := by
    refine ((List.nodup_finRange 2048).subperm fun n _ => mL n ?_).perm_of_length_le ?_
    · exact all_sublanes ⟨n.val % 8, Nat.mod_lt _ (by decide)⟩
    · rw [cL, List.length_finRange]
  refine ⟨?_, hL.tag⟩
  exact hL.col.trans (topList_perm (hp.map _).symm)

/-- The tag of register `u` in sublane 0 is the row that a sort of the keys puts at place `u`. -/
theorem final_tag (hD : Function.Injective (key D l)) (u : Fin 16) :
    (final D u).t (ix3 (0 : Fin 1) (0 : Fin 8) l)
      = BitVec.ofNat 32 (sortedFrom (fun a b => decide (key D l a < key D l b)) (⟨u.val, by have := u.isLt; omega⟩ : Fin 2048)).val := by
  have hf := final_holds hD
  have he : Function.Injective (entry D l) := fun a b h => hD (congrArg OrderDual.ofDual h)
  have h1 := entry_sortedFrom_eq_topList (entry D l) he 16 (⟨u.val, by have := u.isLt; omega⟩ : Fin 2048) u.isLt
  have hc := hf.col
  rw [← List.ofFn_eq_map] at hc
  rw [← hc] at h1
  have h2 : (List.ofFn (col (final D) (ix3 (0 : Fin 1) (0 : Fin 8) l)))[u.val]? = some (col (final D) (ix3 (0 : Fin 1) (0 : Fin 8) l) u) := by
    rw [List.getElem?_ofFn, dif_pos u.isLt]
  have h3 := Option.some.inj (h1.trans h2)
  have h4 : (final D u).v (ix3 (0 : Fin 1) (0 : Fin 8) l) = key D l (sortedFrom (greaterFirst (entry D l)) ⟨u.val, by have := u.isLt; omega⟩) :=
    (congrArg OrderDual.ofDual h3).symm
  rw [hf.tag u, h4]
  unfold tagAll
  rw [rowAt_key hD]
  rfl

end Lane

end Cert.KernelIdeal.Knn

end
-- ==== Proof.Knn.Dist.lean ====
/- Squared distances over the extended reals. Where the distances of every point's row are pairwise different every coordinate
   is a real number, and the key that the kernel compares — the distance without the point's own norm — orders the rows as the
   distance does. -/
module

public import Mathlib.Data.EReal.Operations
public import Mathlib.Algebra.BigOperators.Group.Finset.Basic
public import Mathlib.Algebra.BigOperators.Ring.Finset
public import Mathlib.Algebra.Order.BigOperators.Group.Finset
public import Mathlib.Tactic.Ring
public import Mathlib.Tactic.Linarith

@[expose] public section

namespace Cert.KernelIdeal.Knn

open scoped BigOperators

/-- The squared norm of a point. -/
noncomputable def sqNorm (h : Fin 2048 → Fin 128 → EReal) (n : Fin 2048) : EReal := ∑ k, h n k * h n k

/-- The squared distance of two points, as the reference writes it. -/
noncomputable def dist2 (h : Fin 2048 → Fin 128 → EReal) (i j : Fin 2048) : EReal :=
  sqNorm h i + sqNorm h j - 2 * ∑ k, h i k * h j k

/-- The kernel's key of row `j` for point `i`. -/
noncomputable def key2 (h : Fin 2048 → Fin 128 → EReal) (i j : Fin 2048) : EReal := sqNorm h j + ∑ k, h j k * (-2 * h i k)

theorem sq_nonneg_ereal (x : EReal) : 0 ≤ x * x := by
  induction x with
  | bot => simp
  | top => simp
  | coe r => exact_mod_cast mul_self_nonneg r

theorem sqNorm_nonneg (h : Fin 2048 → Fin 128 → EReal) (n : Fin 2048) : 0 ≤ sqNorm h n :=
  Finset.sum_nonneg fun k _ => sq_nonneg_ereal _

theorem coe_sum_ereal {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A point whose distances to all rows are pairwise different has a finite norm: else they would take two values only. -/
theorem sqNorm_ne_top {h : Fin 2048 → Fin 128 → EReal} {i : Fin 2048} (hi : Function.Injective (dist2 h i)) : sqNorm h i ≠ ⊤ := by
  intro ht
  have two : ∀ j, dist2 h i j = ⊤ ∨ dist2 h i j = ⊥ := by
    intro j
    have h1 : sqNorm h i + sqNorm h j = ⊤ := by
      rw [ht]
      exact EReal.top_add_of_ne_bot (ne_of_gt (lt_of_lt_of_le EReal.bot_lt_zero (sqNorm_nonneg h j)))
    unfold dist2
    rw [h1, sub_eq_add_neg]
    by_cases hz : -(2 * ∑ k, h i k * h j k) = ⊥
    · right; rw [hz]; exact EReal.add_bot _
    · left; exact EReal.top_add_of_ne_bot hz
  have d01 : (0 : Fin 2048) ≠ 1 := by decide
  have d02 : (0 : Fin 2048) ≠ 2 := by decide
  have d12 : (1 : Fin 2048) ≠ 2 := by decide
  rcases two 0 with a | a <;> rcases two 1 with b | b <;> rcases two 2 with c | c
  all_goals first
    | exact d01 (hi (a.trans b.symm))
    | exact d02 (hi (a.trans c.symm))
    | exact d12 (hi (b.trans c.symm))

theorem coord_real {h : Fin 2048 → Fin 128 → EReal} {i : Fin 2048} (hi : Function.Injective (dist2 h i)) (k : Fin 128) :
    ∃ r : ℝ, h i k = r := by
  have hle : h i k * h i k ≤ sqNorm h i :=
    Finset.single_le_sum (f := fun k => h i k * h i k) (fun k _ => sq_nonneg_ereal _) (Finset.mem_univ k)
  have hne : h i k * h i k ≠ ⊤ := fun e => sqNorm_ne_top hi (top_le_iff.1 (e ▸ hle))
  generalize h i k = x at hne
  induction x with
  | bot => exact absurd (by simp) hne
  | top => exact absurd (by simp) hne
  | coe r => exact ⟨r, rfl⟩

/-- The key orders the rows as the distance does. -/
theorem key2_lt_iff {h : Fin 2048 → Fin 128 → EReal} (hi : ∀ i, Function.Injective (dist2 h i)) (i a b : Fin 2048) :
    key2 h i a < key2 h i b ↔ dist2 h i a < dist2 h i b := by
  choose H hH using fun i k => coord_real (hi i) k
  have hs : ∀ n, sqNorm h n = ((∑ k, H n k * H n k : ℝ) : EReal) := by
    intro n
    unfold sqNorm
    rw [coe_sum_ereal]
    exact Finset.sum_congr rfl fun k _ => by rw [hH, EReal.coe_mul]
  have hk : ∀ n, key2 h i n = (((∑ k, H n k * H n k) + ∑ k, H n k * (-2 * H i k) : ℝ) : EReal) := by
    intro n
    unfold key2
    rw [hs, EReal.coe_add]
    congr 1
    rw [coe_sum_ereal]
    refine Finset.sum_congr rfl fun k _ => ?_
    rw [hH, hH, EReal.coe_mul, EReal.coe_mul]
    rfl
  have hd : ∀ n, dist2 h i n = (((∑ k, H i k * H i k) + (∑ k, H n k * H n k) - 2 * ∑ k, H i k * H n k : ℝ) : EReal) := by
    intro n
    unfold dist2
    rw [hs, hs, EReal.coe_sub, EReal.coe_add, EReal.coe_mul]
    congr 2
    rw [coe_sum_ereal]
    exact Finset.sum_congr rfl fun k _ => by rw [hH, hH, EReal.coe_mul]
  have hr : ∀ n, (∑ k, H n k * (-2 * H i k)) = -(2 * ∑ k, H i k * H n k) := by
    intro n
    rw [Finset.mul_sum, ← Finset.sum_neg_distrib]
    exact Finset.sum_congr rfl fun k _ => by ring
  rw [hk, hk, hd, hd, EReal.coe_lt_coe_iff, EReal.coe_lt_coe_iff, hr, hr]
  constructor <;> intro _ <;> linarith

/-- So the keys are pairwise different too. -/
theorem key2_injective {h : Fin 2048 → Fin 128 → EReal} (hi : ∀ i, Function.Injective (dist2 h i)) (i : Fin 2048) :
    Function.Injective (key2 h i) := by
  intro a b e
  rcases lt_trichotomy (dist2 h i a) (dist2 h i b) with hlt | heq | hgt
  · exact absurd e (ne_of_lt ((key2_lt_iff hi i a b).2 hlt))
  · exact hi i heq
  · exact absurd e.symm (ne_of_lt ((key2_lt_iff hi i b a).2 hgt))

end Cert.KernelIdeal.Knn

end
-- ==== Proof.Knn.Read.lean ====
/- The block that a point writes, read at an index over the extended reals. -/
module

public import proofs.«01_k».proof.Proof.Knn.Point
public import proofs.«01_k».proof.Proof.Knn.Final
public import proofs.«01_k».proof.Proof.Knn.Dist
public import Idealize.ShloMosaic.Lib.MatmulPlain
public import Idealize.ShloMosaic.Lib.Pointwise.Reduce
public import Idealize.ShloMosaic.Lib.IdealHost

@[expose] public section

noncomputable section

namespace Cert.KernelIdeal.Knn

open Idealize.ShloMosaic Idealize.ShloMosaic.SortNet Cert.KernelIdeal.Gen

/-! ## The packed neighbours -/

section Pack

variable {F : FTy → Type} [FloatOps F]

theorem place_apply (S : Fin 16 → Reg F S1x8x1024) (k : Fin 8) (u : Fin 16) (p : IVec S1x8x1024 32) (j : Fin 8) (l : Fin 1024) :
    place S k.val u p (ix3 (0 : Fin 1) j l) = if j = k then (S u).t (ix3 (0 : Fin 1) (0 : Fin 8) l) else p (ix3 (0 : Fin 1) j l) := by
  have hc : ∀ j k : Fin 8, (IntOp.cmpi .eq (BitVec.ofNat 32 (0 * 8 + j.val)) (BitVec.ofNat 32 k.val) = 1) ↔ j = k := by decide +kernel
  have hz : ∀ k : Fin 8, (0 : Fin 8).val = (k.val + 8 - (BitVec.ofNat 32 k.val).toNat % 8) % 8 := by decide +kernel
  show (if IntOp.cmpi .eq (BitVec.ofNat 32 (0 * 8 + j.val)) (BitVec.ofNat 32 k.val) = 1
    then dynamicRotate 1 (BitVec.ofNat 32 k.val) none (S u).t rotates_S1x8x1024_d1 (ix3 (0 : Fin 1) j l) else p (ix3 (0 : Fin 1) j l)) = _
  simp only [hc]
  split
  · rename_i h
    subst h
    exact rotate_apply _ j 0 (hz j) (S u).t
  · rfl

theorem pack_apply (S : Fin 16 → Reg F S1x8x1024) (u : Fin 8 → Fin 16) (b : BitVec 32) (j : Fin 8) (l : Fin 1024) :
    pack S u b (ix2 j l) = IntOp.addi ((S (u j)).t (ix3 (0 : Fin 1) (0 : Fin 8) l)) b := by
  unfold pack
  show IntOp.addi (shapeCast S8x1024 _ _ (ix2 j l)) b = _
  congr 1
  refine (shapeCast_apply _ _ (ix2 j l) (ix3 (0 : Fin 1) j l) ?_).trans ?_
  · rw [Shape.rowMajor_val_three, Shape.rowMajor_val_two]
    show (0 * 8 + j.val) * 1024 + l.val = j.val * 1024 + l.val
    omega
  refine (place_apply S 7 _ _ j l).trans ?_
  have h6 := place_apply S 6 (u 6)
  have h5 := place_apply S 5 (u 5)
  have h4 := place_apply S 4 (u 4)
  have h3 := place_apply S 3 (u 3)
  have h2 := place_apply S 2 (u 2)
  have h1 := place_apply S 1 (u 1)
  have h0 := place_apply S 0 (u 0)
  refine (congrArg (ite _ _) ((h6 _ j l).trans (congrArg (ite _ _) ((h5 _ j l).trans (congrArg (ite _ _) ((h4 _ j l).trans
    (congrArg (ite _ _) ((h3 _ j l).trans (congrArg (ite _ _) ((h2 _ j l).trans (congrArg (ite _ _) ((h1 _ j l).trans
      (congrArg (ite _ _) (h0 _ j l)))))))))))))).trans ?_
  match j with
  | 0 => rfl
  | 1 => rfl
  | 2 => rfl
  | 3 => rfl
  | 4 => rfl
  | 5 => rfl
  | 6 => rfl
  | 7 => rfl

theorem dst_apply (D : FVec F S16x16x8x1024 .f32) (b : BitVec 32) (u : Fin 16) (l : Fin 1024) :
    dst D b (ix2 u l) = IntOp.addi ((final D u).t (ix3 (0 : Fin 1) (0 : Fin 8) l)) b := by
  unfold dst k0_pay2025
  by_cases hu : u.val < 8
  · refine (concatenate_pair_apply_left (s₁ := S8x1024) (s₂ := S8x1024) (t := S16x1024) 0 _ _ _ (ix2 u l) rfl (ix2 (⟨u.val, hu⟩ : Fin 8) l) fun a => ?_).trans (pack_apply _ _ b _ l)
    match a with
    | ⟨0, _⟩ => rfl
    | ⟨1, _⟩ => rfl
  · have hlt := u.isLt
    refine (concatenate_pair_apply_right (s₁ := S8x1024) (s₂ := S8x1024) (t := S16x1024) 0 _ _ _ (ix2 u l) rfl rfl (ix2 (⟨u.val - 8, by omega⟩ : Fin 8) l) (fun a ha => ?_) ?_).trans
      ((pack_apply _ _ b _ l).trans ?_)
    · match a with
      | ⟨0, _⟩ => exact absurd rfl ha
      | ⟨1, _⟩ => rfl
    · show u.val - 8 + 8 = u.val
      omega
    · have e : (⟨8 + (u.val - 8), by omega⟩ : Fin 16) = u := Fin.ext (by show 8 + (u.val - 8) = u.val; omega)
      show IntOp.addi ((final D (⟨8 + (u.val - 8), _⟩ : Fin 16)).t _) b = _
      rw [e]

theorem blockOut_dst (i : grid0.Coords) (D : FVec F S16x16x8x1024 .f32) (l : Fin 1024) (u : Fin 16) :
    blockOut i D (ix4 (1 : Fin 2) (0 : Fin 1) l u)
      = IntOp.addi ((final D u).t (ix3 (0 : Fin 1) (0 : Fin 8) l)) (Scalar.muli (BitVec.ofNat 32 (i 0).val) 2048#32) := by
  refine (if_pos (rfl : (1 : ℕ) = 1)).trans ?_
  show k0_pay2 (dst D (Scalar.muli (BitVec.ofNat 32 (i 0).val) 2048#32)) (ix4 (0 : Fin 1) (0 : Fin 1) l u) = _
  unfold k0_pay2
  refine (shapeCast_apply _ _ _ (ix2 l u) ?_).trans ((ValueIdx.transpose_ix2_apply _ _ l u).trans (dst_apply D _ u l))
  rw [Shape.rowMajor_val_four, Shape.rowMajor_val_two]
  show l.val * 16 + u.val = ((0 * 1 + 0) * 1024 + l.val) * 16 + u.val
  omega

theorem blockOut_src (i : grid0.Coords) (D : FVec F S16x16x8x1024 .f32) (l : Fin 1024) (u : Fin 16) :
    blockOut i D (ix4 (0 : Fin 2) (0 : Fin 1) l u)
      = IntOp.addi (BitVec.ofNat 32 (0 * 1024 + l.val))
          (Scalar.addi (Scalar.muli (BitVec.ofNat 32 (i 0).val) 2048#32) (Scalar.muli (BitVec.ofNat 32 (i 1).val) 1024#32)) := by
  refine (if_neg (show ¬ (0 : ℕ) = 1 by decide)).trans ?_
  show k0_pay1 (k0_pay2026 (BitVec.ofNat 32 (i 1).val) (Scalar.muli (BitVec.ofNat 32 (i 0).val) 2048#32)) (ix4 (0 : Fin 1) (0 : Fin 1) l u) = _
  unfold k0_pay1 k0_pay2026
  refine (shapeCast_apply _ _ _ (ix2 l u) ?_).trans rfl
  rw [Shape.rowMajor_val_four, Shape.rowMajor_val_two]
  show l.val * 16 + u.val = ((0 * 1 + 0) * 1024 + l.val) * 16 + u.val
  omega

end Pack

/-! ## The distances -/

theorem two_word : Ideal.ofBits .f32 0x40000000#32 = 2 := by
  have h : Ideal.ofBits .f32 0x40000000#32 = ((2 : ℝ) : EReal) := by
    simp [Ideal.ofBits, Ideal.ieee, -EReal.coe_mul, -EReal.coe_neg]
    norm_num
  exact h

theorem neg_two_word : Ideal.ofBits .f32 0xC0000000#32 = -2 := by
  have h : Ideal.ofBits .f32 0xC0000000#32 = ((-2 : ℝ) : EReal) := by
    simp [Ideal.ofBits, Ideal.ieee, -EReal.coe_mul, -EReal.coe_neg]
    norm_num
  exact h

/-- A sample's rows as a matrix. -/
def mat (h : Vec Ideal S8x2048x128 .f32) (b : Fin 8) : Fin 2048 → Fin 128 → EReal := fun n k => h (ix3 b n k)

theorem pay3_apply (x1 : Vec Ideal S1x2048x128 .f32) (n : Fin 2048) (k : Fin 128) :
    k0_pay3 x1 (ix2 n k) = x1 (ix3 (0 : Fin 1) n k) := by
  unfold k0_pay3
  refine shapeCast_apply _ _ _ _ ?_
  rw [Shape.rowMajor_val_three, Shape.rowMajor_val_two]
  show (0 * 2048 + n.val) * 128 + k.val = n.val * 128 + k.val
  omega

theorem pay4_apply (x1 : Vec Ideal S1x2048x128 .f32) (n : Fin 2048) (l : Fin 1024) :
    k0_pay4 x1 (ix2 n l) = ∑ k : Fin 128, x1 (ix3 (0 : Fin 1) n k) * x1 (ix3 (0 : Fin 1) n k) := by
  unfold k0_pay4
  dsimp only
  refine (shapeCast_apply _ _ (ix2 n l) (ix2 n l) rfl).trans ?_
  refine (broadcastTo_apply _ _ (ix2 n l) (ix2 n (0 : Fin 1)) fun a => ?_).trans ?_
  · match a with
    | ⟨0, _⟩ => rfl
    | ⟨1, _⟩ => rfl
  refine (shapeCast_apply _ _ (ix2 n (0 : Fin 1)) (ix2 n (0 : Fin 1)) rfl).trans ?_
  refine (shapeCast_apply _ _ (ix2 n (0 : Fin 1)) (ix1 n) ?_).trans ?_
  · rw [Shape.rowMajor_val_one, Shape.rowMajor_val_two]
    show n.val = n.val * 1 + 0
    omega
  refine (Ideal.reduceAdd_r2_a1 _ _ _).trans (Finset.sum_congr rfl fun k _ => ?_)
  show k0_pay3 x1 (ix2 n k) * k0_pay3 x1 (ix2 n k) = _
  rw [pay3_apply]

/-- The key of a row in a lane is the key of the kernel. -/
theorem key_distances (h : Vec Ideal S8x2048x128 .f32) (b : Fin 8) (r : Fin 2) (l : Fin 1024) (n i : Fin 2048)
    (hi : i.val = r.val * 1024 + l.val) : key (distances (sample h b) (rows h b r)) l n = key2 (mat h b) i n := by
  unfold key distances k0_pay5
  have hn := n.isLt
  refine (shapeCast_apply _ _ _ (ix2 n l) ?_).trans ?_
  · rw [Shape.rowMajor_val_four, Shape.rowMajor_val_two]
    show n.val * 1024 + l.val = ((n.val / 128 * 16 + n.val / 8 % 16) * 8 + n.val % 8) * 1024 + l.val
    omega
  show k0_pay4 (sample h b) (ix2 n l) + FloatOps.matmul (DotDims.transposedRhs 2048 128 1024) none (k0_pay3 (sample h b)) _ _ (ix2 n l) = _
  rw [pay4_apply]
  unfold key2 sqNorm
  refine congrArg₂ (· + ·) rfl ?_
  refine (Ideal.matmul_transposedRhs_apply none (k0_pay3 (sample h b)) _ _ n l).trans ?_
  show Ideal.ofBits .f32 0x00000000#32 + _ = _
  rw [Ideal.ofBits_zero_f32, zero_add]
  refine Finset.sum_congr rfl fun k _ => ?_
  refine congrArg₂ (· * ·) (pay3_apply (sample h b) n k) ?_
  show Ideal.ofBits .f32 0xC0000000#32 * shapeCast S1024x128 (rows h b r) shapeCasts_S1x1024x128_S1024x128 (ix2 l k) = _
  rw [neg_two_word, shapeCast_apply (rows h b r) shapeCasts_S1x1024x128_S1024x128 (ix2 l k) (ix3 (0 : Fin 1) l k) (by
    rw [Shape.rowMajor_val_three, Shape.rowMajor_val_two]
    show (0 * 1024 + l.val) * 128 + k.val = l.val * 128 + k.val
    omega)]
  refine congrArg (-2 * ·) (congrArg h ?_)
  refine congrArg (fun x : Fin 2048 => ix3 b x k) (Fin.ext hi.symm)

end Cert.KernelIdeal.Knn

end
-- ==== Proof.Knn.Ref.lean ====
/- The reference's arrays read at an index over the extended reals, and what its distinct distances give. -/
module

public import proofs.«01_k».proof.Proof.Gen.ReferenceIdeal.Run
public import proofs.«01_k».proof.Pre_no_two_equally_far
public import proofs.«01_k».proof.Proof.Knn.Read
public import Idealize.ShloMosaic.Lib.StackMember
public import Idealize.ShloMosaic.Lib.SortFacts

@[expose] public section

noncomputable section

namespace Cert.ReferenceIdeal.Knn

open Idealize.ShloMosaic Cert.ReferenceIdeal Cert.ReferenceIdeal.Gen Cert.KernelIdeal.Knn

/-- The squared norms of all rows, as a column. -/
def norms (H : FVec Ideal S8x2048x128 .f32) : FVec Ideal S8x2048x1 .f32 :=
  broadcastInDim S8x2048x1 ![0, 1] Facts₀.bcast_S8x2048_S8x2048x1_0_1
    (Host.reduceAdd (mulf H H) (constant S_ .f32 0x00000000#32) Facts₀.reducesTo_S8x2048x128_S8x2048_d2 Facts₀.h_S_)

/-- All distances, as the reference computes them. -/
def dists (H : FVec Ideal S8x2048x128 .f32) : FVec Ideal S8x2048x2048 .f32 :=
  subf (addf (broadcastInDim S8x2048x2048 ![0, 1, 2] Facts₀.bcast_S8x2048x1_S8x2048x2048_0_1_2 (norms H))
      (broadcastInDim S8x2048x2048 ![0, 1, 2] Facts₀.bcast_S8x1x2048_S8x2048x2048_0_1_2
        (transpose S8x1x2048 [0, 2, 1] (norms H) Facts₀.transposes_S8x2048x1_S8x1x2048_0_2_1)))
    (mulf (broadcastInDim S8x2048x2048 ![] Facts₀.bcast_S_S8x2048x2048 (constant S_ .f32 0x40000000#32))
      (Host.dotGeneral dot_S8x2048x128_S8x128x2048_S8x2048x2048_2_1_1_2_0_0 none H
        (transpose S8x128x2048 [0, 2, 1] H Facts₀.transposes_S8x2048x128_S8x128x2048_0_2_1)))

theorem norms_apply (H : FVec Ideal S8x2048x128 .f32) (b : Fin 8) (n : Fin 2048) :
    norms H (ix3 b n (0 : Fin 1)) = sqNorm (mat H b) n := by
  unfold norms
  refine (broadcastInDim_apply _ _ _ (ix3 b n (0 : Fin 1)) (ix2 b n) fun a => ?_).trans ?_
  · match a with
    | ⟨0, _⟩ => rfl
    | ⟨1, _⟩ => rfl
  refine (Ideal.hostReduceAdd_r3_a2 _ _ _ _).trans ?_
  show Ideal.ofBits .f32 0x00000000#32 + _ = _
  rw [Ideal.ofBits_zero_f32, zero_add]
  rfl

theorem dists_apply (H : FVec Ideal S8x2048x128 .f32) (b : Fin 8) (i j : Fin 2048) :
    dists H (ix3 b i j) = dist2 (mat H b) i j := by
  unfold dists dist2
  refine congrArg₂ (· - ·) (congrArg₂ (· + ·) ?_ ?_) (congrArg₂ (· * ·) two_word ?_)
  · refine (broadcastInDim_apply _ _ _ (ix3 b i j) (ix3 b i (0 : Fin 1)) fun a => ?_).trans (norms_apply H b i)
    match a with
    | ⟨0, _⟩ => rfl
    | ⟨1, _⟩ => rfl
    | ⟨2, _⟩ => rfl
  · refine (broadcastInDim_apply _ _ _ (ix3 b i j) (ix3 b (0 : Fin 1) j) fun a => ?_).trans
      ((ValueIdx.transpose_ix3_021_apply _ _ b (0 : Fin 1) j).trans (norms_apply H b j))
    match a with
    | ⟨0, _⟩ => rfl
    | ⟨1, _⟩ => rfl
    | ⟨2, _⟩ => rfl
  · refine (StackMember.dotGeneral_stack_apply (G := 8) (m := 2048) (k := 128) (n := 2048) _ none H _ b i j).trans ?_
    exact Finset.sum_congr rfl fun k _ => congrArg (mat H b i k * ·) (ValueIdx.transpose_ix3_021_apply H _ b k j)

theorem along_two (b : Fin 8) (i n k : Fin 2048) :
    Shape.Idx.along (s := S8x2048x2048) (ix3 b i n) 2 k = ix3 b i k := by
  funext a
  match a with
  | ⟨0, _⟩ => rfl
  | ⟨1, _⟩ => rfl
  | ⟨2, _⟩ => rfl

/-- A sort of pairs along the last axis, its second components read at an index. -/
theorem sort2_apply {α β : Type} (cmp : α × β → α × β → BitVec 1) (x : S8x2048x2048.Idx → α) (y : S8x2048x2048.Idx → β)
    (b : Fin 8) (i n : Fin 2048) :
    (Host.sort2 S8x2048x2048 2 cmp x y).2 (ix3 b i n)
      = y (ix3 b i (sortedFrom (fun k k' => cmp (x (ix3 b i k), y (ix3 b i k)) (x (ix3 b i k'), y (ix3 b i k')) == 1#1) n)) := by
  unfold Host.sort2
  rw [dif_pos (by decide)]
  dsimp only
  refine (congrArg y (along_two b i n _)).trans (congrArg (fun f : Fin 2048 → Fin 2048 => y (ix3 b i (f n))) ?_)
  refine sortedFrom_congr _ _ fun a a' _ => ?_
  refine congrArg (· == 1#1) (congrArg₂ cmp (Prod.ext ?_ ?_) (Prod.ext ?_ ?_))
  · exact congrArg x (along_two b i n a)
  · exact congrArg y (along_two b i n a)
  · exact congrArg x (along_two b i n a')
  · exact congrArg y (along_two b i n a')

/-- A smaller distance is a greater opposite. -/
theorem neg_before (x y : EReal) : (FloatOps.cmpfTotal (F := Ideal) (φ := .f32) .gt (-x) (-y) == 1#1) = decide (x < y) := by
  show (BitVec.ofBool (decide (-y < -x)) == 1#1) = _
  by_cases h : x < y
  · rw [decide_eq_true h, decide_eq_true (EReal.neg_lt_neg_iff.mpr h)]
    rfl
  · rw [decide_eq_false h, decide_eq_false fun hh => h (EReal.neg_lt_neg_iff.mp hh)]
    rfl

/-- The u-th place of the reference's selection is the row that the sort by distance puts there. -/
theorem topK_apply (H : FVec Ideal S8x2048x128 .f32) (b : Fin 8) (i : Fin 2048) (u : Fin 16) :
    (Host.topK S8x2048x16 2 (FloatOps.cmpfTotal .gt) (Host.negf (dists H)) sliceFits_S8x2048x2048_S8x2048x16).2 (ix3 b i u)
      = BitVec.ofNat 32 (sortedFrom (fun a a' => decide (dist2 (mat H b) i a < dist2 (mat H b) i a'))
          (⟨u.val, by have := u.isLt; omega⟩ : Fin 2048)).val := by
  unfold Host.topK
  dsimp only
  refine (extractStridedSlice_apply _ _ _ (ix3 b i u) (ix3 b i (⟨u.val, by have := u.isLt; omega⟩ : Fin 2048)) fun a => ?_).trans ?_
  · match a with
    | ⟨0, _⟩ => exact (Nat.zero_add _).symm
    | ⟨1, _⟩ => exact (Nat.zero_add _).symm
    | ⟨2, _⟩ => exact (Nat.zero_add _).symm
  refine (sort2_apply _ _ _ b i _).trans ?_
  have hiota : ∀ k : Fin 2048, (fun j : S8x2048x2048.Idx => if hd : 2 < S8x2048x2048.rank then iotaInDim S8x2048x2048 32 ⟨2, hd⟩ j else 0#32)
      (ix3 b i k) = BitVec.ofNat 32 k.val := by
    intro k
    dsimp only
    rw [dif_pos (by decide)]
    rfl
  refine (hiota _).trans ?_
  refine congrArg (fun f : Fin 2048 → Fin 2048 => BitVec.ofNat 32 (f (⟨u.val, by have := u.isLt; omega⟩ : Fin 2048)).val)
    (sortedFrom_congr _ _ fun a a' _ => ?_)
  refine Eq.trans ?_ (neg_before _ _)
  exact congrArg (· == 1#1) (congrArg₂ (FloatOps.cmpfTotal (F := Ideal) (φ := .f32) .gt)
    (congrArg (fun x : EReal => -x) (dists_apply H b i a)) (congrArg (fun x : EReal => -x) (dists_apply H b i a')))

/-! ## The precondition -/

instance preFacts : Cert.Pre_no_two_equally_far.Facts where
  reducesTo_S8x2048x128_S8x2048_d2 := Facts₀.reducesTo_S8x2048x128_S8x2048_d2
  h_S_ := Facts₀.h_S_
  bcast_S8x2048_S8x2048x1_0_1 := Facts₀.bcast_S8x2048_S8x2048x1_0_1
  transposes_S8x2048x1_S8x1x2048_0_2_1 := Facts₀.transposes_S8x2048x1_S8x1x2048_0_2_1
  bcast_S8x2048x1_S8x2048x2048_0_1_2 := Facts₀.bcast_S8x2048x1_S8x2048x2048_0_1_2
  bcast_S8x1x2048_S8x2048x2048_0_1_2 := Facts₀.bcast_S8x1x2048_S8x2048x2048_0_1_2
  transposes_S8x2048x128_S8x128x2048_0_2_1 := Facts₀.transposes_S8x2048x128_S8x128x2048_0_2_1
  bcast_S_S8x2048x2048 := Facts₀.bcast_S_S8x2048x2048
  slices_S8x2048x2048_S8x2048x2047_0_0_0 := by decide
  slices_S8x2048x2048_S8x2048x2047_0_0_1 := by decide
  dot_S8x2048x128_S8x128x2048_S8x2048x2048_2_1_1_2_0_0_wf := Facts₀.dot_S8x2048x128_S8x128x2048_S8x2048x2048_2_1_1_2_0_0_wf

theorem pre_fn (H : FVec Ideal S8x2048x128 .f32) :
    Cert.Pre_no_two_equally_far.fn H
      = cmpf .olt
          (extractStridedSlice Cert.Pre_no_two_equally_far.S8x2048x2047 ![0, 0, 0]
            (Host.sort S8x2048x2048 2 Cert.Pre_no_two_equally_far.comparator_f32_d2 (dists H))
            Cert.Pre_no_two_equally_far.Facts.slices_S8x2048x2048_S8x2048x2047_0_0_0)
          (extractStridedSlice Cert.Pre_no_two_equally_far.S8x2048x2047 ![0, 0, 1]
            (Host.sort S8x2048x2048 2 Cert.Pre_no_two_equally_far.comparator_f32_d2 (dists H))
            Cert.Pre_no_two_equally_far.Facts.slices_S8x2048x2048_S8x2048x2047_0_0_1) := rfl

/-- A sort of the distances reads each row's distances through a permutation of the row. -/
theorem sort_apply (H : FVec Ideal S8x2048x128 .f32) (cmp : EReal → EReal → BitVec 1) (b : Fin 8) (i : Fin 2048) :
    ∃ p : Fin 2048 → Fin 2048, Function.Surjective p
      ∧ ∀ n, Host.sort S8x2048x2048 2 cmp (dists H) (ix3 b i n) = dist2 (mat H b) i (p n) := by
  refine ⟨sortedFrom (fun k k' => cmp (dists H (ix3 b i k)) (dists H (ix3 b i k')) == 1#1), sortedFrom_surjective _, fun n => ?_⟩
  unfold Host.sort
  rw [dif_pos (by decide)]
  dsimp only
  refine (congrArg (dists H) (along_two b i n _)).trans ((dists_apply H b i _).trans (congrArg (dist2 (mat H b) i) ?_))
  refine congrArg (fun f : Fin 2048 → Fin 2048 => f n) (sortedFrom_congr _ _ fun a a' _ => ?_)
  exact congrArg (· == 1#1) (congrArg₂ cmp (congrArg (dists H) (along_two b i n a)) (congrArg (dists H) (along_two b i n a')))

/-- Under the precondition the distances of each point's row are pairwise different. -/
theorem dist2_injective {H : FVec Ideal S8x2048x128 .f32} (h : Cert.Pre_no_two_equally_far.fn H = fun _ => 1#1) (b : Fin 8)
    (i : Fin 2048) : Function.Injective (dist2 (mat H b) i) := by
  obtain ⟨p, hp, hs⟩ := sort_apply H (Cert.Pre_no_two_equally_far.comparator_f32_d2 (F := Ideal)) b i
  have mono : StrictMono fun n => dist2 (mat H b) i (p n) := by
    refine Fin.strictMono_iff_lt_succ.mpr fun n => ?_
    have e := congrFun ((pre_fn H).symm.trans h) (ix3 b i n)
    have e0 := extractStridedSlice_apply (t := Cert.Pre_no_two_equally_far.S8x2048x2047) ![0, 0, 0]
      (Host.sort S8x2048x2048 2 Cert.Pre_no_two_equally_far.comparator_f32_d2 (dists H))
      Cert.Pre_no_two_equally_far.Facts.slices_S8x2048x2048_S8x2048x2047_0_0_0 (ix3 b i n) (ix3 b i n.castSucc) (fun a => by
        match a with
        | ⟨0, _⟩ => exact (Nat.zero_add _).symm
        | ⟨1, _⟩ => exact (Nat.zero_add _).symm
        | ⟨2, _⟩ => exact (Nat.zero_add _).symm)
    have e1 := extractStridedSlice_apply (t := Cert.Pre_no_two_equally_far.S8x2048x2047) ![0, 0, 1]
      (Host.sort S8x2048x2048 2 Cert.Pre_no_two_equally_far.comparator_f32_d2 (dists H))
      Cert.Pre_no_two_equally_far.Facts.slices_S8x2048x2048_S8x2048x2047_0_0_1 (ix3 b i n) (ix3 b i n.succ) (fun a => by
        match a with
        | ⟨0, _⟩ => exact (Nat.zero_add _).symm
        | ⟨1, _⟩ => exact (Nat.zero_add _).symm
        | ⟨2, _⟩ => exact (Nat.add_comm _ _))
    have e2 : BitVec.ofBool (decide (dist2 (mat H b) i (p n.castSucc) < dist2 (mat H b) i (p n.succ))) = 1#1 := by
      rw [← hs, ← hs, ← e0, ← e1]
      exact e
    by_contra hn
    rw [decide_eq_false hn] at e2
    exact absurd e2 (by decide)
  intro a a' haa
  obtain ⟨k, rfl⟩ := hp a
  obtain ⟨k', rfl⟩ := hp a'
  exact congrArg p (mono.injective haa)

end Cert.ReferenceIdeal.Knn

end
-- ==== Proof.Knn.Tie.lean ====
/- The reference's result and the kernel's, equal element by element when no two rows are equally far from a third. -/
module

public import proofs.«01_k».proof.Proof.Knn.Ref

@[expose] public section

noncomputable section

namespace Cert.ReferenceIdeal.Knn

open Idealize.ShloMosaic Cert.ReferenceIdeal Cert.ReferenceIdeal.Gen Cert.KernelIdeal.Knn

/-- The offset of every sample's rows, spread over the result. -/
def offsets : IVec S8x2048x16 32 :=
  broadcastInDim S8x2048x16 ![0, 1, 2] Facts₀.bcast_S8x1x1_S8x2048x16_0_1_2
    (broadcastInDim S8x1x1 ![0] Facts₀.bcast_S8_S8x1x1_0
      (muli (iotaInDim S8 32 0) (broadcastInDim S8 ![] Facts₀.bcast_S_S8 (constantI S_ 32 2048#32))))

/-- The number of every row within its sample, spread over the result. -/
def rowNumbers : IVec S8x2048x16 32 :=
  addi (broadcastInDim S8x2048x16 ![] Facts₀.bcast_S_S8x2048x16 (constantI S_ 32 0#32))
    (broadcastInDim S8x2048x16 ![0, 1, 2] Facts₀.bcast_S1x2048x1_S8x2048x16_0_1_2
      (broadcastInDim S1x2048x1 ![1] Facts₀.bcast_S2048_S1x2048x1_1 (iotaInDim S2048 32 0)))

/-- The reference's result: sources in front, neighbours behind. -/
def result (H : FVec Ideal S8x2048x128 .f32) : IVec S2x8x2048x16 32 :=
  concatenate S2x8x2048x16 0
    [⟨S1x8x2048x16, broadcastInDim S1x8x2048x16 ![1, 2, 3] Facts₀.bcast_S8x2048x16_S1x8x2048x16_1_2_3 (addi rowNumbers offsets)⟩,
      ⟨S1x8x2048x16, broadcastInDim S1x8x2048x16 ![1, 2, 3] Facts₀.bcast_S8x2048x16_S1x8x2048x16_1_2_3
        (addi (Host.topK S8x2048x16 2 (FloatOps.cmpfTotal .gt) (Host.negf (dists H)) sliceFits_S8x2048x2048_S8x2048x16).2 offsets)⟩]
    Facts₀.concatenates_S1x8x2048x16_S1x8x2048x16_S2x8x2048x16_d0

theorem offsets_apply (b : Fin 8) (n : Fin 2048) (u : Fin 16) :
    offsets (ix3 b n u) = IntOp.muli (BitVec.ofNat 32 b.val) 2048#32 := by
  unfold offsets
  refine (broadcastInDim_apply _ _ _ (ix3 b n u) (ix3 b (0 : Fin 1) (0 : Fin 1)) fun a => ?_).trans ?_
  · match a with
    | ⟨0, _⟩ => rfl
    | ⟨1, _⟩ => rfl
    | ⟨2, _⟩ => rfl
  refine (broadcastInDim_apply _ _ _ (ix3 b (0 : Fin 1) (0 : Fin 1)) (ix1 b) fun a => ?_).trans rfl
  match a with
  | ⟨0, _⟩ => rfl

theorem rowNumbers_apply (b : Fin 8) (n : Fin 2048) (u : Fin 16) :
    rowNumbers (ix3 b n u) = IntOp.addi 0#32 (BitVec.ofNat 32 n.val) := by
  unfold rowNumbers
  refine congrArg (IntOp.addi 0#32) ?_
  refine (broadcastInDim_apply _ _ _ (ix3 b n u) (ix3 (0 : Fin 1) n (0 : Fin 1)) fun a => ?_).trans ?_
  · match a with
    | ⟨0, _⟩ => rfl
    | ⟨1, _⟩ => rfl
    | ⟨2, _⟩ => rfl
  refine (broadcastInDim_apply _ _ _ (ix3 (0 : Fin 1) n (0 : Fin 1)) (ix1 n) fun a => ?_).trans rfl
  match a with
  | ⟨0, _⟩ => rfl

theorem stacked_apply (x : IVec S8x2048x16 32) (b : Fin 8) (n : Fin 2048) (u : Fin 16) :
    broadcastInDim S1x8x2048x16 ![1, 2, 3] Facts₀.bcast_S8x2048x16_S1x8x2048x16_1_2_3 x (ix4 (0 : Fin 1) b n u) = x (ix3 b n u) := by
  refine broadcastInDim_apply _ _ _ (ix4 (0 : Fin 1) b n u) (ix3 b n u) fun a => ?_
  match a with
  | ⟨0, _⟩ => rfl
  | ⟨1, _⟩ => rfl
  | ⟨2, _⟩ => rfl

theorem result_src (H : FVec Ideal S8x2048x128 .f32) (b : Fin 8) (n : Fin 2048) (u : Fin 16) :
    result H (ix4 (0 : Fin 2) b n u)
      = IntOp.addi (IntOp.addi 0#32 (BitVec.ofNat 32 n.val)) (IntOp.muli (BitVec.ofNat 32 b.val) 2048#32) := by
  unfold result
  refine (concatenate_pair_apply_left (s₁ := S1x8x2048x16) (s₂ := S1x8x2048x16) (t := S2x8x2048x16) 0 _ _ _ (ix4 (0 : Fin 2) b n u) rfl
    (ix4 (0 : Fin 1) b n u) fun a => ?_).trans ((stacked_apply _ b n u).trans
      (congrArg₂ IntOp.addi (rowNumbers_apply b n u) (offsets_apply b n u)))
  match a with
  | ⟨0, _⟩ => rfl
  | ⟨1, _⟩ => rfl
  | ⟨2, _⟩ => rfl
  | ⟨3, _⟩ => rfl

theorem result_dst (H : FVec Ideal S8x2048x128 .f32) (b : Fin 8) (n : Fin 2048) (u : Fin 16) :
    result H (ix4 (1 : Fin 2) b n u)
      = IntOp.addi (BitVec.ofNat 32 (sortedFrom (fun a a' => decide (dist2 (mat H b) n a < dist2 (mat H b) n a'))
          (⟨u.val, by have := u.isLt; omega⟩ : Fin 2048)).val) (IntOp.muli (BitVec.ofNat 32 b.val) 2048#32) := by
  unfold result
  refine (concatenate_pair_apply_right (s₁ := S1x8x2048x16) (s₂ := S1x8x2048x16) (t := S2x8x2048x16) 0 _ _ _ (ix4 (1 : Fin 2) b n u) rfl rfl
    (ix4 (0 : Fin 1) b n u) (fun a ha => ?_) rfl).trans ((stacked_apply _ b n u).trans
      (congrArg₂ IntOp.addi (topK_apply H b n u) (offsets_apply b n u)))
  match a with
  | ⟨0, _⟩ => exact absurd rfl ha
  | ⟨1, _⟩ => rfl
  | ⟨2, _⟩ => rfl
  | ⟨3, _⟩ => rfl

/-- The two ways of numbering a row across all samples give one word. -/
theorem source_word (b r l n : ℕ) (hn : n = r * 1024 + l) :
    IntOp.addi (IntOp.addi 0#32 (BitVec.ofNat 32 n)) (IntOp.muli (BitVec.ofNat 32 b) 2048#32)
      = IntOp.addi (BitVec.ofNat 32 (0 * 1024 + l))
          (Scalar.addi (Scalar.muli (BitVec.ofNat 32 b) 2048#32) (Scalar.muli (BitVec.ofNat 32 r) 1024#32)) := by
  subst hn
  show 0#32 + BitVec.ofNat 32 (r * 1024 + l) + BitVec.ofNat 32 b * 2048#32
    = BitVec.ofNat 32 (0 * 1024 + l) + (BitVec.ofNat 32 b * 2048#32 + BitVec.ofNat 32 r * 1024#32)
  rw [BitVec.ofNat_add, BitVec.ofNat_mul, Nat.zero_mul, Nat.zero_add, BitVec.zero_add, BitVec.add_comm (BitVec.ofNat 32 r * _),
    BitVec.add_assoc, BitVec.add_comm (BitVec.ofNat 32 r * _)]

/-- The kernel's selection for a point is the reference's. -/
theorem neighbour_word {H : FVec Ideal S8x2048x128 .f32} (h : Cert.Pre_no_two_equally_far.fn H = fun _ => 1#1) (b : Fin 8) (r : Fin 2)
    (l : Fin 1024) (n : Fin 2048) (hn : n.val = r.val * 1024 + l.val) (u : Fin 16) :
    (final (distances (F := Ideal) (sample (F := Ideal) H b) (rows (F := Ideal) H b r)) u).t (ix3 (0 : Fin 1) (0 : Fin 8) l)
      = BitVec.ofNat 32 (sortedFrom (fun a a' => decide (dist2 (mat H b) n a < dist2 (mat H b) n a'))
          (⟨u.val, by have := u.isLt; omega⟩ : Fin 2048)).val := by
  have hk : key (distances (F := Ideal) (sample (F := Ideal) H b) (rows (F := Ideal) H b r)) l = key2 (mat H b) n := funext fun a => key_distances H b r l a n hn
  have hi := dist2_injective h b
  refine (final_tag (by rw [hk]; exact key2_injective hi n) u).trans ?_
  refine congrArg (fun f : Fin 2048 → Fin 2048 => BitVec.ofNat 32 (f (⟨u.val, by have := u.isLt; omega⟩ : Fin 2048)).val)
    (sortedFrom_congr _ _ fun a a' _ => ?_)
  rw [hk]
  exact decide_eq_decide.mpr (key2_lt_iff hi n a a')

theorem result_eq (m : (ℓ : Loc Cert.KernelIdeal.nD Cert.KernelIdeal.τ Cert.KernelIdeal.sig) → Buf (Elt Ideal) ℓ)
    (c : Dev Cert.KernelIdeal.nD)
    (h : Cert.Pre_no_two_equally_far.fn (F := Ideal)
      (m ((c.tc : Thread Cert.KernelIdeal.nD Cert.KernelIdeal.τ).loc Cert.KernelIdeal.main_arg0)) = fun _ => 1#1) :
    result (m ((c.tc : Thread Cert.KernelIdeal.nD Cert.KernelIdeal.τ).loc Cert.KernelIdeal.main_arg0)) = Cert.KernelIdeal.Value.G2 m c := by
  have main : ∀ (a : Fin 2) (b : Fin 8) (n : Fin 2048) (u : Fin 16),
      result (m ((c.tc : Thread Cert.KernelIdeal.nD Cert.KernelIdeal.τ).loc Cert.KernelIdeal.main_arg0)) (ix4 a b n u)
        = Cert.KernelIdeal.Value.G2 m c (ix4 a b n u) := by
    intro a b n u
    have hb := b.isLt; have hnl := n.isLt
    let r : Fin 2 := ⟨n.val / 1024, by omega⟩
    let l : Fin 1024 := ⟨n.val % 1024, by omega⟩
    have hn : n.val = r.val * 1024 + l.val := by
      show n.val = n.val / 1024 * 1024 + n.val % 1024
      omega
    have hr := r.isLt
    have hN := Cert.KernelIdeal.Gen.N_0
    let t : Fin Cert.KernelIdeal.cfg0.N := ⟨2 * b.val + r.val, by show 2 * b.val + r.val < Cert.KernelIdeal.grid0.N; omega⟩
    have c0 : (Cert.KernelIdeal.grid0.coords t 0).val = b.val :=
      (Pipeline.Grid.coords_val (G := Cert.KernelIdeal.grid0) t 0 (S := 2) (B := 8) (by decide) rfl).trans (by show (2 * b.val + r.val) / 2 % 8 = b.val; omega)
    have c1 : (Cert.KernelIdeal.grid0.coords t 1).val = r.val :=
      (Pipeline.Grid.coords_val (G := Cert.KernelIdeal.grid0) t 1 (S := 1) (B := 2) (by decide) rfl).trans (by show (2 * b.val + r.val) / 1 % 2 = r.val; omega)
    refine Eq.trans ?_ (G2_apply m c a b n u r l hn t rfl).symm
    match a with
    | 0 =>
      refine (result_src _ b n u).trans (Eq.trans ?_ (blockOut_src _ _ l u).symm)
      rw [c0, c1]
      exact source_word b.val r.val l.val n.val hn
    | 1 =>
      refine (result_dst _ b n u).trans (Eq.trans ?_ (blockOut_dst _ _ l u).symm)
      rw [c0]
      exact congrArg₂ IntOp.addi (neighbour_word h b r l n hn u).symm rfl
  funext y
  have hy : y = ix4 (y 0 : Fin 2) (y 1 : Fin 8) (y 2 : Fin 2048) (y 3 : Fin 16) := by
    funext x
    match x with
    | ⟨0, _⟩ => rfl
    | ⟨1, _⟩ => rfl
    | ⟨2, _⟩ => rfl
    | ⟨3, _⟩ => rfl
  rw [hy]
  exact main _ _ _ _

end Cert.ReferenceIdeal.Knn

end
-- ==== Proof.lean ====
module

public import proofs.«01_k».proof.Proof.Gen.KernelIdeal.Value
public import proofs.«01_k».proof.Proof.Gen.ReferenceIdeal.Run
public import proofs.«01_k».proof.Defs
public import proofs.«01_k».proof.Proof.Gen.Kernel.Frame
public import proofs.«01_k».proof.Proof.Knn.Tie
public import Idealize.ShloMosaic.Adequacy
public import Idealize.ShloMosaic.Init
public import Idealize.ShloMosaic.Lib.Quiescent

@[expose] public section

noncomputable section

namespace Cert.Proof

open Idealize.ShloMosaic Idealize.SL.Sem

theorem frame_Kernel : quiescent_Kernel := fun m ρ _ => Cert.Kernel.Gen.frame m ρ

theorem frame_KernelIdeal : quiescent_KernelIdeal := fun m ρ _ => Cert.KernelIdeal.Gen.frame m ρ

theorem frame_KernelIdeal_pre : quiescent_KernelIdeal_pre_no_two_equally_far := fun m ρ _ => Cert.KernelIdeal.Gen.frame m ρ

theorem frame_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_ReferenceIdeal_pre : quiescent_ReferenceIdeal_pre_no_two_equally_far := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem equal_results : algebraic_KernelIdeal_ReferenceIdeal_pre_no_two_equally_far := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  have he := Cert.ReferenceIdeal.Knn.result_eq m c (hpre c)
  rw [← hagree c] at he
  exact (h c).1.trans he

theorem claim : Cert.Claim :=
  ⟨Cert.Kernel.Gen.facts, Cert.KernelIdeal.Gen.facts, Cert.ReferenceIdeal.Gen.facts, Cert.ReferenceIdeal.Knn.preFacts,
    frame_Kernel, frame_KernelIdeal, frame_KernelIdeal_pre, frame_ReferenceIdeal, frame_ReferenceIdeal_pre, trivial, equal_results⟩

end Cert.Proof

end
